-- ==== Defs.lean ====
def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojIdeal_norm_weights_finite [hPre_norm_weights_finite : Cert.Pre_norm_weights_finite.Facts] (m : (ℓ : Loc Cert.OprojIdeal.nD Cert.OprojIdeal.τ Cert.OprojIdeal.sig) → Buf (Elt Ideal) ℓ) : Prop :=
  ∀ c : Dev Cert.OprojIdeal.nD,
    (Cert.Pre_norm_weights_finite.fn (F := Ideal) (m ((c.tc : Thread Cert.OprojIdeal.nD Cert.OprojIdeal.τ).loc Cert.OprojIdeal.main_arg0)) (m ((c.tc : Thread Cert.OprojIdeal.nD Cert.OprojIdeal.τ).loc Cert.OprojIdeal.main_arg1)) (m ((c.tc : Thread Cert.OprojIdeal.nD Cert.OprojIdeal.τ).loc Cert.OprojIdeal.main_arg2)) (m ((c.tc : Thread Cert.OprojIdeal.nD Cert.OprojIdeal.τ).loc Cert.OprojIdeal.main_arg3)) (m ((c.tc : Thread Cert.OprojIdeal.nD Cert.OprojIdeal.τ).loc Cert.OprojIdeal.main_arg4)) (m ((c.tc : Thread Cert.OprojIdeal.nD Cert.OprojIdeal.τ).loc Cert.OprojIdeal.main_arg5))) = (fun _ => 1#1)

def Pre_HMidIdeal (m : (ℓ : Loc Cert.HMidIdeal.nD Cert.HMidIdeal.τ Cert.HMidIdeal.sig) → Buf (Elt Ideal) ℓ) : Prop :=
  True

def Pre_HMidIdeal_norm_weights_finite [hPre_norm_weights_finite : Cert.Pre_norm_weights_finite.Facts] (m : (ℓ : Loc Cert.HMidIdeal.nD Cert.HMidIdeal.τ Cert.HMidIdeal.sig) → Buf (Elt Ideal) ℓ) : Prop :=
  ∀ c : Dev Cert.HMidIdeal.nD,
    (Cert.Pre_norm_weights_finite.fn (F := Ideal) (m ((c.tc : Thread Cert.HMidIdeal.nD Cert.HMidIdeal.τ).loc Cert.HMidIdeal.main_arg0)) (m ((c.tc : Thread Cert.HMidIdeal.nD Cert.HMidIdeal.τ).loc Cert.HMidIdeal.main_arg1)) (m ((c.tc : Thread Cert.HMidIdeal.nD Cert.HMidIdeal.τ).loc Cert.HMidIdeal.main_arg2)) (m ((c.tc : Thread Cert.HMidIdeal.nD Cert.HMidIdeal.τ).loc Cert.HMidIdeal.main_arg3)) (m ((c.tc : Thread Cert.HMidIdeal.nD Cert.HMidIdeal.τ).loc Cert.HMidIdeal.main_arg4)) (m ((c.tc : Thread Cert.HMidIdeal.nD Cert.HMidIdeal.τ).loc Cert.HMidIdeal.main_arg5))) = (fun _ => 1#1)

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_MlpActIdeal (m : (ℓ : Loc Cert.MlpActIdeal.nD Cert.MlpActIdeal.τ Cert.MlpActIdeal.sig) → Buf (Elt Ideal) ℓ) : Prop :=
  True

def Pre_ActQ (m : (ℓ : Loc Cert.ActQ.nD Cert.ActQ.τ Cert.ActQ.sig) → Buf (Elt Bits) ℓ) : Prop :=
  True

def Pre_ActQIdeal (m : (ℓ : Loc Cert.ActQIdeal.nD Cert.ActQIdeal.τ Cert.ActQIdeal.sig) → Buf (Elt Ideal) ℓ) : Prop :=
  True

def Pre_ActQIdeal_maxima_finite [hPre_maxima_finite : Cert.Pre_maxima_finite.Facts] (m : (ℓ : Loc Cert.ActQIdeal.nD Cert.ActQIdeal.τ Cert.ActQIdeal.sig) → Buf (Elt Ideal) ℓ) : Prop :=
  ∀ c : Dev Cert.ActQIdeal.nD,
    (Cert.Pre_maxima_finite.fn (F := Ideal) (m ((c.tc : Thread Cert.ActQIdeal.nD Cert.ActQIdeal.τ).loc Cert.ActQIdeal.main_arg0)) (m ((c.tc : Thread Cert.ActQIdeal.nD Cert.ActQIdeal.τ).loc Cert.ActQIdeal.main_arg1))) = (fun _ => 1#1)

def Pre_ActCodesIdeal (m : (ℓ : Loc Cert.ActCodesIdeal.nD Cert.ActCodesIdeal.τ Cert.ActCodesIdeal.sig) → Buf (Elt Ideal) ℓ) : Prop :=
  True

def Pre_ActCodesIdeal_maxima_finite [hPre_maxima_finite : Cert.Pre_maxima_finite.Facts] (m : (ℓ : Loc Cert.ActCodesIdeal.nD Cert.ActCodesIdeal.τ Cert.ActCodesIdeal.sig) → Buf (Elt Ideal) ℓ) : Prop :=
  ∀ c : Dev Cert.ActCodesIdeal.nD,
    (Cert.Pre_maxima_finite.fn (F := Ideal) (m ((c.tc : Thread Cert.ActCodesIdeal.nD Cert.ActCodesIdeal.τ).loc Cert.ActCodesIdeal.main_arg0)) (m ((c.tc : Thread Cert.ActCodesIdeal.nD Cert.ActCodesIdeal.τ).loc Cert.ActCodesIdeal.main_arg1))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_OutIdeal (m : (ℓ : Loc Cert.OutIdeal.nD Cert.OutIdeal.τ Cert.OutIdeal.sig) → Buf (Elt Ideal) ℓ) : Prop :=
  True

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ r.2.sem = fun _ => 0)

def quiescent_OprojIdeal_pre_norm_weights_finite [hOprojIdeal : Cert.OprojIdeal.Facts] [hPre_norm_weights_finite : Cert.Pre_norm_weights_finite.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal_norm_weights_finite m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ r.2.sem = fun _ => 0)

def quiescent_HMidIdeal [hHMidIdeal : Cert.HMidIdeal.Facts] : Prop :=
  ∀ (m : (ℓ : Loc Cert.HMidIdeal.nD Cert.HMidIdeal.τ Cert.HMidIdeal.sig) → Buf (Elt Ideal) ℓ) (g : Dev Cert.HMidIdeal.nD → PrngReg), Pre_HMidIdeal m →
    θ_run (Cert.HMidIdeal.defs (F := Ideal)) (onTc (τ := Cert.HMidIdeal.τ) (Cert.HMidIdeal.main (F := Ideal))) ⟨m, fun _ => 0, g⟩ (fun r => (∀ c : Dev Cert.HMidIdeal.nD,
      r.2.mem ((c.tc : Thread Cert.HMidIdeal.nD Cert.HMidIdeal.τ).loc Cert.HMidIdeal.main_arg0) = m ((c.tc : Thread Cert.HMidIdeal.nD Cert.HMidIdeal.τ).loc Cert.HMidIdeal.main_arg0)
      ∧ r.2.mem ((c.tc : Thread Cert.HMidIdeal.nD Cert.HMidIdeal.τ).loc Cert.HMidIdeal.main_arg1) = m ((c.tc : Thread Cert.HMidIdeal.nD Cert.HMidIdeal.τ).loc Cert.HMidIdeal.main_arg1)
      ∧ r.2.mem ((c.tc : Thread Cert.HMidIdeal.nD Cert.HMidIdeal.τ).loc Cert.HMidIdeal.main_arg2) = m ((c.tc : Thread Cert.HMidIdeal.nD Cert.HMidIdeal.τ).loc Cert.HMidIdeal.main_arg2)
      ∧ r.2.mem ((c.tc : Thread Cert.HMidIdeal.nD Cert.HMidIdeal.τ).loc Cert.HMidIdeal.main_arg3) = m ((c.tc : Thread Cert.HMidIdeal.nD Cert.HMidIdeal.τ).loc Cert.HMidIdeal.main_arg3)
      ∧ r.2.mem ((c.tc : Thread Cert.HMidIdeal.nD Cert.HMidIdeal.τ).loc Cert.HMidIdeal.main_arg4) = m ((c.tc : Thread Cert.HMidIdeal.nD Cert.HMidIdeal.τ).loc Cert.HMidIdeal.main_arg4)
      ∧ r.2.mem ((c.tc : Thread Cert.HMidIdeal.nD Cert.HMidIdeal.τ).loc Cert.HMidIdeal.main_arg5) = m ((c.tc : Thread Cert.HMidIdeal.nD Cert.HMidIdeal.τ).loc Cert.HMidIdeal.main_arg5))
      ∧ r.2.sem = fun _ => 0)

def quiescent_HMidIdeal_pre_norm_weights_finite [hHMidIdeal : Cert.HMidIdeal.Facts] [hPre_norm_weights_finite : Cert.Pre_norm_weights_finite.Facts] : Prop :=
  ∀ (m : (ℓ : Loc Cert.HMidIdeal.nD Cert.HMidIdeal.τ Cert.HMidIdeal.sig) → Buf (Elt Ideal) ℓ) (g : Dev Cert.HMidIdeal.nD → PrngReg), Pre_HMidIdeal_norm_weights_finite m →
    θ_run (Cert.HMidIdeal.defs (F := Ideal)) (onTc (τ := Cert.HMidIdeal.τ) (Cert.HMidIdeal.main (F := Ideal))) ⟨m, fun _ => 0, g⟩ (fun r => (∀ c : Dev Cert.HMidIdeal.nD,
      r.2.mem ((c.tc : Thread Cert.HMidIdeal.nD Cert.HMidIdeal.τ).loc Cert.HMidIdeal.main_arg0) = m ((c.tc : Thread Cert.HMidIdeal.nD Cert.HMidIdeal.τ).loc Cert.HMidIdeal.main_arg0)
      ∧ r.2.mem ((c.tc : Thread Cert.HMidIdeal.nD Cert.HMidIdeal.τ).loc Cert.HMidIdeal.main_arg1) = m ((c.tc : Thread Cert.HMidIdeal.nD Cert.HMidIdeal.τ).loc Cert.HMidIdeal.main_arg1)
      ∧ r.2.mem ((c.tc : Thread Cert.HMidIdeal.nD Cert.HMidIdeal.τ).loc Cert.HMidIdeal.main_arg2) = m ((c.tc : Thread Cert.HMidIdeal.nD Cert.HMidIdeal.τ).loc Cert.HMidIdeal.main_arg2)
      ∧ r.2.mem ((c.tc : Thread Cert.HMidIdeal.nD Cert.HMidIdeal.τ).loc Cert.HMidIdeal.main_arg3) = m ((c.tc : Thread Cert.HMidIdeal.nD Cert.HMidIdeal.τ).loc Cert.HMidIdeal.main_arg3)
      ∧ r.2.mem ((c.tc : Thread Cert.HMidIdeal.nD Cert.HMidIdeal.τ).loc Cert.HMidIdeal.main_arg4) = m ((c.tc : Thread Cert.HMidIdeal.nD Cert.HMidIdeal.τ).loc Cert.HMidIdeal.main_arg4)
      ∧ r.2.mem ((c.tc : Thread Cert.HMidIdeal.nD Cert.HMidIdeal.τ).loc Cert.HMidIdeal.main_arg5) = m ((c.tc : Thread Cert.HMidIdeal.nD Cert.HMidIdeal.τ).loc Cert.HMidIdeal.main_arg5))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ r.2.sem = fun _ => 0)

def quiescent_MlpActIdeal [hMlpActIdeal : Cert.MlpActIdeal.Facts] : Prop :=
  ∀ (m : (ℓ : Loc Cert.MlpActIdeal.nD Cert.MlpActIdeal.τ Cert.MlpActIdeal.sig) → Buf (Elt Ideal) ℓ) (g : Dev Cert.MlpActIdeal.nD → PrngReg), Pre_MlpActIdeal m →
    θ_run (Cert.MlpActIdeal.defs (F := Ideal)) (onTc (τ := Cert.MlpActIdeal.τ) (Cert.MlpActIdeal.main (F := Ideal))) ⟨m, fun _ => 0, g⟩ (fun r => (∀ c : Dev Cert.MlpActIdeal.nD,
      r.2.mem ((c.tc : Thread Cert.MlpActIdeal.nD Cert.MlpActIdeal.τ).loc Cert.MlpActIdeal.main_arg0) = m ((c.tc : Thread Cert.MlpActIdeal.nD Cert.MlpActIdeal.τ).loc Cert.MlpActIdeal.main_arg0)
      ∧ r.2.mem ((c.tc : Thread Cert.MlpActIdeal.nD Cert.MlpActIdeal.τ).loc Cert.MlpActIdeal.main_arg1) = m ((c.tc : Thread Cert.MlpActIdeal.nD Cert.MlpActIdeal.τ).loc Cert.MlpActIdeal.main_arg1)
      ∧ r.2.mem ((c.tc : Thread Cert.MlpActIdeal.nD Cert.MlpActIdeal.τ).loc Cert.MlpActIdeal.main_arg2) = m ((c.tc : Thread Cert.MlpActIdeal.nD Cert.MlpActIdeal.τ).loc Cert.MlpActIdeal.main_arg2)
      ∧ r.2.mem ((c.tc : Thread Cert.MlpActIdeal.nD Cert.MlpActIdeal.τ).loc Cert.MlpActIdeal.main_arg3) = m ((c.tc : Thread Cert.MlpActIdeal.nD Cert.MlpActIdeal.τ).loc Cert.MlpActIdeal.main_arg3)
      ∧ r.2.mem ((c.tc : Thread Cert.MlpActIdeal.nD Cert.MlpActIdeal.τ).loc Cert.MlpActIdeal.main_arg4) = m ((c.tc : Thread Cert.MlpActIdeal.nD Cert.MlpActIdeal.τ).loc Cert.MlpActIdeal.main_arg4)
      ∧ r.2.mem ((c.tc : Thread Cert.MlpActIdeal.nD Cert.MlpActIdeal.τ).loc Cert.MlpActIdeal.main_arg5) = m ((c.tc : Thread Cert.MlpActIdeal.nD Cert.MlpActIdeal.τ).loc Cert.MlpActIdeal.main_arg5))
      ∧ r.2.sem = fun _ => 0)

def quiescent_ActQ [hActQ : Cert.ActQ.Facts] : Prop :=
  ∀ (m : (ℓ : Loc Cert.ActQ.nD Cert.ActQ.τ Cert.ActQ.sig) → Buf (Elt Bits) ℓ) (g : Dev Cert.ActQ.nD → PrngReg), Pre_ActQ m →
    θ_run (Cert.ActQ.defs (F := Bits)) (onTc (τ := Cert.ActQ.τ) (Cert.ActQ.main (F := Bits))) ⟨m, fun _ => 0, g⟩ (fun r => (∀ c : Dev Cert.ActQ.nD,
      r.2.mem ((c.tc : Thread Cert.ActQ.nD Cert.ActQ.τ).loc Cert.ActQ.main_arg0) = m ((c.tc : Thread Cert.ActQ.nD Cert.ActQ.τ).loc Cert.ActQ.main_arg0)
      ∧ r.2.mem ((c.tc : Thread Cert.ActQ.nD Cert.ActQ.τ).loc Cert.ActQ.main_arg1) = m ((c.tc : Thread Cert.ActQ.nD Cert.ActQ.τ).loc Cert.ActQ.main_arg1))
      ∧ r.2.sem = fun _ => 0)

def quiescent_ActQIdeal [hActQIdeal : Cert.ActQIdeal.Facts] : Prop :=
  ∀ (m : (ℓ : Loc Cert.ActQIdeal.nD Cert.ActQIdeal.τ Cert.ActQIdeal.sig) → Buf (Elt Ideal) ℓ) (g : Dev Cert.ActQIdeal.nD → PrngReg), Pre_ActQIdeal m →
    θ_run (Cert.ActQIdeal.defs (F := Ideal)) (onTc (τ := Cert.ActQIdeal.τ) (Cert.ActQIdeal.main (F := Ideal))) ⟨m, fun _ => 0, g⟩ (fun r => (∀ c : Dev Cert.ActQIdeal.nD,
      r.2.mem ((c.tc : Thread Cert.ActQIdeal.nD Cert.ActQIdeal.τ).loc Cert.ActQIdeal.main_arg0) = m ((c.tc : Thread Cert.ActQIdeal.nD Cert.ActQIdeal.τ).loc Cert.ActQIdeal.main_arg0)
      ∧ r.2.mem ((c.tc : Thread Cert.ActQIdeal.nD Cert.ActQIdeal.τ).loc Cert.ActQIdeal.main_arg1) = m ((c.tc : Thread Cert.ActQIdeal.nD Cert.ActQIdeal.τ).loc Cert.ActQIdeal.main_arg1))
      ∧ r.2.sem = fun _ => 0)

def quiescent_ActQIdeal_pre_maxima_finite [hActQIdeal : Cert.ActQIdeal.Facts] [hPre_maxima_finite : Cert.Pre_maxima_finite.Facts] : Prop :=
  ∀ (m : (ℓ : Loc Cert.ActQIdeal.nD Cert.ActQIdeal.τ Cert.ActQIdeal.sig) → Buf (Elt Ideal) ℓ) (g : Dev Cert.ActQIdeal.nD → PrngReg), Pre_ActQIdeal_maxima_finite m →
    θ_run (Cert.ActQIdeal.defs (F := Ideal)) (onTc (τ := Cert.ActQIdeal.τ) (Cert.ActQIdeal.main (F := Ideal))) ⟨m, fun _ => 0, g⟩ (fun r => (∀ c : Dev Cert.ActQIdeal.nD,
      r.2.mem ((c.tc : Thread Cert.ActQIdeal.nD Cert.ActQIdeal.τ).loc Cert.ActQIdeal.main_arg0) = m ((c.tc : Thread Cert.ActQIdeal.nD Cert.ActQIdeal.τ).loc Cert.ActQIdeal.main_arg0)
      ∧ r.2.mem ((c.tc : Thread Cert.ActQIdeal.nD Cert.ActQIdeal.τ).loc Cert.ActQIdeal.main_arg1) = m ((c.tc : Thread Cert.ActQIdeal.nD Cert.ActQIdeal.τ).loc Cert.ActQIdeal.main_arg1))
      ∧ r.2.sem = fun _ => 0)

def quiescent_ActCodesIdeal [hActCodesIdeal : Cert.ActCodesIdeal.Facts] : Prop :=
  ∀ (m : (ℓ : Loc Cert.ActCodesIdeal.nD Cert.ActCodesIdeal.τ Cert.ActCodesIdeal.sig) → Buf (Elt Ideal) ℓ) (g : Dev Cert.ActCodesIdeal.nD → PrngReg), Pre_ActCodesIdeal m →
    θ_run (Cert.ActCodesIdeal.defs (F := Ideal)) (onTc (τ := Cert.ActCodesIdeal.τ) (Cert.ActCodesIdeal.main (F := Ideal))) ⟨m, fun _ => 0, g⟩ (fun r => (∀ c : Dev Cert.ActCodesIdeal.nD,
      r.2.mem ((c.tc : Thread Cert.ActCodesIdeal.nD Cert.ActCodesIdeal.τ).loc Cert.ActCodesIdeal.main_arg0) = m ((c.tc : Thread Cert.ActCodesIdeal.nD Cert.ActCodesIdeal.τ).loc Cert.ActCodesIdeal.main_arg0)
      ∧ r.2.mem ((c.tc : Thread Cert.ActCodesIdeal.nD Cert.ActCodesIdeal.τ).loc Cert.ActCodesIdeal.main_arg1) = m ((c.tc : Thread Cert.ActCodesIdeal.nD Cert.ActCodesIdeal.τ).loc Cert.ActCodesIdeal.main_arg1))
      ∧ r.2.sem = fun _ => 0)

def quiescent_ActCodesIdeal_pre_maxima_finite [hActCodesIdeal : Cert.ActCodesIdeal.Facts] [hPre_maxima_finite : Cert.Pre_maxima_finite.Facts] : Prop :=
  ∀ (m : (ℓ : Loc Cert.ActCodesIdeal.nD Cert.ActCodesIdeal.τ Cert.ActCodesIdeal.sig) → Buf (Elt Ideal) ℓ) (g : Dev Cert.ActCodesIdeal.nD → PrngReg), Pre_ActCodesIdeal_maxima_finite m →
    θ_run (Cert.ActCodesIdeal.defs (F := Ideal)) (onTc (τ := Cert.ActCodesIdeal.τ) (Cert.ActCodesIdeal.main (F := Ideal))) ⟨m, fun _ => 0, g⟩ (fun r => (∀ c : Dev Cert.ActCodesIdeal.nD,
      r.2.mem ((c.tc : Thread Cert.ActCodesIdeal.nD Cert.ActCodesIdeal.τ).loc Cert.ActCodesIdeal.main_arg0) = m ((c.tc : Thread Cert.ActCodesIdeal.nD Cert.ActCodesIdeal.τ).loc Cert.ActCodesIdeal.main_arg0)
      ∧ r.2.mem ((c.tc : Thread Cert.ActCodesIdeal.nD Cert.ActCodesIdeal.τ).loc Cert.ActCodesIdeal.main_arg1) = m ((c.tc : Thread Cert.ActCodesIdeal.nD Cert.ActCodesIdeal.τ).loc Cert.ActCodesIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def preserves_Oproj_OprojIdeal : Prop :=
  True

def algebraic_OprojIdeal_HMidIdeal_pre_norm_weights_finite [hOprojIdeal : Cert.OprojIdeal.Facts] [hHMidIdeal : Cert.HMidIdeal.Facts] [hPre_norm_weights_finite : Cert.Pre_norm_weights_finite.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.HMidIdeal.nD Cert.HMidIdeal.τ Cert.HMidIdeal.sig) → Buf (Elt Ideal) ℓ) (g' : Dev Cert.HMidIdeal.nD → PrngReg), Pre_OprojIdeal_norm_weights_finite m →
    (∀ c : Dev Cert.OprojIdeal.nD,
      m' ((c.tc : Thread Cert.HMidIdeal.nD Cert.HMidIdeal.τ).loc Cert.HMidIdeal.main_arg0) = m ((c.tc : Thread Cert.OprojIdeal.nD Cert.OprojIdeal.τ).loc Cert.OprojIdeal.main_arg0)
      ∧ m' ((c.tc : Thread Cert.HMidIdeal.nD Cert.HMidIdeal.τ).loc Cert.HMidIdeal.main_arg1) = m ((c.tc : Thread Cert.OprojIdeal.nD Cert.OprojIdeal.τ).loc Cert.OprojIdeal.main_arg1)
      ∧ m' ((c.tc : Thread Cert.HMidIdeal.nD Cert.HMidIdeal.τ).loc Cert.HMidIdeal.main_arg2) = m ((c.tc : Thread Cert.OprojIdeal.nD Cert.OprojIdeal.τ).loc Cert.OprojIdeal.main_arg2)
      ∧ m' ((c.tc : Thread Cert.HMidIdeal.nD Cert.HMidIdeal.τ).loc Cert.HMidIdeal.main_arg3) = m ((c.tc : Thread Cert.OprojIdeal.nD Cert.OprojIdeal.τ).loc Cert.OprojIdeal.main_arg3)
      ∧ m' ((c.tc : Thread Cert.HMidIdeal.nD Cert.HMidIdeal.τ).loc Cert.HMidIdeal.main_arg4) = m ((c.tc : Thread Cert.OprojIdeal.nD Cert.OprojIdeal.τ).loc Cert.OprojIdeal.main_arg4)
      ∧ m' ((c.tc : Thread Cert.HMidIdeal.nD Cert.HMidIdeal.τ).loc Cert.HMidIdeal.main_arg5) = m ((c.tc : Thread Cert.OprojIdeal.nD Cert.OprojIdeal.τ).loc Cert.OprojIdeal.main_arg5)) →
    ∃ (v0 : (c : Dev Cert.OprojIdeal.nD) → Buf (Elt Ideal) ((c.tc : Thread Cert.OprojIdeal.nD Cert.OprojIdeal.τ).loc Cert.OprojIdeal.main_v4_0)) (v1 : (c : Dev Cert.OprojIdeal.nD) → Buf (Elt Ideal) ((c.tc : Thread Cert.OprojIdeal.nD Cert.OprojIdeal.τ).loc Cert.OprojIdeal.main_v4_1)) (v2 : (c : Dev Cert.OprojIdeal.nD) → Buf (Elt Ideal) ((c.tc : Thread Cert.OprojIdeal.nD Cert.OprojIdeal.τ).loc Cert.OprojIdeal.main_v4_2)) (v3 : (c : Dev Cert.OprojIdeal.nD) → Buf (Elt Ideal) ((c.tc : Thread Cert.OprojIdeal.nD Cert.OprojIdeal.τ).loc Cert.OprojIdeal.main_v4_3)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v4_0) = v0 c
          ∧ r.2.mem ((c.tc : Thread Cert.OprojIdeal.nD Cert.OprojIdeal.τ).loc Cert.OprojIdeal.main_v4_1) = v1 c
          ∧ r.2.mem ((c.tc : Thread Cert.OprojIdeal.nD Cert.OprojIdeal.τ).loc Cert.OprojIdeal.main_v4_2) = v2 c
          ∧ r.2.mem ((c.tc : Thread Cert.OprojIdeal.nD Cert.OprojIdeal.τ).loc Cert.OprojIdeal.main_v4_3) = v3 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ θ_run (Cert.HMidIdeal.defs (F := Ideal)) (onTc (τ := Cert.HMidIdeal.τ) (Cert.HMidIdeal.main (F := Ideal))) ⟨m', fun _ => 0, g'⟩ (fun r => ∀ c : Dev Cert.HMidIdeal.nD,
          r.2.mem ((c.tc : Thread Cert.HMidIdeal.nD Cert.HMidIdeal.τ).loc Cert.HMidIdeal.main_v3_0) = v0 c
          ∧ r.2.mem ((c.tc : Thread Cert.HMidIdeal.nD Cert.HMidIdeal.τ).loc Cert.HMidIdeal.main_v3_1) = v1 c
          ∧ r.2.mem ((c.tc : Thread Cert.HMidIdeal.nD Cert.HMidIdeal.τ).loc Cert.HMidIdeal.main_v3_2) = v2 c
          ∧ r.2.mem ((c.tc : Thread Cert.HMidIdeal.nD Cert.HMidIdeal.τ).loc Cert.HMidIdeal.main_v3_3) = v3 c
          ∧ r.2.mem ((c.tc : Thread Cert.HMidIdeal.nD Cert.HMidIdeal.τ).loc Cert.HMidIdeal.main_arg0) = m' ((c.tc : Thread Cert.HMidIdeal.nD Cert.HMidIdeal.τ).loc Cert.HMidIdeal.main_arg0)
          ∧ r.2.mem ((c.tc : Thread Cert.HMidIdeal.nD Cert.HMidIdeal.τ).loc Cert.HMidIdeal.main_arg1) = m' ((c.tc : Thread Cert.HMidIdeal.nD Cert.HMidIdeal.τ).loc Cert.HMidIdeal.main_arg1)
          ∧ r.2.mem ((c.tc : Thread Cert.HMidIdeal.nD Cert.HMidIdeal.τ).loc Cert.HMidIdeal.main_arg2) = m' ((c.tc : Thread Cert.HMidIdeal.nD Cert.HMidIdeal.τ).loc Cert.HMidIdeal.main_arg2)
          ∧ r.2.mem ((c.tc : Thread Cert.HMidIdeal.nD Cert.HMidIdeal.τ).loc Cert.HMidIdeal.main_arg3) = m' ((c.tc : Thread Cert.HMidIdeal.nD Cert.HMidIdeal.τ).loc Cert.HMidIdeal.main_arg3)
          ∧ r.2.mem ((c.tc : Thread Cert.HMidIdeal.nD Cert.HMidIdeal.τ).loc Cert.HMidIdeal.main_arg4) = m' ((c.tc : Thread Cert.HMidIdeal.nD Cert.HMidIdeal.τ).loc Cert.HMidIdeal.main_arg4)
          ∧ r.2.mem ((c.tc : Thread Cert.HMidIdeal.nD Cert.HMidIdeal.τ).loc Cert.HMidIdeal.main_arg5) = m' ((c.tc : Thread Cert.HMidIdeal.nD Cert.HMidIdeal.τ).loc Cert.HMidIdeal.main_arg5))

def preserves_GateUp_GateUpIdeal : Prop :=
  True

def algebraic_GateUpIdeal_MlpActIdeal [hGateUpIdeal : Cert.GateUpIdeal.Facts] [hMlpActIdeal : Cert.MlpActIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.MlpActIdeal.nD Cert.MlpActIdeal.τ Cert.MlpActIdeal.sig) → Buf (Elt Ideal) ℓ) (g' : Dev Cert.MlpActIdeal.nD → PrngReg), Pre_GateUpIdeal m →
    (∀ c : Dev Cert.GateUpIdeal.nD,
      m' ((c.tc : Thread Cert.MlpActIdeal.nD Cert.MlpActIdeal.τ).loc Cert.MlpActIdeal.main_arg0) = m ((c.tc : Thread Cert.GateUpIdeal.nD Cert.GateUpIdeal.τ).loc Cert.GateUpIdeal.main_arg0)
      ∧ m' ((c.tc : Thread Cert.MlpActIdeal.nD Cert.MlpActIdeal.τ).loc Cert.MlpActIdeal.main_arg1) = m ((c.tc : Thread Cert.GateUpIdeal.nD Cert.GateUpIdeal.τ).loc Cert.GateUpIdeal.main_arg1)
      ∧ m' ((c.tc : Thread Cert.MlpActIdeal.nD Cert.MlpActIdeal.τ).loc Cert.MlpActIdeal.main_arg2) = m ((c.tc : Thread Cert.GateUpIdeal.nD Cert.GateUpIdeal.τ).loc Cert.GateUpIdeal.main_arg2)
      ∧ m' ((c.tc : Thread Cert.MlpActIdeal.nD Cert.MlpActIdeal.τ).loc Cert.MlpActIdeal.main_arg3) = m ((c.tc : Thread Cert.GateUpIdeal.nD Cert.GateUpIdeal.τ).loc Cert.GateUpIdeal.main_arg3)
      ∧ m' ((c.tc : Thread Cert.MlpActIdeal.nD Cert.MlpActIdeal.τ).loc Cert.MlpActIdeal.main_arg4) = m ((c.tc : Thread Cert.GateUpIdeal.nD Cert.GateUpIdeal.τ).loc Cert.GateUpIdeal.main_arg4)
      ∧ m' ((c.tc : Thread Cert.MlpActIdeal.nD Cert.MlpActIdeal.τ).loc Cert.MlpActIdeal.main_arg5) = m ((c.tc : Thread Cert.GateUpIdeal.nD Cert.GateUpIdeal.τ).loc Cert.GateUpIdeal.main_arg5)) →
    ∃ (v0 : (c : Dev Cert.GateUpIdeal.nD) → Buf (Elt Ideal) ((c.tc : Thread Cert.GateUpIdeal.nD Cert.GateUpIdeal.τ).loc Cert.GateUpIdeal.main_v4_0)) (v1 : (c : Dev Cert.GateUpIdeal.nD) → Buf (Elt Ideal) ((c.tc : Thread Cert.GateUpIdeal.nD Cert.GateUpIdeal.τ).loc Cert.GateUpIdeal.main_v4_1)) (v2 : (c : Dev Cert.GateUpIdeal.nD) → Buf (Elt Ideal) ((c.tc : Thread Cert.GateUpIdeal.nD Cert.GateUpIdeal.τ).loc Cert.GateUpIdeal.main_v4_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v4_0) = v0 c
          ∧ r.2.mem ((c.tc : Thread Cert.GateUpIdeal.nD Cert.GateUpIdeal.τ).loc Cert.GateUpIdeal.main_v4_1) = v1 c
          ∧ r.2.mem ((c.tc : Thread Cert.GateUpIdeal.nD Cert.GateUpIdeal.τ).loc Cert.GateUpIdeal.main_v4_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ θ_run (Cert.MlpActIdeal.defs (F := Ideal)) (onTc (τ := Cert.MlpActIdeal.τ) (Cert.MlpActIdeal.main (F := Ideal))) ⟨m', fun _ => 0, g'⟩ (fun r => ∀ c : Dev Cert.MlpActIdeal.nD,
          r.2.mem ((c.tc : Thread Cert.MlpActIdeal.nD Cert.MlpActIdeal.τ).loc Cert.MlpActIdeal.main_v3_0) = v0 c
          ∧ r.2.mem ((c.tc : Thread Cert.MlpActIdeal.nD Cert.MlpActIdeal.τ).loc Cert.MlpActIdeal.main_v3_1) = v1 c
          ∧ r.2.mem ((c.tc : Thread Cert.MlpActIdeal.nD Cert.MlpActIdeal.τ).loc Cert.MlpActIdeal.main_v3_2) = v2 c
          ∧ r.2.mem ((c.tc : Thread Cert.MlpActIdeal.nD Cert.MlpActIdeal.τ).loc Cert.MlpActIdeal.main_arg0) = m' ((c.tc : Thread Cert.MlpActIdeal.nD Cert.MlpActIdeal.τ).loc Cert.MlpActIdeal.main_arg0)
          ∧ r.2.mem ((c.tc : Thread Cert.MlpActIdeal.nD Cert.MlpActIdeal.τ).loc Cert.MlpActIdeal.main_arg1) = m' ((c.tc : Thread Cert.MlpActIdeal.nD Cert.MlpActIdeal.τ).loc Cert.MlpActIdeal.main_arg1)
          ∧ r.2.mem ((c.tc : Thread Cert.MlpActIdeal.nD Cert.MlpActIdeal.τ).loc Cert.MlpActIdeal.main_arg2) = m' ((c.tc : Thread Cert.MlpActIdeal.nD Cert.MlpActIdeal.τ).loc Cert.MlpActIdeal.main_arg2)
          ∧ r.2.mem ((c.tc : Thread Cert.MlpActIdeal.nD Cert.MlpActIdeal.τ).loc Cert.MlpActIdeal.main_arg3) = m' ((c.tc : Thread Cert.MlpActIdeal.nD Cert.MlpActIdeal.τ).loc Cert.MlpActIdeal.main_arg3)
          ∧ r.2.mem ((c.tc : Thread Cert.MlpActIdeal.nD Cert.MlpActIdeal.τ).loc Cert.MlpActIdeal.main_arg4) = m' ((c.tc : Thread Cert.MlpActIdeal.nD Cert.MlpActIdeal.τ).loc Cert.MlpActIdeal.main_arg4)
          ∧ r.2.mem ((c.tc : Thread Cert.MlpActIdeal.nD Cert.MlpActIdeal.τ).loc Cert.MlpActIdeal.main_arg5) = m' ((c.tc : Thread Cert.MlpActIdeal.nD Cert.MlpActIdeal.τ).loc Cert.MlpActIdeal.main_arg5))

def preserves_ActQ_ActQIdeal : Prop :=
  True

def algebraic_ActQIdeal_ActCodesIdeal_pre_maxima_finite [hActQIdeal : Cert.ActQIdeal.Facts] [hActCodesIdeal : Cert.ActCodesIdeal.Facts] [hPre_maxima_finite : Cert.Pre_maxima_finite.Facts] : Prop :=
  ∀ (m : (ℓ : Loc Cert.ActQIdeal.nD Cert.ActQIdeal.τ Cert.ActQIdeal.sig) → Buf (Elt Ideal) ℓ) (g : Dev Cert.ActQIdeal.nD → PrngReg)
    (m' : (ℓ : Loc Cert.ActCodesIdeal.nD Cert.ActCodesIdeal.τ Cert.ActCodesIdeal.sig) → Buf (Elt Ideal) ℓ) (g' : Dev Cert.ActCodesIdeal.nD → PrngReg), Pre_ActQIdeal_maxima_finite m →
    (∀ c : Dev Cert.ActQIdeal.nD,
      m' ((c.tc : Thread Cert.ActCodesIdeal.nD Cert.ActCodesIdeal.τ).loc Cert.ActCodesIdeal.main_arg0) = m ((c.tc : Thread Cert.ActQIdeal.nD Cert.ActQIdeal.τ).loc Cert.ActQIdeal.main_arg0)
      ∧ m' ((c.tc : Thread Cert.ActCodesIdeal.nD Cert.ActCodesIdeal.τ).loc Cert.ActCodesIdeal.main_arg1) = m ((c.tc : Thread Cert.ActQIdeal.nD Cert.ActQIdeal.τ).loc Cert.ActQIdeal.main_arg1)) →
    ∃ (v0 : (c : Dev Cert.ActQIdeal.nD) → Buf (Elt Ideal) ((c.tc : Thread Cert.ActQIdeal.nD Cert.ActQIdeal.τ).loc Cert.ActQIdeal.main_v2_0)) (v1 : (c : Dev Cert.ActQIdeal.nD) → Buf (Elt Ideal) ((c.tc : Thread Cert.ActQIdeal.nD Cert.ActQIdeal.τ).loc Cert.ActQIdeal.main_v2_1)),
      θ_run (Cert.ActQIdeal.defs (F := Ideal)) (onTc (τ := Cert.ActQIdeal.τ) (Cert.ActQIdeal.main (F := Ideal))) ⟨m, fun _ => 0, g⟩ (fun r => ∀ c : Dev Cert.ActQIdeal.nD,
          r.2.mem ((c.tc : Thread Cert.ActQIdeal.nD Cert.ActQIdeal.τ).loc Cert.ActQIdeal.main_v2_0) = v0 c
          ∧ r.2.mem ((c.tc : Thread Cert.ActQIdeal.nD Cert.ActQIdeal.τ).loc Cert.ActQIdeal.main_v2_1) = v1 c
          ∧ r.2.mem ((c.tc : Thread Cert.ActQIdeal.nD Cert.ActQIdeal.τ).loc Cert.ActQIdeal.main_arg0) = m ((c.tc : Thread Cert.ActQIdeal.nD Cert.ActQIdeal.τ).loc Cert.ActQIdeal.main_arg0)
          ∧ r.2.mem ((c.tc : Thread Cert.ActQIdeal.nD Cert.ActQIdeal.τ).loc Cert.ActQIdeal.main_arg1) = m ((c.tc : Thread Cert.ActQIdeal.nD Cert.ActQIdeal.τ).loc Cert.ActQIdeal.main_arg1))
      ∧ θ_run (Cert.ActCodesIdeal.defs (F := Ideal)) (onTc (τ := Cert.ActCodesIdeal.τ) (Cert.ActCodesIdeal.main (F := Ideal))) ⟨m', fun _ => 0, g'⟩ (fun r => ∀ c : Dev Cert.ActCodesIdeal.nD,
          r.2.mem ((c.tc : Thread Cert.ActCodesIdeal.nD Cert.ActCodesIdeal.τ).loc Cert.ActCodesIdeal.main_v1_0) = v0 c
          ∧ r.2.mem ((c.tc : Thread Cert.ActCodesIdeal.nD Cert.ActCodesIdeal.τ).loc Cert.ActCodesIdeal.main_v1_1) = v1 c
          ∧ r.2.mem ((c.tc : Thread Cert.ActCodesIdeal.nD Cert.ActCodesIdeal.τ).loc Cert.ActCodesIdeal.main_arg0) = m' ((c.tc : Thread Cert.ActCodesIdeal.nD Cert.ActCodesIdeal.τ).loc Cert.ActCodesIdeal.main_arg0)
          ∧ r.2.mem ((c.tc : Thread Cert.ActCodesIdeal.nD Cert.ActCodesIdeal.τ).loc Cert.ActCodesIdeal.main_arg1) = m' ((c.tc : Thread Cert.ActCodesIdeal.nD Cert.ActCodesIdeal.τ).loc Cert.ActCodesIdeal.main_arg1))

def preserves_Down_DownIdeal : Prop :=
  True

def algebraic_DownIdeal_OutIdeal [hDownIdeal : Cert.DownIdeal.Facts] [hOutIdeal : Cert.OutIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.OutIdeal.nD Cert.OutIdeal.τ Cert.OutIdeal.sig) → Buf (Elt Ideal) ℓ) (g' : Dev Cert.OutIdeal.nD → PrngReg), Pre_DownIdeal m →
    (∀ c : Dev Cert.DownIdeal.nD,
      m' ((c.tc : Thread Cert.OutIdeal.nD Cert.OutIdeal.τ).loc Cert.OutIdeal.main_arg0) = m ((c.tc : Thread Cert.DownIdeal.nD Cert.DownIdeal.τ).loc Cert.DownIdeal.main_arg0)
      ∧ m' ((c.tc : Thread Cert.OutIdeal.nD Cert.OutIdeal.τ).loc Cert.OutIdeal.main_arg1) = m ((c.tc : Thread Cert.DownIdeal.nD Cert.DownIdeal.τ).loc Cert.DownIdeal.main_arg1)
      ∧ m' ((c.tc : Thread Cert.OutIdeal.nD Cert.OutIdeal.τ).loc Cert.OutIdeal.main_arg2) = m ((c.tc : Thread Cert.DownIdeal.nD Cert.DownIdeal.τ).loc Cert.DownIdeal.main_arg2)
      ∧ m' ((c.tc : Thread Cert.OutIdeal.nD Cert.OutIdeal.τ).loc Cert.OutIdeal.main_arg3) = m ((c.tc : Thread Cert.DownIdeal.nD Cert.DownIdeal.τ).loc Cert.DownIdeal.main_arg3)
      ∧ m' ((c.tc : Thread Cert.OutIdeal.nD Cert.OutIdeal.τ).loc Cert.OutIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.OutIdeal.defs (F := Ideal)) (onTc (τ := Cert.OutIdeal.τ) (Cert.OutIdeal.main (F := Ideal))) ⟨m', fun _ => 0, g'⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m' ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m' ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m' ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m' ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m' ((c.tc : Thread Cert.OutIdeal.nD Cert.OutIdeal.τ).loc Cert.OutIdeal.main_arg4))

def Claim : Prop :=
  ∃ (hOproj : Cert.Oproj.Facts) (hOprojIdeal : Cert.OprojIdeal.Facts) (hHMidIdeal : Cert.HMidIdeal.Facts) (hGateUp : Cert.GateUp.Facts) (hGateUpIdeal : Cert.GateUpIdeal.Facts) (hMlpActIdeal : Cert.MlpActIdeal.Facts) (hActQ : Cert.ActQ.Facts) (hActQIdeal : Cert.ActQIdeal.Facts) (hActCodesIdeal : Cert.ActCodesIdeal.Facts) (hDown : Cert.Down.Facts) (hDownIdeal : Cert.DownIdeal.Facts) (hOutIdeal : Cert.OutIdeal.Facts) (hPre_norm_weights_finite : Cert.Pre_norm_weights_finite.Facts) (hPre_maxima_finite : Cert.Pre_maxima_finite.Facts),
    quiescent_Oproj (hOproj := hOproj)
    ∧ quiescent_OprojIdeal (hOprojIdeal := hOprojIdeal)
    ∧ quiescent_OprojIdeal_pre_norm_weights_finite (hOprojIdeal := hOprojIdeal) (hPre_norm_weights_finite := hPre_norm_weights_finite)
    ∧ quiescent_HMidIdeal (hHMidIdeal := hHMidIdeal)
    ∧ quiescent_HMidIdeal_pre_norm_weights_finite (hHMidIdeal := hHMidIdeal) (hPre_norm_weights_finite := hPre_norm_weights_finite)
    ∧ quiescent_GateUp (hGateUp := hGateUp)
    ∧ quiescent_GateUpIdeal (hGateUpIdeal := hGateUpIdeal)
    ∧ quiescent_MlpActIdeal (hMlpActIdeal := hMlpActIdeal)
    ∧ quiescent_ActQ (hActQ := hActQ)
    ∧ quiescent_ActQIdeal (hActQIdeal := hActQIdeal)
    ∧ quiescent_ActQIdeal_pre_maxima_finite (hActQIdeal := hActQIdeal) (hPre_maxima_finite := hPre_maxima_finite)
    ∧ quiescent_ActCodesIdeal (hActCodesIdeal := hActCodesIdeal)
    ∧ quiescent_ActCodesIdeal_pre_maxima_finite (hActCodesIdeal := hActCodesIdeal) (hPre_maxima_finite := hPre_maxima_finite)
    ∧ quiescent_Down (hDown := hDown)
    ∧ quiescent_DownIdeal (hDownIdeal := hDownIdeal)
    ∧ quiescent_OutIdeal (hOutIdeal := hOutIdeal)
    ∧ preserves_Oproj_OprojIdeal
    ∧ algebraic_OprojIdeal_HMidIdeal_pre_norm_weights_finite (hOprojIdeal := hOprojIdeal) (hHMidIdeal := hHMidIdeal) (hPre_norm_weights_finite := hPre_norm_weights_finite)
    ∧ preserves_GateUp_GateUpIdeal
    ∧ algebraic_GateUpIdeal_MlpActIdeal (hGateUpIdeal := hGateUpIdeal) (hMlpActIdeal := hMlpActIdeal)
    ∧ preserves_ActQ_ActQIdeal
    ∧ algebraic_ActQIdeal_ActCodesIdeal_pre_maxima_finite (hActQIdeal := hActQIdeal) (hActCodesIdeal := hActCodesIdeal) (hPre_maxima_finite := hPre_maxima_finite)
    ∧ preserves_Down_DownIdeal
    ∧ algebraic_DownIdeal_OutIdeal (hDownIdeal := hDownIdeal) (hOutIdeal := hOutIdeal)
-- ==== Pre_maxima_finite.lean ====
abbrev S768x18432 : Shape := ⟨2, ![768, 18432]⟩
abbrev S768 : Shape := ⟨1, ![768]⟩
abbrev S_ : Shape := ⟨0, ![]⟩

class Facts : Prop where
  bcast_S_S768 : S_.BroadcastsInDim S768 (![] : Fin 0 → Fin S768.rank)
  reducesTo_S768_S_d0 : S768.ReducesTo [0] S_
  h_S_ : 0 < S_.numel

variable [Facts]

def fn {F : FTy → Type} [FloatOps F] (main_arg0 : FVec F S768x18432 .f32) (main_arg1 : FVec F S768 .f32) : IVec S_ 1 :=
  let main_cst : FVec F S_ .f32 := constant S_ .f32 0x7F7FFFFF#32
  let main_v0 : FVec F S768 .f32 := broadcastInDim S768 ![] bcast_S_S768 main_cst
  let main_v1 : IVec S768 1 := cmpf .ole main_arg1 main_v0
  let main_c : IVec S_ 1 := constantI S_ 1 1#1
  let main_v2 : IVec S_ 1 := (fun x v => Host.reduce IntOp.andi x v reducesTo_S768_S_d0 h_S_) main_v1 main_c
  main_v2
-- ==== Pre_norm_weights_finite.lean ====
abbrev S768x5376 : Shape := ⟨2, ![768, 5376]⟩
abbrev S768 : Shape := ⟨1, ![768]⟩
abbrev S5376x7168 : Shape := ⟨2, ![5376, 7168]⟩
abbrev S7168 : Shape := ⟨1, ![7168]⟩
abbrev S768x7168 : Shape := ⟨2, ![768, 7168]⟩
abbrev S_ : Shape := ⟨0, ![]⟩

class Facts : Prop where
  bcast_S_S7168 : S_.BroadcastsInDim S7168 (![] : Fin 0 → Fin S7168.rank)
  reducesTo_S7168_S_d0 : S7168.ReducesTo [0] S_
  h_S_ : 0 < S_.numel

variable [Facts]

def fn {F : FTy → Type} [FloatOps F] (main_arg0 : FVec F S768x5376 .fp8e4m3) (main_arg1 : FVec F S768 .f32) (main_arg2 : FVec F S5376x7168 .fp8e4m3) (main_arg3 : FVec F S7168 .f32) (main_arg4 : FVec F S768x7168 .bf16) (main_arg5 : FVec F S7168 .f32) : IVec S_ 1 :=
  let main_v0 : FVec F S7168 .f32 := Host.absf main_arg5
  let main_cst : FVec F S_ .f32 := constant S_ .f32 0x7F7FFFFF#32
  let main_v1 : FVec F S7168 .f32 := broadcastInDim S7168 ![] bcast_S_S7168 main_cst
  let main_v2 : IVec S7168 1 := cmpf .ole main_v0 main_v1
  let main_c : IVec S_ 1 := constantI S_ 1 1#1
  let main_v3 : IVec S_ 1 := (fun x v => Host.reduce IntOp.andi x v reducesTo_S7168_S_d0 h_S_) main_v2 main_c
  main_v3
-- ==== Oproj.lean ====
abbrev S768x5376 : Shape := ⟨2, ![768, 5376]⟩
abbrev S768 : Shape := ⟨1, ![768]⟩
abbrev S5376x7168 : Shape := ⟨2, ![5376, 7168]⟩
abbrev S7168 : Shape := ⟨1, ![7168]⟩
abbrev S768x7168 : Shape := ⟨2, ![768, 7168]⟩
abbrev S768x1 : Shape := ⟨2, ![768, 1]⟩
abbrev S768x128 : Shape := ⟨2, ![768, 128]⟩
abbrev S1x7168 : Shape := ⟨2, ![1, 7168]⟩
abbrev S5376x512 : Shape := ⟨2, ![5376, 512]⟩
abbrev S1x512 : Shape := ⟨2, ![1, 512]⟩
abbrev S768x512 : Shape := ⟨2, ![768, 512]⟩
abbrev S14x768x512 : Shape := ⟨3, ![14, 768, 512]⟩
abbrev S1x768x512 : Shape := ⟨3, ![1, 768, 512]⟩
abbrev S64x128 : Shape := ⟨2, ![64, 128]⟩
abbrev S64 : Shape := ⟨1, ![64]⟩
abbrev S64x1 : Shape := ⟨2, ![64, 1]⟩
abbrev S64x512 : Shape := ⟨2, ![64, 512]⟩
abbrev S1x64x512 : Shape := ⟨3, ![1, 64, 512]⟩

abbrev nBuf : Space → Nat
  | .hbm => 14
  | .vmem => 17
  | .smem => 0
  | _ => 0

abbrev bufTy : (tb : Table) → Fin (tcTables nBuf tb) → BufTy
  | .hbm, ⟨0, _⟩ => ⟨S768x5376, .fp8e4m3⟩
  | .hbm, ⟨1, _⟩ => ⟨S768, .f32⟩
  | .hbm, ⟨2, _⟩ => ⟨S5376x7168, .fp8e4m3⟩
  | .hbm, ⟨3, _⟩ => ⟨S7168, .f32⟩
  | .hbm, ⟨4, _⟩ => ⟨S768x7168, .bf16⟩
  | .hbm, ⟨5, _⟩ => ⟨S7168, .f32⟩
  | .hbm, ⟨6, _⟩ => ⟨S768x1, .f32⟩
  | .hbm, ⟨7, _⟩ => ⟨S768x128, .f32⟩
  | .hbm, ⟨8, _⟩ => ⟨S1x7168, .f32⟩
  | .hbm, ⟨9, _⟩ => ⟨S1x7168, .f32⟩
  | .hbm, ⟨10, _⟩ => ⟨S768x7168, .f32⟩
  | .hbm, ⟨11, _⟩ => ⟨S768x7168, .bf16⟩
  | .hbm, ⟨12, _⟩ => ⟨S768x7168, .fp8e4m3⟩
  | .hbm, ⟨13, _⟩ => ⟨S768x128, .f32⟩
  | .local _ .vmem, ⟨0, _⟩ => ⟨S768x5376, .fp8e4m3⟩
  | .local _ .vmem, ⟨1, _⟩ => ⟨S768x128, .f32⟩
  | .local _ .vmem, ⟨2, _⟩ => ⟨S5376x512, .fp8e4m3⟩
  | .local _ .vmem, ⟨3, _⟩ => ⟨S5376x512, .fp8e4m3⟩
  | .local _ .vmem, ⟨4, _⟩ => ⟨S1x512, .f32⟩
  | .local _ .vmem, ⟨5, _⟩ => ⟨S1x512, .f32⟩
  | .local _ .vmem, ⟨6, _⟩ => ⟨S768x512, .bf16⟩
  | .local _ .vmem, ⟨7, _⟩ => ⟨S768x512, .bf16⟩
  | .local _ .vmem, ⟨8, _⟩ => ⟨S1x7168, .f32⟩
  | .local _ .vmem, ⟨9, _⟩ => ⟨S768x512, .f32⟩
  | .local _ .vmem, ⟨10, _⟩ => ⟨S768x512, .f32⟩
  | .local _ .vmem, ⟨11, _⟩ => ⟨S768x512, .bf16⟩
  | .local _ .vmem, ⟨12, _⟩ => ⟨S768x512, .bf16⟩
  | .local _ .vmem, ⟨13, _⟩ => ⟨S768x7168, .fp8e4m3⟩
  | .local _ .vmem, ⟨14, _⟩ => ⟨S768x128, .f32⟩
  | .local _ .vmem, ⟨15, _⟩ => ⟨S14x768x512, .f32⟩
  | .local _ .vmem, ⟨16, _⟩ => ⟨S768x128, .f32⟩
  | _, _ => ⟨S768x5376, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![14], ![false]⟩

def k0_off1 (i : grid0.Coords) : Fin 3 → Nat :=
  let arg0 : BitVec 32 := BitVec.ofNat 32 (i 0).val
  let v17 : Index := Scalar.indexCast arg0
  let c0_13 : Index := 0#32
  let c0_14 : Index := 0#32
  ![v17.toNat, 0, 0]
def k0_cond2 (i : grid0.Coords) : BitVec 1 :=
  let arg0 : BitVec 32 := BitVec.ofNat 32 (i 0).val
  let c13_i32 : BitVec 32 := 13#32
  let v37 : BitVec 1 := Scalar.cmpi .eq arg0 c13_i32
  let v38 : BitVec 32 := Scalar.extui v37
  let c0_i32_20 : BitVec 32 := 0#32
  let v39 : BitVec 1 := Scalar.cmpi .ne v38 c0_i32_20
  v39

@[reducible] def k0_t1_loop : Scf.Loop 32 :=
  let c0_i32_21 : BitVec 32 := 0#32
  let c12_i32 : BitVec 32 := 12#32
  let v40 : BitVec 32 := Scalar.addi c0_i32_21 c12_i32
  let c1_i32 : BitVec 32 := 1#32
  ⟨c0_i32_21, v40, c1_i32⟩
def k0_off2 (k0_t1 : Fin k0_t1_loop.trips) : Fin 2 → Nat :=
  let c0_i32_24 : BitVec 32 := 0#32
  let c0_i32_21 : BitVec 32 := 0#32
  let c1_i32 : BitVec 32 := 1#32
  let arg13 : BitVec 32 := Scf.iv c0_i32_21 c1_i32 k0_t1
  let c1_i32_23 : BitVec 32 := 1#32
  let v41 : BitVec 32 := Scalar.muli arg13 c1_i32_23
  let v42 : BitVec 32 := Scalar.addi c0_i32_24 v41
  let c64_i32 : BitVec 32 := 64#32
  let v43 : BitVec 32 := Scalar.muli v42 c64_i32
  let v44 : Index := Scalar.indexCast v43
  let c0_25 : Index := 0#32
  ![v44.toNat, 0]
def k0_off3 (k0_t1 : Fin k0_t1_loop.trips) : Fin 3 → Nat :=
  let c0_30 : Index := 0#32
  let c0_i32_24 : BitVec 32 := 0#32
  let c0_i32_21 : BitVec 32 := 0#32
  let c1_i32 : BitVec 32 := 1#32
  let arg13 : BitVec 32 := Scf.iv c0_i32_21 c1_i32 k0_t1
  let c1_i32_23 : BitVec 32 := 1#32
  let v41 : BitVec 32 := Scalar.muli arg13 c1_i32_23
  let v42 : BitVec 32 := Scalar.addi c0_i32_24 v41
  let c64_i32 : BitVec 32 := 64#32
  let v43 : BitVec 32 := Scalar.muli v42 c64_i32
  let v54 : Index := Scalar.indexCast v43
  let c0_31 : Index := 0#32
  ![0, v54.toNat, 0]
def k0_off4 (k0_t1 : Fin k0_t1_loop.trips) : Fin 3 → Nat :=
  let c1 : Index := 1#32
  let c0_i32_24 : BitVec 32 := 0#32
  let c0_i32_21 : BitVec 32 := 0#32
  let c1_i32 : BitVec 32 := 1#32
  let arg13 : BitVec 32 := Scf.iv c0_i32_21 c1_i32 k0_t1
  let c1_i32_23 : BitVec 32 := 1#32
  let v41 : BitVec 32 := Scalar.muli arg13 c1_i32_23
  let v42 : BitVec 32 := Scalar.addi c0_i32_24 v41
  let c64_i32 : BitVec 32 := 64#32
  let v43 : BitVec 32 := Scalar.muli v42 c64_i32
  let v65 : Index := Scalar.indexCast v43
  let c0_34 : Index := 0#32
  ![1, v65.toNat, 0]
def k0_off5 (k0_t1 : Fin k0_t1_loop.trips) : Fin 3 → Nat :=
  let c2 : Index := 2#32
  let c0_i32_24 : BitVec 32 := 0#32
  let c0_i32_21 : BitVec 32 := 0#32
  let c1_i32 : BitVec 32 := 1#32
  let arg13 : BitVec 32 := Scf.iv c0_i32_21 c1_i32 k0_t1
  let c1_i32_23 : BitVec 32 := 1#32
  let v41 : BitVec 32 := Scalar.muli arg13 c1_i32_23
  let v42 : BitVec 32 := Scalar.addi c0_i32_24 v41
  let c64_i32 : BitVec 32 := 64#32
  let v43 : BitVec 32 := Scalar.muli v42 c64_i32
  let v76 : Index := Scalar.indexCast v43
  let c0_36 : Index := 0#32
  ![2, v76.toNat, 0]
def k0_off6 (k0_t1 : Fin k0_t1_loop.trips) : Fin 3 → Nat :=
  let c3 : Index := 3#32
  let c0_i32_24 : BitVec 32 := 0#32
  let c0_i32_21 : BitVec 32 := 0#32
  let c1_i32 : BitVec 32 := 1#32
  let arg13 : BitVec 32 := Scf.iv c0_i32_21 c1_i32 k0_t1
  let c1_i32_23 : BitVec 32 := 1#32
  let v41 : BitVec 32 := Scalar.muli arg13 c1_i32_23
  let v42 : BitVec 32 := Scalar.addi c0_i32_24 v41
  let c64_i32 : BitVec 32 := 64#32
  let v43 : BitVec 32 := Scalar.muli v42 c64_i32
  let v87 : Index := Scalar.indexCast v43
  let c0_38 : Index := 0#32
  ![3, v87.toNat, 0]
def k0_off7 (k0_t1 : Fin k0_t1_loop.trips) : Fin 3 → Nat :=
  let c4 : Index := 4#32
  let c0_i32_24 : BitVec 32 := 0#32
  let c0_i32_21 : BitVec 32 := 0#32
  let c1_i32 : BitVec 32 := 1#32
  let arg13 : BitVec 32 := Scf.iv c0_i32_21 c1_i32 k0_t1
  let c1_i32_23 : BitVec 32 := 1#32
  let v41 : BitVec 32 := Scalar.muli arg13 c1_i32_23
  let v42 : BitVec 32 := Scalar.addi c0_i32_24 v41
  let c64_i32 : BitVec 32 := 64#32
  let v43 : BitVec 32 := Scalar.muli v42 c64_i32
  let v98 : Index := Scalar.indexCast v43
  let c0_40 : Index := 0#32
  ![4, v98.toNat, 0]
def k0_off8 (k0_t1 : Fin k0_t1_loop.trips) : Fin 3 → Nat :=
  let c5 : Index := 5#32
  let c0_i32_24 : BitVec 32 := 0#32
  let c0_i32_21 : BitVec 32 := 0#32
  let c1_i32 : BitVec 32 := 1#32
  let arg13 : BitVec 32 := Scf.iv c0_i32_21 c1_i32 k0_t1
  let c1_i32_23 : BitVec 32 := 1#32
  let v41 : BitVec 32 := Scalar.muli arg13 c1_i32_23
  let v42 : BitVec 32 := Scalar.addi c0_i32_24 v41
  let c64_i32 : BitVec 32 := 64#32
  let v43 : BitVec 32 := Scalar.muli v42 c64_i32
  let v109 : Index := Scalar.indexCast v43
  let c0_42 : Index := 0#32
  ![5, v109.toNat, 0]
def k0_off9 (k0_t1 : Fin k0_t1_loop.trips) : Fin 3 → Nat :=
  let c6 : Index := 6#32
  let c0_i32_24 : BitVec 32 := 0#32
  let c0_i32_21 : BitVec 32 := 0#32
  let c1_i32 : BitVec 32 := 1#32
  let arg13 : BitVec 32 := Scf.iv c0_i32_21 c1_i32 k0_t1
  let c1_i32_23 : BitVec 32 := 1#32
  let v41 : BitVec 32 := Scalar.muli arg13 c1_i32_23
  let v42 : BitVec 32 := Scalar.addi c0_i32_24 v41
  let c64_i32 : BitVec 32 := 64#32
  let v43 : BitVec 32 := Scalar.muli v42 c64_i32
  let v120 : Index := Scalar.indexCast v43
  let c0_44 : Index := 0#32
  ![6, v120.toNat, 0]
def k0_off10 (k0_t1 : Fin k0_t1_loop.trips) : Fin 3 → Nat :=
  let c7 : Index := 7#32
  let c0_i32_24 : BitVec 32 := 0#32
  let c0_i32_21 : BitVec 32 := 0#32
  let c1_i32 : BitVec 32 := 1#32
  let arg13 : BitVec 32 := Scf.iv c0_i32_21 c1_i32 k0_t1
  let c1_i32_23 : BitVec 32 := 1#32
  let v41 : BitVec 32 := Scalar.muli arg13 c1_i32_23
  let v42 : BitVec 32 := Scalar.addi c0_i32_24 v41
  let c64_i32 : BitVec 32 := 64#32
  let v43 : BitVec 32 := Scalar.muli v42 c64_i32
  let v131 : Index := Scalar.indexCast v43
  let c0_46 : Index := 0#32
  ![7, v131.toNat, 0]
def k0_off11 (k0_t1 : Fin k0_t1_loop.trips) : Fin 3 → Nat :=
  let c8 : Index := 8#32
  let c0_i32_24 : BitVec 32 := 0#32
  let c0_i32_21 : BitVec 32 := 0#32
  let c1_i32 : BitVec 32 := 1#32
  let arg13 : BitVec 32 := Scf.iv c0_i32_21 c1_i32 k0_t1
  let c1_i32_23 : BitVec 32 := 1#32
  let v41 : BitVec 32 := Scalar.muli arg13 c1_i32_23
  let v42 : BitVec 32 := Scalar.addi c0_i32_24 v41
  let c64_i32 : BitVec 32 := 64#32
  let v43 : BitVec 32 := Scalar.muli v42 c64_i32
  let v142 : Index := Scalar.indexCast v43
  let c0_48 : Index := 0#32
  ![8, v142.toNat, 0]
def k0_off12 (k0_t1 : Fin k0_t1_loop.trips) : Fin 3 → Nat :=
  let c9 : Index := 9#32
  let c0_i32_24 : BitVec 32 := 0#32
  let c0_i32_21 : BitVec 32 := 0#32
  let c1_i32 : BitVec 32 := 1#32
  let arg13 : BitVec 32 := Scf.iv c0_i32_21 c1_i32 k0_t1
  let c1_i32_23 : BitVec 32 := 1#32
  let v41 : BitVec 32 := Scalar.muli arg13 c1_i32_23
  let v42 : BitVec 32 := Scalar.addi c0_i32_24 v41
  let c64_i32 : BitVec 32 := 64#32
  let v43 : BitVec 32 := Scalar.muli v42 c64_i32
  let v153 : Index := Scalar.indexCast v43
  let c0_50 : Index := 0#32
  ![9, v153.toNat, 0]
def k0_off13 (k0_t1 : Fin k0_t1_loop.trips) : Fin 3 → Nat :=
  let c10 : Index := 10#32
  let c0_i32_24 : BitVec 32 := 0#32
  let c0_i32_21 : BitVec 32 := 0#32
  let c1_i32 : BitVec 32 := 1#32
  let arg13 : BitVec 32 := Scf.iv c0_i32_21 c1_i32 k0_t1
  let c1_i32_23 : BitVec 32 := 1#32
  let v41 : BitVec 32 := Scalar.muli arg13 c1_i32_23
  let v42 : BitVec 32 := Scalar.addi c0_i32_24 v41
  let c64_i32 : BitVec 32 := 64#32
  let v43 : BitVec 32 := Scalar.muli v42 c64_i32
  let v164 : Index := Scalar.indexCast v43
  let c0_52 : Index := 0#32
  ![10, v164.toNat, 0]
def k0_off14 (k0_t1 : Fin k0_t1_loop.trips) : Fin 3 → Nat :=
  let c11 : Index := 11#32
  let c0_i32_24 : BitVec 32 := 0#32
  let c0_i32_21 : BitVec 32 := 0#32
  let c1_i32 : BitVec 32 := 1#32
  let arg13 : BitVec 32 := Scf.iv c0_i32_21 c1_i32 k0_t1
  let c1_i32_23 : BitVec 32 := 1#32
  let v41 : BitVec 32 := Scalar.muli arg13 c1_i32_23
  let v42 : BitVec 32 := Scalar.addi c0_i32_24 v41
  let c64_i32 : BitVec 32 := 64#32
  let v43 : BitVec 32 := Scalar.muli v42 c64_i32
  let v175 : Index := Scalar.indexCast v43
  let c0_54 : Index := 0#32
  ![11, v175.toNat, 0]
def k0_off15 (k0_t1 : Fin k0_t1_loop.trips) : Fin 3 → Nat :=
  let c12 : Index := 12#32
  let c0_i32_24 : BitVec 32 := 0#32
  let c0_i32_21 : BitVec 32 := 0#32
  let c1_i32 : BitVec 32 := 1#32
  let arg13 : BitVec 32 := Scf.iv c0_i32_21 c1_i32 k0_t1
  let c1_i32_23 : BitVec 32 := 1#32
  let v41 : BitVec 32 := Scalar.muli arg13 c1_i32_23
  let v42 : BitVec 32 := Scalar.addi c0_i32_24 v41
  let c64_i32 : BitVec 32 := 64#32
  let v43 : BitVec 32 := Scalar.muli v42 c64_i32
  let v186 : Index := Scalar.indexCast v43
  let c0_56 : Index := 0#32
  ![12, v186.toNat, 0]
def k0_off16 (k0_t1 : Fin k0_t1_loop.trips) : Fin 3 → Nat :=
  let c13 : Index := 13#32
  let c0_i32_24 : BitVec 32 := 0#32
  let c0_i32_21 : BitVec 32 := 0#32
  let c1_i32 : BitVec 32 := 1#32
  let arg13 : BitVec 32 := Scf.iv c0_i32_21 c1_i32 k0_t1
  let c1_i32_23 : BitVec 32 := 1#32
  let v41 : BitVec 32 := Scalar.muli arg13 c1_i32_23
  let v42 : BitVec 32 := Scalar.addi c0_i32_24 v41
  let c64_i32 : BitVec 32 := 64#32
  let v43 : BitVec 32 := Scalar.muli v42 c64_i32
  let v197 : Index := Scalar.indexCast v43
  let c0_58 : Index := 0#32
  ![13, v197.toNat, 0]
def k0_off17 (k0_t1 : Fin k0_t1_loop.trips) : Fin 2 → Nat :=
  let c0_i32_24 : BitVec 32 := 0#32
  let c0_i32_21 : BitVec 32 := 0#32
  let c1_i32 : BitVec 32 := 1#32
  let arg13 : BitVec 32 := Scf.iv c0_i32_21 c1_i32 k0_t1
  let c1_i32_23 : BitVec 32 := 1#32
  let v41 : BitVec 32 := Scalar.muli arg13 c1_i32_23
  let v42 : BitVec 32 := Scalar.addi c0_i32_24 v41
  let c64_i32 : BitVec 32 := 64#32
  let v43 : BitVec 32 := Scalar.muli v42 c64_i32
  let v322 : Index := Scalar.indexCast v43
  let c0_92 : Index := 0#32
  ![v322.toNat, 0]
def k0_off18 (k0_t1 : Fin k0_t1_loop.trips) : Fin 2 → Nat :=
  let c0_i32_24 : BitVec 32 := 0#32
  let c0_i32_21 : BitVec 32 := 0#32
  let c1_i32 : BitVec 32 := 1#32
  let arg13 : BitVec 32 := Scf.iv c0_i32_21 c1_i32 k0_t1
  let c1_i32_23 : BitVec 32 := 1#32
  let v41 : BitVec 32 := Scalar.muli arg13 c1_i32_23
  let v42 : BitVec 32 := Scalar.addi c0_i32_24 v41
  let c64_i32 : BitVec 32 := 64#32
  let v43 : BitVec 32 := Scalar.muli v42 c64_i32
  let v341 : Index := Scalar.indexCast v43
  let c512_99 : Index := 512#32
  ![v341.toNat, 512]
def k0_off19 (k0_t1 : Fin k0_t1_loop.trips) : Fin 2 → Nat :=
  let c0_i32_24 : BitVec 32 := 0#32
  let c0_i32_21 : BitVec 32 := 0#32
  let c1_i32 : BitVec 32 := 1#32
  let arg13 : BitVec 32 := Scf.iv c0_i32_21 c1_i32 k0_t1
  let c1_i32_23 : BitVec 32 := 1#32
  let v41 : BitVec 32 := Scalar.muli arg13 c1_i32_23
  let v42 : BitVec 32 := Scalar.addi c0_i32_24 v41
  let c64_i32 : BitVec 32 := 64#32
  let v43 : BitVec 32 := Scalar.muli v42 c64_i32
  let v360 : Index := Scalar.indexCast v43
  let c1024_106 : Index := 1024#32
  ![v360.toNat, 1024]
def k0_off20 (k0_t1 : Fin k0_t1_loop.trips) : Fin 2 → Nat :=
  let c0_i32_24 : BitVec 32 := 0#32
  let c0_i32_21 : BitVec 32 := 0#32
  let c1_i32 : BitVec 32 := 1#32
  let arg13 : BitVec 32 := Scf.iv c0_i32_21 c1_i32 k0_t1
  let c1_i32_23 : BitVec 32 := 1#32
  let v41 : BitVec 32 := Scalar.muli arg13 c1_i32_23
  let v42 : BitVec 32 := Scalar.addi c0_i32_24 v41
  let c64_i32 : BitVec 32 := 64#32
  let v43 : BitVec 32 := Scalar.muli v42 c64_i32
  let v379 : Index := Scalar.indexCast v43
  let c1536_113 : Index := 1536#32
  ![v379.toNat, 1536]
def k0_off21 (k0_t1 : Fin k0_t1_loop.trips) : Fin 2 → Nat :=
  let c0_i32_24 : BitVec 32 := 0#32
  let c0_i32_21 : BitVec 32 := 0#32
  let c1_i32 : BitVec 32 := 1#32
  let arg13 : BitVec 32 := Scf.iv c0_i32_21 c1_i32 k0_t1
  let c1_i32_23 : BitVec 32 := 1#32
  let v41 : BitVec 32 := Scalar.muli arg13 c1_i32_23
  let v42 : BitVec 32 := Scalar.addi c0_i32_24 v41
  let c64_i32 : BitVec 32 := 64#32
  let v43 : BitVec 32 := Scalar.muli v42 c64_i32
  let v398 : Index := Scalar.indexCast v43
  let c2048_120 : Index := 2048#32
  ![v398.toNat, 2048]
def k0_off22 (k0_t1 : Fin k0_t1_loop.trips) : Fin 2 → Nat :=
  let c0_i32_24 : BitVec 32 := 0#32
  let c0_i32_21 : BitVec 32 := 0#32
  let c1_i32 : BitVec 32 := 1#32
  let arg13 : BitVec 32 := Scf.iv c0_i32_21 c1_i32 k0_t1
  let c1_i32_23 : BitVec 32 := 1#32
  let v41 : BitVec 32 := Scalar.muli arg13 c1_i32_23
  let v42 : BitVec 32 := Scalar.addi c0_i32_24 v41
  let c64_i32 : BitVec 32 := 64#32
  let v43 : BitVec 32 := Scalar.muli v42 c64_i32
  let v417 : Index := Scalar.indexCast v43
  let c2560_127 : Index := 2560#32
  ![v417.toNat, 2560]
def k0_off23 (k0_t1 : Fin k0_t1_loop.trips) : Fin 2 → Nat :=
  let c0_i32_24 : BitVec 32 := 0#32
  let c0_i32_21 : BitVec 32 := 0#32
  let c1_i32 : BitVec 32 := 1#32
  let arg13 : BitVec 32 := Scf.iv c0_i32_21 c1_i32 k0_t1
  let c1_i32_23 : BitVec 32 := 1#32
  let v41 : BitVec 32 := Scalar.muli arg13 c1_i32_23
  let v42 : BitVec 32 := Scalar.addi c0_i32_24 v41
  let c64_i32 : BitVec 32 := 64#32
  let v43 : BitVec 32 := Scalar.muli v42 c64_i32
  let v436 : Index := Scalar.indexCast v43
  let c3072_134 : Index := 3072#32
  ![v436.toNat, 3072]
def k0_off24 (k0_t1 : Fin k0_t1_loop.trips) : Fin 2 → Nat :=
  let c0_i32_24 : BitVec 32 := 0#32
  let c0_i32_21 : BitVec 32 := 0#32
  let c1_i32 : BitVec 32 := 1#32
  let arg13 : BitVec 32 := Scf.iv c0_i32_21 c1_i32 k0_t1
  let c1_i32_23 : BitVec 32 := 1#32
  let v41 : BitVec 32 := Scalar.muli arg13 c1_i32_23
  let v42 : BitVec 32 := Scalar.addi c0_i32_24 v41
  let c64_i32 : BitVec 32 := 64#32
  let v43 : BitVec 32 := Scalar.muli v42 c64_i32
  let v455 : Index := Scalar.indexCast v43
  let c3584_141 : Index := 3584#32
  ![v455.toNat, 3584]
def k0_off25 (k0_t1 : Fin k0_t1_loop.trips) : Fin 2 → Nat :=
  let c0_i32_24 : BitVec 32 := 0#32
  let c0_i32_21 : BitVec 32 := 0#32
  let c1_i32 : BitVec 32 := 1#32
  let arg13 : BitVec 32 := Scf.iv c0_i32_21 c1_i32 k0_t1
  let c1_i32_23 : BitVec 32 := 1#32
  let v41 : BitVec 32 := Scalar.muli arg13 c1_i32_23
  let v42 : BitVec 32 := Scalar.addi c0_i32_24 v41
  let c64_i32 : BitVec 32 := 64#32
  let v43 : BitVec 32 := Scalar.muli v42 c64_i32
  let v474 : Index := Scalar.indexCast v43
  let c4096_148 : Index := 4096#32
  ![v474.toNat, 4096]
def k0_off26 (k0_t1 : Fin k0_t1_loop.trips) : Fin 2 → Nat :=
  let c0_i32_24 : BitVec 32 := 0#32
  let c0_i32_21 : BitVec 32 := 0#32
  let c1_i32 : BitVec 32 := 1#32
  let arg13 : BitVec 32 := Scf.iv c0_i32_21 c1_i32 k0_t1
  let c1_i32_23 : BitVec 32 := 1#32
  let v41 : BitVec 32 := Scalar.muli arg13 c1_i32_23
  let v42 : BitVec 32 := Scalar.addi c0_i32_24 v41
  let c64_i32 : BitVec 32 := 64#32
  let v43 : BitVec 32 := Scalar.muli v42 c64_i32
  let v493 : Index := Scalar.indexCast v43
  let c4608_155 : Index := 4608#32
  ![v493.toNat, 4608]
def k0_off27 (k0_t1 : Fin k0_t1_loop.trips) : Fin 2 → Nat :=
  let c0_i32_24 : BitVec 32 := 0#32
  let c0_i32_21 : BitVec 32 := 0#32
  let c1_i32 : BitVec 32 := 1#32
  let arg13 : BitVec 32 := Scf.iv c0_i32_21 c1_i32 k0_t1
  let c1_i32_23 : BitVec 32 := 1#32
  let v41 : BitVec 32 := Scalar.muli arg13 c1_i32_23
  let v42 : BitVec 32 := Scalar.addi c0_i32_24 v41
  let c64_i32 : BitVec 32 := 64#32
  let v43 : BitVec 32 := Scalar.muli v42 c64_i32
  let v512 : Index := Scalar.indexCast v43
  let c5120_162 : Index := 5120#32
  ![v512.toNat, 5120]
def k0_off28 (k0_t1 : Fin k0_t1_loop.trips) : Fin 2 → Nat :=
  let c0_i32_24 : BitVec 32 := 0#32
  let c0_i32_21 : BitVec 32 := 0#32
  let c1_i32 : BitVec 32 := 1#32
  let arg13 : BitVec 32 := Scf.iv c0_i32_21 c1_i32 k0_t1
  let c1_i32_23 : BitVec 32 := 1#32
  let v41 : BitVec 32 := Scalar.muli arg13 c1_i32_23
  let v42 : BitVec 32 := Scalar.addi c0_i32_24 v41
  let c64_i32 : BitVec 32 := 64#32
  let v43 : BitVec 32 := Scalar.muli v42 c64_i32
  let v531 : Index := Scalar.indexCast v43
  let c5632_169 : Index := 5632#32
  ![v531.toNat, 5632]
def k0_off29 (k0_t1 : Fin k0_t1_loop.trips) : Fin 2 → Nat :=
  let c0_i32_24 : BitVec 32 := 0#32
  let c0_i32_21 : BitVec 32 := 0#32
  let c1_i32 : BitVec 32 := 1#32
  let arg13 : BitVec 32 := Scf.iv c0_i32_21 c1_i32 k0_t1
  let c1_i32_23 : BitVec 32 := 1#32
  let v41 : BitVec 32 := Scalar.muli arg13 c1_i32_23
  let v42 : BitVec 32 := Scalar.addi c0_i32_24 v41
  let c64_i32 : BitVec 32 := 64#32
  let v43 : BitVec 32 := Scalar.muli v42 c64_i32
  let v550 : Index := Scalar.indexCast v43
  let c6144_176 : Index := 6144#32
  ![v550.toNat, 6144]
def k0_off30 (k0_t1 : Fin k0_t1_loop.trips) : Fin 2 → Nat :=
  let c0_i32_24 : BitVec 32 := 0#32
  let c0_i32_21 : BitVec 32 := 0#32
  let c1_i32 : BitVec 32 := 1#32
  let arg13 : BitVec 32 := Scf.iv c0_i32_21 c1_i32 k0_t1
  let c1_i32_23 : BitVec 32 := 1#32
  let v41 : BitVec 32 := Scalar.muli arg13 c1_i32_23
  let v42 : BitVec 32 := Scalar.addi c0_i32_24 v41
  let c64_i32 : BitVec 32 := 64#32
  let v43 : BitVec 32 := Scalar.muli v42 c64_i32
  let v569 : Index := Scalar.indexCast v43
  let c6656_183 : Index := 6656#32
  ![v569.toNat, 6656]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S768x5376 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5376x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S768x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S768x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S768x7168 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S768x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== HMidIdeal.lean ====
abbrev S768x5376 : Shape := ⟨2, ![768, 5376]⟩
abbrev S768 : Shape := ⟨1, ![768]⟩
abbrev S5376x7168 : Shape := ⟨2, ![5376, 7168]⟩
abbrev S7168 : Shape := ⟨1, ![7168]⟩
abbrev S768x7168 : Shape := ⟨2, ![768, 7168]⟩
abbrev S768x1 : Shape := ⟨2, ![768, 1]⟩
abbrev S1x7168 : Shape := ⟨2, ![1, 7168]⟩
abbrev S768x128 : Shape := ⟨2, ![768, 128]⟩
abbrev S1x254 : Shape := ⟨2, ![1, 254]⟩
abbrev S768x254 : Shape := ⟨2, ![768, 254]⟩

abbrev nBuf : Space → Nat
  | .hbm => 13
  | .vmem => 10
  | .smem => 0
  | _ => 0

abbrev bufTy : (tb : Table) → Fin (tcTables nBuf tb) → BufTy
  | .hbm, ⟨0, _⟩ => ⟨S768x5376, .fp8e4m3⟩
  | .hbm, ⟨1, _⟩ => ⟨S768, .f32⟩
  | .hbm, ⟨2, _⟩ => ⟨S5376x7168, .fp8e4m3⟩
  | .hbm, ⟨3, _⟩ => ⟨S7168, .f32⟩
  | .hbm, ⟨4, _⟩ => ⟨S768x7168, .bf16⟩
  | .hbm, ⟨5, _⟩ => ⟨S7168, .f32⟩
  | .hbm, ⟨6, _⟩ => ⟨S768x1, .f32⟩
  | .hbm, ⟨7, _⟩ => ⟨S1x7168, .f32⟩
  | .hbm, ⟨8, _⟩ => ⟨S1x7168, .f32⟩
  | .hbm, ⟨9, _⟩ => ⟨S768x7168, .f32⟩
  | .hbm, ⟨10, _⟩ => ⟨S768x7168, .bf16⟩
  | .hbm, ⟨11, _⟩ => ⟨S768x7168, .fp8e4m3⟩
  | .hbm, ⟨12, _⟩ => ⟨S768x128, .f32⟩
  | .local _ .vmem, ⟨0, _⟩ => ⟨S768x5376, .fp8e4m3⟩
  | .local _ .vmem, ⟨1, _⟩ => ⟨S768x1, .f32⟩
  | .local _ .vmem, ⟨2, _⟩ => ⟨S5376x7168, .fp8e4m3⟩
  | .local _ .vmem, ⟨3, _⟩ => ⟨S1x7168, .f32⟩
  | .local _ .vmem, ⟨4, _⟩ => ⟨S768x7168, .bf16⟩
  | .local _ .vmem, ⟨5, _⟩ => ⟨S1x7168, .f32⟩
  | .local _ .vmem, ⟨6, _⟩ => ⟨S768x7168, .f32⟩
  | .local _ .vmem, ⟨7, _⟩ => ⟨S768x7168, .bf16⟩
  | .local _ .vmem, ⟨8, _⟩ => ⟨S768x7168, .fp8e4m3⟩
  | .local _ .vmem, ⟨9, _⟩ => ⟨S768x128, .f32⟩
  | _, _ => ⟨S768x5376, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S768x5376 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5376x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S768x7168 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S768x7168 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S768x7168 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S768x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== GateUp.lean ====
abbrev S768x7168 : Shape := ⟨2, ![768, 7168]⟩
abbrev S768 : Shape := ⟨1, ![768]⟩
abbrev S7168x18432 : Shape := ⟨2, ![7168, 18432]⟩
abbrev S18432 : Shape := ⟨1, ![18432]⟩
abbrev S768x1 : Shape := ⟨2, ![768, 1]⟩
abbrev S768x128 : Shape := ⟨2, ![768, 128]⟩
abbrev S1x18432 : Shape := ⟨2, ![1, 18432]⟩
abbrev S768x18432 : Shape := ⟨2, ![768, 18432]⟩
abbrev S7168x512 : Shape := ⟨2, ![7168, 512]⟩
abbrev S1x512 : Shape := ⟨2, ![1, 512]⟩
abbrev S768x512 : Shape := ⟨2, ![768, 512]⟩

abbrev nBuf : Space → Nat
  | .hbm => 13
  | .vmem => 15
  | .smem => 0
  | _ => 0

abbrev bufTy : (tb : Table) → Fin (tcTables nBuf tb) → BufTy
  | .hbm, ⟨0, _⟩ => ⟨S768x7168, .fp8e4m3⟩
  | .hbm, ⟨1, _⟩ => ⟨S768, .f32⟩
  | .hbm, ⟨2, _⟩ => ⟨S7168x18432, .fp8e4m3⟩
  | .hbm, ⟨3, _⟩ => ⟨S18432, .f32⟩
  | .hbm, ⟨4, _⟩ => ⟨S7168x18432, .fp8e4m3⟩
  | .hbm, ⟨5, _⟩ => ⟨S18432, .f32⟩
  | .hbm, ⟨6, _⟩ => ⟨S768x1, .f32⟩
  | .hbm, ⟨7, _⟩ => ⟨S768x128, .f32⟩
  | .hbm, ⟨8, _⟩ => ⟨S1x18432, .f32⟩
  | .hbm, ⟨9, _⟩ => ⟨S1x18432, .f32⟩
  | .hbm, ⟨10, _⟩ => ⟨S768x18432, .f32⟩
  | .hbm, ⟨11, _⟩ => ⟨S768x18432, .bf16⟩
  | .hbm, ⟨12, _⟩ => ⟨S768x128, .f32⟩
  | .local _ .vmem, ⟨0, _⟩ => ⟨S768x7168, .fp8e4m3⟩
  | .local _ .vmem, ⟨1, _⟩ => ⟨S768x128, .f32⟩
  | .local _ .vmem, ⟨2, _⟩ => ⟨S7168x512, .fp8e4m3⟩
  | .local _ .vmem, ⟨3, _⟩ => ⟨S7168x512, .fp8e4m3⟩
  | .local _ .vmem, ⟨4, _⟩ => ⟨S1x512, .f32⟩
  | .local _ .vmem, ⟨5, _⟩ => ⟨S1x512, .f32⟩
  | .local _ .vmem, ⟨6, _⟩ => ⟨S7168x512, .fp8e4m3⟩
  | .local _ .vmem, ⟨7, _⟩ => ⟨S7168x512, .fp8e4m3⟩
  | .local _ .vmem, ⟨8, _⟩ => ⟨S1x512, .f32⟩
  | .local _ .vmem, ⟨9, _⟩ => ⟨S1x512, .f32⟩
  | .local _ .vmem, ⟨10, _⟩ => ⟨S768x512, .f32⟩
  | .local _ .vmem, ⟨11, _⟩ => ⟨S768x512, .f32⟩
  | .local _ .vmem, ⟨12, _⟩ => ⟨S768x512, .bf16⟩
  | .local _ .vmem, ⟨13, _⟩ => ⟨S768x512, .bf16⟩
  | .local _ .vmem, ⟨14, _⟩ => ⟨S768x128, .f32⟩
  | _, _ => ⟨S768x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S768x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S7168x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S7168x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S768x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S768x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S768x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MlpActIdeal.lean ====
abbrev S768x7168 : Shape := ⟨2, ![768, 7168]⟩
abbrev S768 : Shape := ⟨1, ![768]⟩
abbrev S7168x18432 : Shape := ⟨2, ![7168, 18432]⟩
abbrev S18432 : Shape := ⟨1, ![18432]⟩
abbrev S768x1 : Shape := ⟨2, ![768, 1]⟩
abbrev S1x18432 : Shape := ⟨2, ![1, 18432]⟩
abbrev S768x18432 : Shape := ⟨2, ![768, 18432]⟩
abbrev S768x128 : Shape := ⟨2, ![768, 128]⟩

abbrev nBuf : Space → Nat
  | .hbm => 12
  | .vmem => 9
  | .smem => 0
  | _ => 0

abbrev bufTy : (tb : Table) → Fin (tcTables nBuf tb) → BufTy
  | .hbm, ⟨0, _⟩ => ⟨S768x7168, .fp8e4m3⟩
  | .hbm, ⟨1, _⟩ => ⟨S768, .f32⟩
  | .hbm, ⟨2, _⟩ => ⟨S7168x18432, .fp8e4m3⟩
  | .hbm, ⟨3, _⟩ => ⟨S18432, .f32⟩
  | .hbm, ⟨4, _⟩ => ⟨S7168x18432, .fp8e4m3⟩
  | .hbm, ⟨5, _⟩ => ⟨S18432, .f32⟩
  | .hbm, ⟨6, _⟩ => ⟨S768x1, .f32⟩
  | .hbm, ⟨7, _⟩ => ⟨S1x18432, .f32⟩
  | .hbm, ⟨8, _⟩ => ⟨S1x18432, .f32⟩
  | .hbm, ⟨9, _⟩ => ⟨S768x18432, .f32⟩
  | .hbm, ⟨10, _⟩ => ⟨S768x18432, .bf16⟩
  | .hbm, ⟨11, _⟩ => ⟨S768x128, .f32⟩
  | .local _ .vmem, ⟨0, _⟩ => ⟨S768x7168, .fp8e4m3⟩
  | .local _ .vmem, ⟨1, _⟩ => ⟨S768x1, .f32⟩
  | .local _ .vmem, ⟨2, _⟩ => ⟨S7168x18432, .fp8e4m3⟩
  | .local _ .vmem, ⟨3, _⟩ => ⟨S1x18432, .f32⟩
  | .local _ .vmem, ⟨4, _⟩ => ⟨S7168x18432, .fp8e4m3⟩
  | .local _ .vmem, ⟨5, _⟩ => ⟨S1x18432, .f32⟩
  | .local _ .vmem, ⟨6, _⟩ => ⟨S768x18432, .f32⟩
  | .local _ .vmem, ⟨7, _⟩ => ⟨S768x18432, .bf16⟩
  | .local _ .vmem, ⟨8, _⟩ => ⟨S768x128, .f32⟩
  | _, _ => ⟨S768x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S768x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x18432 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x18432 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7168x18432 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x18432 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S768x18432 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S768x18432 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S768x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ActQ.lean ====
abbrev S768x18432 : Shape := ⟨2, ![768, 18432]⟩
abbrev S768 : Shape := ⟨1, ![768]⟩
abbrev S768x1 : Shape := ⟨2, ![768, 1]⟩
abbrev S768x128 : Shape := ⟨2, ![768, 128]⟩
abbrev S768x1024 : Shape := ⟨2, ![768, 1024]⟩

abbrev nBuf : Space → Nat
  | .hbm => 6
  | .vmem => 6
  | .smem => 0
  | _ => 0

abbrev bufTy : (tb : Table) → Fin (tcTables nBuf tb) → BufTy
  | .hbm, ⟨0, _⟩ => ⟨S768x18432, .f32⟩
  | .hbm, ⟨1, _⟩ => ⟨S768, .f32⟩
  | .hbm, ⟨2, _⟩ => ⟨S768x1, .f32⟩
  | .hbm, ⟨3, _⟩ => ⟨S768x128, .f32⟩
  | .hbm, ⟨4, _⟩ => ⟨S768x18432, .fp8e4m3⟩
  | .hbm, ⟨5, _⟩ => ⟨S768x128, .f32⟩
  | .local _ .vmem, ⟨0, _⟩ => ⟨S768x1024, .f32⟩
  | .local _ .vmem, ⟨1, _⟩ => ⟨S768x1024, .f32⟩
  | .local _ .vmem, ⟨2, _⟩ => ⟨S768x128, .f32⟩
  | .local _ .vmem, ⟨3, _⟩ => ⟨S768x1024, .fp8e4m3⟩
  | .local _ .vmem, ⟨4, _⟩ => ⟨S768x1024, .fp8e4m3⟩
  | .local _ .vmem, ⟨5, _⟩ => ⟨S768x128, .f32⟩
  | _, _ => ⟨S768x18432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ActCodesIdeal.lean ====
abbrev S768x18432 : Shape := ⟨2, ![768, 18432]⟩
abbrev S768 : Shape := ⟨1, ![768]⟩
abbrev S768x1 : Shape := ⟨2, ![768, 1]⟩
abbrev S768x128 : Shape := ⟨2, ![768, 128]⟩
abbrev S1x254 : Shape := ⟨2, ![1, 254]⟩
abbrev S768x254 : Shape := ⟨2, ![768, 254]⟩

abbrev nBuf : Space → Nat
  | .hbm => 5
  | .vmem => 4
  | .smem => 0
  | _ => 0

abbrev bufTy : (tb : Table) → Fin (tcTables nBuf tb) → BufTy
  | .hbm, ⟨0, _⟩ => ⟨S768x18432, .f32⟩
  | .hbm, ⟨1, _⟩ => ⟨S768, .f32⟩
  | .hbm, ⟨2, _⟩ => ⟨S768x1, .f32⟩
  | .hbm, ⟨3, _⟩ => ⟨S768x18432, .fp8e4m3⟩
  | .hbm, ⟨4, _⟩ => ⟨S768x128, .f32⟩
  | .local _ .vmem, ⟨0, _⟩ => ⟨S768x18432, .f32⟩
  | .local _ .vmem, ⟨1, _⟩ => ⟨S768x1, .f32⟩
  | .local _ .vmem, ⟨2, _⟩ => ⟨S768x18432, .fp8e4m3⟩
  | .local _ .vmem, ⟨3, _⟩ => ⟨S768x128, .f32⟩
  | _, _ => ⟨S768x18432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S768x18432 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x18432 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Down.lean ====
abbrev S768x18432 : Shape := ⟨2, ![768, 18432]⟩
abbrev S768 : Shape := ⟨1, ![768]⟩
abbrev S18432x7168 : Shape := ⟨2, ![18432, 7168]⟩
abbrev S7168 : Shape := ⟨1, ![7168]⟩
abbrev S768x7168 : Shape := ⟨2, ![768, 7168]⟩
abbrev S768x1 : Shape := ⟨2, ![768, 1]⟩
abbrev S768x128 : Shape := ⟨2, ![768, 128]⟩
abbrev S1x7168 : Shape := ⟨2, ![1, 7168]⟩
abbrev S18432x512 : Shape := ⟨2, ![18432, 512]⟩
abbrev S1x512 : Shape := ⟨2, ![1, 512]⟩
abbrev S768x512 : Shape := ⟨2, ![768, 512]⟩

abbrev nBuf : Space → Nat
  | .hbm => 9
  | .vmem => 10
  | .smem => 0
  | _ => 0

abbrev bufTy : (tb : Table) → Fin (tcTables nBuf tb) → BufTy
  | .hbm, ⟨0, _⟩ => ⟨S768x18432, .fp8e4m3⟩
  | .hbm, ⟨1, _⟩ => ⟨S768, .f32⟩
  | .hbm, ⟨2, _⟩ => ⟨S18432x7168, .fp8e4m3⟩
  | .hbm, ⟨3, _⟩ => ⟨S7168, .f32⟩
  | .hbm, ⟨4, _⟩ => ⟨S768x7168, .f32⟩
  | .hbm, ⟨5, _⟩ => ⟨S768x1, .f32⟩
  | .hbm, ⟨6, _⟩ => ⟨S768x128, .f32⟩
  | .hbm, ⟨7, _⟩ => ⟨S1x7168, .f32⟩
  | .hbm, ⟨8, _⟩ => ⟨S768x7168, .bf16⟩
  | .local _ .vmem, ⟨0, _⟩ => ⟨S768x18432, .fp8e4m3⟩
  | .local _ .vmem, ⟨1, _⟩ => ⟨S768x128, .f32⟩
  | .local _ .vmem, ⟨2, _⟩ => ⟨S18432x512, .fp8e4m3⟩
  | .local _ .vmem, ⟨3, _⟩ => ⟨S18432x512, .fp8e4m3⟩
  | .local _ .vmem, ⟨4, _⟩ => ⟨S1x512, .f32⟩
  | .local _ .vmem, ⟨5, _⟩ => ⟨S1x512, .f32⟩
  | .local _ .vmem, ⟨6, _⟩ => ⟨S768x512, .f32⟩
  | .local _ .vmem, ⟨7, _⟩ => ⟨S768x512, .f32⟩
  | .local _ .vmem, ⟨8, _⟩ => ⟨S768x512, .bf16⟩
  | .local _ .vmem, ⟨9, _⟩ => ⟨S768x512, .bf16⟩
  | _, _ => ⟨S768x18432, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S768x18432 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S18432x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutIdeal.lean ====
abbrev S768x18432 : Shape := ⟨2, ![768, 18432]⟩
abbrev S768 : Shape := ⟨1, ![768]⟩
abbrev S18432x7168 : Shape := ⟨2, ![18432, 7168]⟩
abbrev S7168 : Shape := ⟨1, ![7168]⟩
abbrev S768x7168 : Shape := ⟨2, ![768, 7168]⟩
abbrev S768x1 : Shape := ⟨2, ![768, 1]⟩
abbrev S1x7168 : Shape := ⟨2, ![1, 7168]⟩

abbrev nBuf : Space → Nat
  | .hbm => 8
  | .vmem => 6
  | .smem => 0
  | _ => 0

abbrev bufTy : (tb : Table) → Fin (tcTables nBuf tb) → BufTy
  | .hbm, ⟨0, _⟩ => ⟨S768x18432, .fp8e4m3⟩
  | .hbm, ⟨1, _⟩ => ⟨S768, .f32⟩
  | .hbm, ⟨2, _⟩ => ⟨S18432x7168, .fp8e4m3⟩
  | .hbm, ⟨3, _⟩ => ⟨S7168, .f32⟩
  | .hbm, ⟨4, _⟩ => ⟨S768x7168, .f32⟩
  | .hbm, ⟨5, _⟩ => ⟨S768x1, .f32⟩
  | .hbm, ⟨6, _⟩ => ⟨S1x7168, .f32⟩
  | .hbm, ⟨7, _⟩ => ⟨S768x7168, .bf16⟩
  | .local _ .vmem, ⟨0, _⟩ => ⟨S768x18432, .fp8e4m3⟩
  | .local _ .vmem, ⟨1, _⟩ => ⟨S768x1, .f32⟩
  | .local _ .vmem, ⟨2, _⟩ => ⟨S18432x7168, .fp8e4m3⟩
  | .local _ .vmem, ⟨3, _⟩ => ⟨S1x7168, .f32⟩
  | .local _ .vmem, ⟨4, _⟩ => ⟨S768x7168, .f32⟩
  | .local _ .vmem, ⟨5, _⟩ => ⟨S768x7168, .bf16⟩
  | _, _ => ⟨S768x18432, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S768x18432 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18432x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.OprojRuns.lean ====
/-
  THE OUTPUT-PROJECTION KERNEL'S BODY, run once at each of the three kinds of grid point: the first, where the sums of squares
  are cleared; the middle ones; and the last, where the loop over the rows makes the codes and scales. Every run starts with
  the scratch that keeps all fourteen blocks at stated contents, and says which block it stores there.
-/
module

public import proofs.«01_k».proof.Proof.Gen.Oproj.Launch
public import proofs.«01_k».proof.Proof.Gen.Oproj.Skeleton
public import proofs.«01_k».proof.Proof.Gen.Oproj.Loops
public import proofs.«01_k».proof.Proof.Gen.Oproj.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.Gen.Oproj.Frame

@[expose] public section

set_option maxRecDepth 16384

noncomputable section

namespace Cert.Oproj.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, e0]
    word_cmp
   : ∀ t : Fin grid0.N, cond0_0 (grid0.coords t) ↔ t.val % 14 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 14 = 13 :=
  (fun t => by
    have ht : t.val < 14 := Nat.lt_of_lt_of_eq t.isLt N_0
    have e0 : (grid0.coords t 0).val = t.val / 1 % 14 := Pipeline.Grid.coords_val t 0 (by decide) rfl
    simp only [cond0_1, k0_cond2, e0]
    word_cmp
   : ∀ t : Fin grid0.N, cond0_1 (grid0.coords t) ↔ t.val % 14 = 13)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an output stored at every point, under no condition). -/
theorem liveAt0_6 : ∀ t : Fin cfg0.N, cfg0.idle 6 (grid0.coords t) = false := fun _ => rfl
/-- Window 7 is never idle (an output stored at every point, under no condition). -/
theorem liveAt0_7 : ∀ t : Fin cfg0.N, cfg0.idle 7 (grid0.coords t) = false := fun _ => rfl
/-- At the points of case A the printed configuration (`Cfg.idle`) calls output 8 idle: the case stores nothing into it. -/
theorem idleAt0_8_A : ∀ t : Fin cfg0.N, cond0_0 (grid0.coords t) → ¬cond0_1 (grid0.coords t) → cfg0.idle 8 (grid0.coords t) = true := by decide +kernel
/-- At the points of case A the pipeline does not write output 8's block back. -/
theorem noFlush0_8_A : ∀ t : Fin cfg0.N, cond0_0 (grid0.coords t) → ¬cond0_1 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → ¬cond0_1 (grid0.coords t) → cfg0.idle 8 (grid0.coords t) = true := by decide +kernel
/-- At the points of case B the pipeline does not write output 8's block back. -/
theorem noFlush0_8_B : ∀ t : Fin cfg0.N, ¬cond0_0 (grid0.coords t) → ¬cond0_1 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → cond0_1 (grid0.coords t) → cfg0.idle 8 (grid0.coords t) = false := by decide +kernel
/-- At the points of case A the printed configuration (`Cfg.idle`) calls output 9 idle: the case stores nothing into it. -/
theorem idleAt0_9_A : ∀ t : Fin cfg0.N, cond0_0 (grid0.coords t) → ¬cond0_1 (grid0.coords t) → cfg0.idle 9 (grid0.coords t) = true := by decide +kernel
/-- At the points of case A the pipeline does not write output 9's block back. -/
theorem noFlush0_9_A : ∀ t : Fin cfg0.N, cond0_0 (grid0.coords t) → ¬cond0_1 (grid0.coords t) → (cfg0.win 9).flush t = false := by decide +kernel
/-- At the points of case B the printed configuration (`Cfg.idle`) calls output 9 idle: the case stores nothing into it. -/
theorem idleAt0_9_B : ∀ t : Fin cfg0.N, ¬cond0_0 (grid0.coords t) → ¬cond0_1 (grid0.coords t) → cfg0.idle 9 (grid0.coords t) = true := by decide +kernel
/-- At the points of case B the pipeline does not write output 9's block back. -/
theorem noFlush0_9_B : ∀ t : Fin cfg0.N, ¬cond0_0 (grid0.coords t) → ¬cond0_1 (grid0.coords t) → (cfg0.win 9).flush t = false := by decide +kernel
/-- At the points of case C the printed configuration (`Cfg.idle`) calls output 9 live: the case stores into it. -/
theorem liveAt0_9_C : ∀ t : Fin cfg0.N, ¬cond0_0 (grid0.coords t) → cond0_1 (grid0.coords t) → cfg0.idle 9 (grid0.coords t) = false := by decide +kernel

/-! ## The kernel body on any staging memrefs: a subtype the run finds -/

/-- One staging buffer of output window 6, through which its contents are stated (`View.read_writes_of_cover`: the
    choice does not matter). -/
abbrev VO0_6 : View sig .tc .vmem S768x512 .f32 := (Memref.whole cc0_stg6_0 : Memref sig .tc .vmem S768x512 .f32).view
/-- One staging buffer of output window 7, through which its contents are stated (`View.read_writes_of_cover`: the
    choice does not matter). -/
abbrev VO0_7 : View sig .tc .vmem S768x512 .bf16 := (Memref.whole cc0_stg7_0 : Memref sig .tc .vmem S768x512 .bf16).view
/-- One staging buffer of output window 8, through which its contents are stated (`View.read_writes_of_cover`: the
    choice does not matter). -/
abbrev VO0_8 : View sig .tc .vmem S768x7168 .fp8e4m3 := (Memref.whole cc0_stg8_0 : Memref sig .tc .vmem S768x7168 .fp8e4m3).view
/-- One staging buffer of output window 9, through which its contents are stated (`View.read_writes_of_cover`: the
    choice does not matter). -/
abbrev VO0_9 : View sig .tc .vmem S768x128 .f32 := (Memref.whole cc0_stg9_0 : Memref sig .tc .vmem S768x128 .f32).view
/-- Each window's current staging memref at point `t`, spelled as the pipeline passes it (`bodyAt0`), and its wholeness. -/
abbrev ms0_0 (t : Fin cfg0.N) : Memref sig .tc .vmem S768x5376 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5376x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x7168 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S768x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S768x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S768x7168 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S768x128 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S14x768x512 .f32 := Memref.whole cc0_scratch0
abbrev scM0_1 : Memref sig .tc .vmem S768x128 .f32 := Memref.whole cc0_scratch1
/-- The scratch `arg12` the kernel carries between points, as a view: what it holds is stated through it. -/
abbrev VS0_1 : View sig .tc .vmem S768x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

set_option maxHeartbeats 1000000 in
/-- What the body's stores leave AT THE FIRST POINT, as lists of pieces, last first: in each output's buffer, in the scratch of all blocks
    (over its earlier contents `xs0`) and in the scratch of sums of squares; with the proof that the body, run on whole
    buffers holding the inputs' blocks, ends with those pieces written. The lists are the run's own finds. -/
noncomputable def kernelRun0_A (c : Dev nD) (i : grid0.Coords) (arg1 : Memref sig .tc .vmem S768x5376 .fp8e4m3) (harg1 : arg1.IsWhole) (arg2 : Memref sig .tc .vmem S768x128 .f32) (harg2 : arg2.IsWhole) (arg3 : Memref sig .tc .vmem S5376x512 .fp8e4m3) (harg3 : arg3.IsWhole) (arg4 : Memref sig .tc .vmem S1x512 .f32) (harg4 : arg4.IsWhole) (arg5 : Memref sig .tc .vmem S768x512 .bf16) (harg5 : arg5.IsWhole) (arg6 : Memref sig .tc .vmem S1x7168 .f32) (harg6 : arg6.IsWhole) (arg7 : Memref sig .tc .vmem S768x512 .f32) (harg7 : arg7.IsWhole) (arg8 : Memref sig .tc .vmem S768x512 .bf16) (harg8 : arg8.IsWhole) (arg9 : Memref sig .tc .vmem S768x7168 .fp8e4m3) (harg9 : arg9.IsWhole) (arg10 : Memref sig .tc .vmem S768x128 .f32) (harg10 : arg10.IsWhole) (arg11 : Memref sig .tc .vmem S14x768x512 .f32) (harg11 : arg11.IsWhole) (arg12 : Memref sig .tc .vmem S768x128 .f32) (harg12 : arg12.IsWhole) (hc0 : cond0_0 i) (hc1 : ¬cond0_1 i)
    (x0 : Vec F S768x5376 .fp8e4m3) (x1 : Vec F S768x128 .f32) (x2 : Vec F S5376x512 .fp8e4m3) (x3 : Vec F S1x512 .f32) (x4 : Vec F S768x512 .bf16) (x5 : Vec F S1x7168 .f32) (xs0 : Vec F S14x768x512 .f32) :
    Σ' (L6 : List (View.Piece (Elt F) S768x512 .f32)), Σ' (L7 : List (View.Piece (Elt F) S768x512 .bf16)), Σ' (L8 : List (View.Piece (Elt F) S768x7168 .fp8e4m3)), Σ' (L9 : List (View.Piece (Elt F) S768x128 .f32)), Σ' (LS0 : List (View.Piece (Elt F) S14x768x512 .f32)), { LS1 : List (View.Piece (Elt F) S768x128 .f32) //
      ∀ (xi8 : Vec F S768x7168 .fp8e4m3) (xi9 : Vec F S768x128 .f32) (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xi8 ∗ owns (c : Thread nD τ) arg10 fullShare xi9 ∗ owns (c : Thread nD τ) arg11 fullShare xs0 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xi8 ∗ owns (c : Thread nD τ) arg10 fullShare xi9 ∗ (arg11.view.loc (c : Thread nD τ) ↦[arg11.view.set]{fullShare} arg11.view.writes (Elt F) (harg11.unread xs0) LS0) ∗ (∃ f, arg12.view.loc (c : Thread nD τ) ↦[arg12.view.set]{fullShare} arg12.view.writes (Elt F) f LS1)) -∗ K ⟨⟩))
          ⊢ wp frame (wpE (defs₀ (F := F)) Variants.none c none) E (cc0_oproj i arg1 harg1 arg2 harg2 arg3 harg3 arg4 harg4 arg5 harg5 arg6 harg6 arg7 harg7 arg8 harg8 arg9 harg9 arg10 harg10 arg11 harg11 arg12 harg12) K } := by
  refine ⟨?_,  ?_, [], [], ?_, ?_, fun xi8 xi9 E K => ?run⟩
  case run =>
    simp only [cc0_oproj_eq_skeleton]; unfold cc0_oproj_skel
    simp only [k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf8; obtain rfl := harg10.eq_unread hf9; obtain rfl := harg11.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]
    · iexists _; isplitr; · ipureintro; exact harg9.read_unread _
      iexact H8
    isplitl [H9]
    · iexists _; isplitr; · ipureintro; exact harg10.read_unread _
      iexact H9
    isplitl [HS0]; · iexact HS0
    iexists _; iexact HS1

set_option maxHeartbeats 1000000 in
/-- What the body's stores leave AT A MIDDLE POINT, as lists of pieces, last first: in each output's buffer, in the scratch of all blocks
    (over its earlier contents `xs0`) and in the scratch of sums of squares; with the proof that the body, run on whole
    buffers holding the inputs' blocks, ends with those pieces written. The lists are the run's own finds. -/
noncomputable def kernelRun0_B (c : Dev nD) (i : grid0.Coords) (arg1 : Memref sig .tc .vmem S768x5376 .fp8e4m3) (harg1 : arg1.IsWhole) (arg2 : Memref sig .tc .vmem S768x128 .f32) (harg2 : arg2.IsWhole) (arg3 : Memref sig .tc .vmem S5376x512 .fp8e4m3) (harg3 : arg3.IsWhole) (arg4 : Memref sig .tc .vmem S1x512 .f32) (harg4 : arg4.IsWhole) (arg5 : Memref sig .tc .vmem S768x512 .bf16) (harg5 : arg5.IsWhole) (arg6 : Memref sig .tc .vmem S1x7168 .f32) (harg6 : arg6.IsWhole) (arg7 : Memref sig .tc .vmem S768x512 .f32) (harg7 : arg7.IsWhole) (arg8 : Memref sig .tc .vmem S768x512 .bf16) (harg8 : arg8.IsWhole) (arg9 : Memref sig .tc .vmem S768x7168 .fp8e4m3) (harg9 : arg9.IsWhole) (arg10 : Memref sig .tc .vmem S768x128 .f32) (harg10 : arg10.IsWhole) (arg11 : Memref sig .tc .vmem S14x768x512 .f32) (harg11 : arg11.IsWhole) (arg12 : Memref sig .tc .vmem S768x128 .f32) (harg12 : arg12.IsWhole) (hc0 : ¬cond0_0 i) (hc1 : ¬cond0_1 i)
    (x0 : Vec F S768x5376 .fp8e4m3) (x1 : Vec F S768x128 .f32) (x2 : Vec F S5376x512 .fp8e4m3) (x3 : Vec F S1x512 .f32) (x4 : Vec F S768x512 .bf16) (x5 : Vec F S1x7168 .f32) (xs0 : Vec F S14x768x512 .f32) (xs1 : Vec F S768x128 .f32) :
    Σ' (L6 : List (View.Piece (Elt F) S768x512 .f32)), Σ' (L7 : List (View.Piece (Elt F) S768x512 .bf16)), Σ' (L8 : List (View.Piece (Elt F) S768x7168 .fp8e4m3)), Σ' (L9 : List (View.Piece (Elt F) S768x128 .f32)), Σ' (LS0 : List (View.Piece (Elt F) S14x768x512 .f32)), { LS1 : List (View.Piece (Elt F) S768x128 .f32) //
      ∀ (xi8 : Vec F S768x7168 .fp8e4m3) (xi9 : Vec F S768x128 .f32) (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xi8 ∗ owns (c : Thread nD τ) arg10 fullShare xi9 ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xi8 ∗ owns (c : Thread nD τ) arg10 fullShare xi9 ∗ (arg11.view.loc (c : Thread nD τ) ↦[arg11.view.set]{fullShare} arg11.view.writes (Elt F) (harg11.unread xs0) LS0) ∗ (∃ f, arg12.view.loc (c : Thread nD τ) ↦[arg12.view.set]{fullShare} arg12.view.writes (Elt F) f LS1)) -∗ K ⟨⟩))
          ⊢ wp frame (wpE (defs₀ (F := F)) Variants.none c none) E (cc0_oproj i arg1 harg1 arg2 harg2 arg3 harg3 arg4 harg4 arg5 harg5 arg6 harg6 arg7 harg7 arg8 harg8 arg9 harg9 arg10 harg10 arg11 harg11 arg12 harg12) K } := by
  refine ⟨?_,  ?_, [], [], ?_, ?_, fun xi8 xi9 E K => ?run⟩
  case run =>
    simp only [cc0_oproj_eq_skeleton]; unfold cc0_oproj_skel
    simp only [k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf8; obtain rfl := harg10.eq_unread hf9; obtain rfl := harg12.eq_unread hfs1; obtain rfl := harg11.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]
    · iexists _; isplitr; · ipureintro; exact harg9.read_unread _
      iexact H8
    isplitl [H9]
    · iexists _; isplitr; · ipureintro; exact harg10.read_unread _
      iexact H9
    isplitl [HS0]; · iexact HS0
    iexists _; iexact HS1

set_option maxHeartbeats 1000000 in
/-- What the body's stores leave AT THE LAST POINT, as lists of pieces, last first: in each output's buffer, in the scratch of all blocks
    (over its earlier contents `xs0`) and in the scratch of sums of squares; with the proof that the body, run on whole
    buffers holding the inputs' blocks, ends with those pieces written. The lists are the run's own finds. -/
noncomputable def kernelRun0_C (c : Dev nD) (i : grid0.Coords) (arg1 : Memref sig .tc .vmem S768x5376 .fp8e4m3) (harg1 : arg1.IsWhole) (arg2 : Memref sig .tc .vmem S768x128 .f32) (harg2 : arg2.IsWhole) (arg3 : Memref sig .tc .vmem S5376x512 .fp8e4m3) (harg3 : arg3.IsWhole) (arg4 : Memref sig .tc .vmem S1x512 .f32) (harg4 : arg4.IsWhole) (arg5 : Memref sig .tc .vmem S768x512 .bf16) (harg5 : arg5.IsWhole) (arg6 : Memref sig .tc .vmem S1x7168 .f32) (harg6 : arg6.IsWhole) (arg7 : Memref sig .tc .vmem S768x512 .f32) (harg7 : arg7.IsWhole) (arg8 : Memref sig .tc .vmem S768x512 .bf16) (harg8 : arg8.IsWhole) (arg9 : Memref sig .tc .vmem S768x7168 .fp8e4m3) (harg9 : arg9.IsWhole) (arg10 : Memref sig .tc .vmem S768x128 .f32) (harg10 : arg10.IsWhole) (arg11 : Memref sig .tc .vmem S14x768x512 .f32) (harg11 : arg11.IsWhole) (arg12 : Memref sig .tc .vmem S768x128 .f32) (harg12 : arg12.IsWhole) (hc0 : ¬cond0_0 i) (hc1 : cond0_1 i)
    (x0 : Vec F S768x5376 .fp8e4m3) (x1 : Vec F S768x128 .f32) (x2 : Vec F S5376x512 .fp8e4m3) (x3 : Vec F S1x512 .f32) (x4 : Vec F S768x512 .bf16) (x5 : Vec F S1x7168 .f32) (xs0 : Vec F S14x768x512 .f32) (xs1 : Vec F S768x128 .f32) :
    Σ' (L6 : List (View.Piece (Elt F) S768x512 .f32)), Σ' (L7 : List (View.Piece (Elt F) S768x512 .bf16)), Σ' (L8 : List (View.Piece (Elt F) S768x7168 .fp8e4m3)), Σ' (L9 : List (View.Piece (Elt F) S768x128 .f32)), Σ' (LS0 : List (View.Piece (Elt F) S14x768x512 .f32)), { LS1 : List (View.Piece (Elt F) S768x128 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (arg11.view.loc (c : Thread nD τ) ↦[arg11.view.set]{fullShare} arg11.view.writes (Elt F) (harg11.unread xs0) LS0) ∗ (∃ f, arg12.view.loc (c : Thread nD τ) ↦[arg12.view.set]{fullShare} arg12.view.writes (Elt F) f LS1)) -∗ K ⟨⟩))
          ⊢ wp frame (wpE (defs₀ (F := F)) Variants.none c none) E (cc0_oproj i arg1 harg1 arg2 harg2 arg3 harg3 arg4 harg4 arg5 harg5 arg6 harg6 arg7 harg7 arg8 harg8 arg9 harg9 arg10 harg10 arg11 harg11 arg12 harg12) K } := by
  refine ⟨?_, ?_,  ?_, ?_, ?_, ?_, fun E K => ?run⟩
  case run =>
    simp only [cc0_oproj_eq_skeleton]; unfold cc0_oproj_skel
    simp only [k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg12.eq_unread hfs1; obtain rfl := harg11.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    isplitl [HS0]; · iexact HS0
    iexists _; iexact HS1

end Cert.Oproj.Gen

end
-- ==== Proof.OprojFrame.lean ====
/-
  WHAT THE OUTPUT-PROJECTION KERNEL LEAVES AT EACH POINT, in closed form: the block of `x + attention·w_o`, the same in bf16, that
  block kept in the scratch of all fourteen, and the sums of squares raised by the block's; at the last point the pieces its loop
  over the rows writes. From these the proof data of the pipeline, the body's triple at every point, and the frame: every run ends
  with the arguments unchanged and the counters at zero, and the outputs at what the points left.
-/
module

public import proofs.«01_k».proof.Proof.OprojRuns
public import Idealize.ShloMosaic.Lib.VecWindow
public import Idealize.ShloMosaic.Lib.Pipeline.Value
public import Idealize.ShloMosaic.Lib.Claim

@[expose] public section

set_option maxRecDepth 16384

noncomputable section

namespace Cert.Oproj.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The values -/

theorem offs_zero : (![0, 0] : Fin 2 → ℕ) = fun _ => 0 := by funext a; fin_cases a <;> rfl

/-- One block of the sum: the attention codes times the block's weights, scaled, over the block of `x`. -/
def hval (x0 : Vec F S768x5376 .fp8e4m3) (x1 : Vec F S768x128 .f32) (x2 : Vec F S5376x512 .fp8e4m3) (x3 : Vec F S1x512 .f32)
    (x4 : Vec F S768x512 .bf16) : FVec F S768x512 .f32 :=
  k0_pay35 x0 x2 x4 (View.ld x1 (Rect.unit ![0, 0] ![768, 1] inb_S768x128_S768x1_0_0)) x3

/-- The same in bf16. -/
def hbval (x0 : Vec F S768x5376 .fp8e4m3) (x1 : Vec F S768x128 .f32) (x2 : Vec F S5376x512 .fp8e4m3) (x3 : Vec F S1x512 .f32)
    (x4 : Vec F S768x512 .bf16) : FVec F S768x512 .bf16 :=
  k0_pay36 x0 x2 x4 (View.ld x1 (Rect.unit ![0, 0] ![768, 1] inb_S768x128_S768x1_0_0)) x3

/-- The same as one slab of the scratch. -/
def slab (x0 : Vec F S768x5376 .fp8e4m3) (x1 : Vec F S768x128 .f32) (x2 : Vec F S5376x512 .fp8e4m3) (x3 : Vec F S1x512 .f32)
    (x4 : Vec F S768x512 .bf16) : FVec F S1x768x512 .f32 :=
  k0_pay37 x0 x2 x4 (View.ld x1 (Rect.unit ![0, 0] ![768, 1] inb_S768x128_S768x1_0_0)) x3

/-- The sums of squares on 128 lanes, raised by the block's. -/
def ssqval (x0 : Vec F S768x5376 .fp8e4m3) (x1 : Vec F S768x128 .f32) (x2 : Vec F S5376x512 .fp8e4m3) (x3 : Vec F S1x512 .f32)
    (x4 : Vec F S768x512 .bf16) (p : Vec F S768x128 .f32) : FVec F S768x128 .f32 :=
  k0_pay1 (k0_pay39 x0 x2 x4 (View.ld x1 (Rect.unit ![0, 0] ![768, 1] inb_S768x128_S768x1_0_0)) x3 p)

/-- The scratch of all blocks after the point at `i` has stored its own. -/
def putAt (i : grid0.Coords) (A : Vec F S14x768x512 .f32) (w : Vec F S1x768x512 .f32) : Vec F S14x768x512 .f32 :=
  VecWindow.put A ![(i 0).val, 0, 0] S1x768x512.size w

section Body

variable {c : Dev nD} {i : grid0.Coords} {arg1 : Memref sig .tc .vmem S768x5376 .fp8e4m3} {harg1 : arg1.IsWhole} {arg2 : Memref sig .tc .vmem S768x128 .f32} {harg2 : arg2.IsWhole} {arg3 : Memref sig .tc .vmem S5376x512 .fp8e4m3} {harg3 : arg3.IsWhole} {arg4 : Memref sig .tc .vmem S1x512 .f32} {harg4 : arg4.IsWhole} {arg5 : Memref sig .tc .vmem S768x512 .bf16} {harg5 : arg5.IsWhole} {arg6 : Memref sig .tc .vmem S1x7168 .f32} {harg6 : arg6.IsWhole} {arg7 : Memref sig .tc .vmem S768x512 .f32} {harg7 : arg7.IsWhole} {arg8 : Memref sig .tc .vmem S768x512 .bf16} {harg8 : arg8.IsWhole} {arg9 : Memref sig .tc .vmem S768x7168 .fp8e4m3} {harg9 : arg9.IsWhole} {arg10 : Memref sig .tc .vmem S768x128 .f32} {harg10 : arg10.IsWhole} {arg11 : Memref sig .tc .vmem S14x768x512 .f32} {harg11 : arg11.IsWhole} {arg12 : Memref sig .tc .vmem S768x128 .f32} {harg12 : arg12.IsWhole}
  {x0 : Vec F S768x5376 .fp8e4m3} {x1 : Vec F S768x128 .f32} {x2 : Vec F S5376x512 .fp8e4m3} {x3 : Vec F S1x512 .f32} {x4 : Vec F S768x512 .bf16} {x5 : Vec F S1x7168 .f32} {xs0 : Vec F S14x768x512 .f32}

theorem runA_6 (hc0 : cond0_0 i) (hc1 : ¬cond0_1 i) (v : View sig .tc .vmem S768x512 .f32) (f : v.ty.Contents (Elt F)) :
    v.read (Elt F) (v.writes (Elt F) f (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0).1) = hval x0 x1 x2 x3 x4 := by
  unfold kernelRun0_A
  dsimp only
  sl_unfold_words
  rw [View.read_writes_full]
  simp only [View.readAt_eq_ld, harg1.read_unread, harg2.read_unread, harg3.read_unread, harg4.read_unread, harg5.read_unread, harg12.read_unread, View.ld_unit_zero (S := S768x5376) offs_zero, View.ld_unit_zero (S := S5376x512) offs_zero, View.ld_unit_zero (S := S1x512) offs_zero, View.ld_unit_zero (S := S768x512) offs_zero, View.ld_unit_zero (S := S768x128) offs_zero]
  rfl

theorem runA_7 (hc0 : cond0_0 i) (hc1 : ¬cond0_1 i) (v : View sig .tc .vmem S768x512 .bf16) (f : v.ty.Contents (Elt F)) :
    v.read (Elt F) (v.writes (Elt F) f (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0).2.1) = hbval x0 x1 x2 x3 x4 := by
  unfold kernelRun0_A
  dsimp only
  sl_unfold_words
  rw [View.read_writes_full]
  simp only [View.readAt_eq_ld, harg1.read_unread, harg2.read_unread, harg3.read_unread, harg4.read_unread, harg5.read_unread, harg12.read_unread, View.ld_unit_zero (S := S768x5376) offs_zero, View.ld_unit_zero (S := S5376x512) offs_zero, View.ld_unit_zero (S := S1x512) offs_zero, View.ld_unit_zero (S := S768x512) offs_zero, View.ld_unit_zero (S := S768x128) offs_zero]
  rfl

theorem runA_s0 (hc0 : cond0_0 i) (hc1 : ¬cond0_1 i) :
    arg11.view.writes (Elt F) (harg11.unread xs0) (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0).2.2.2.2.1 = harg11.unread (putAt i xs0 (slab x0 x1 x2 x3 x4)) := by
  refine harg11.eq_unread ?_
  unfold kernelRun0_A
  dsimp only
  sl_unfold_words
  refine (View.read_writes_cons_put _ _ _ _ _ (k0_off1_eq i)).trans ?_
  rw [View.writes_nil, harg11.read_unread]
  simp only [View.readAt_eq_ld, harg1.read_unread, harg2.read_unread, harg3.read_unread, harg4.read_unread, harg5.read_unread, harg12.read_unread, View.ld_unit_zero (S := S768x5376) offs_zero, View.ld_unit_zero (S := S5376x512) offs_zero, View.ld_unit_zero (S := S1x512) offs_zero, View.ld_unit_zero (S := S768x512) offs_zero, View.ld_unit_zero (S := S768x128) offs_zero]
  rfl

theorem runA_s1 (hc0 : cond0_0 i) (hc1 : ¬cond0_1 i) (v : View sig .tc .vmem S768x128 .f32) (f : v.ty.Contents (Elt F)) :
    v.read (Elt F) (v.writes (Elt F) f (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0).2.2.2.2.2.1) = ssqval x0 x1 x2 x3 x4 (k0_pay38 (F := F)) := by
  unfold kernelRun0_A
  dsimp only
  sl_unfold_words
  rw [View.read_writes_full]
  rw [View.readCov_unit_zero (S := S768x128) _ offs_zero]
  simp only [View.readAt_eq_ld, harg1.read_unread, harg2.read_unread, harg3.read_unread, harg4.read_unread, harg5.read_unread, harg12.read_unread, View.ld_unit_zero (S := S768x5376) offs_zero, View.ld_unit_zero (S := S5376x512) offs_zero, View.ld_unit_zero (S := S1x512) offs_zero, View.ld_unit_zero (S := S768x512) offs_zero, View.ld_unit_zero (S := S768x128) offs_zero]
  rfl

theorem runB_6 (hc0 : ¬cond0_0 i) (hc1 : ¬cond0_1 i) (xs1 : Vec F S768x128 .f32) (v : View sig .tc .vmem S768x512 .f32) (f : v.ty.Contents (Elt F)) :
    v.read (Elt F) (v.writes (Elt F) f (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).1) = hval x0 x1 x2 x3 x4 := by
  unfold kernelRun0_B
  dsimp only
  sl_unfold_words
  rw [View.read_writes_full]
  simp only [View.readAt_eq_ld, harg1.read_unread, harg2.read_unread, harg3.read_unread, harg4.read_unread, harg5.read_unread, harg12.read_unread, View.ld_unit_zero (S := S768x5376) offs_zero, View.ld_unit_zero (S := S5376x512) offs_zero, View.ld_unit_zero (S := S1x512) offs_zero, View.ld_unit_zero (S := S768x512) offs_zero, View.ld_unit_zero (S := S768x128) offs_zero]
  rfl

theorem runB_7 (hc0 : ¬cond0_0 i) (hc1 : ¬cond0_1 i) (xs1 : Vec F S768x128 .f32) (v : View sig .tc .vmem S768x512 .bf16) (f : v.ty.Contents (Elt F)) :
    v.read (Elt F) (v.writes (Elt F) f (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1) = hbval x0 x1 x2 x3 x4 := by
  unfold kernelRun0_B
  dsimp only
  sl_unfold_words
  rw [View.read_writes_full]
  simp only [View.readAt_eq_ld, harg1.read_unread, harg2.read_unread, harg3.read_unread, harg4.read_unread, harg5.read_unread, harg12.read_unread, View.ld_unit_zero (S := S768x5376) offs_zero, View.ld_unit_zero (S := S5376x512) offs_zero, View.ld_unit_zero (S := S1x512) offs_zero, View.ld_unit_zero (S := S768x512) offs_zero, View.ld_unit_zero (S := S768x128) offs_zero]
  rfl

theorem runB_s0 (hc0 : ¬cond0_0 i) (hc1 : ¬cond0_1 i) (xs1 : Vec F S768x128 .f32) :
    arg11.view.writes (Elt F) (harg11.unread xs0) (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1 = harg11.unread (putAt i xs0 (slab x0 x1 x2 x3 x4)) := by
  refine harg11.eq_unread ?_
  unfold kernelRun0_B
  dsimp only
  sl_unfold_words
  refine (View.read_writes_cons_put _ _ _ _ _ (k0_off1_eq i)).trans ?_
  rw [View.writes_nil, harg11.read_unread]
  simp only [View.readAt_eq_ld, harg1.read_unread, harg2.read_unread, harg3.read_unread, harg4.read_unread, harg5.read_unread, harg12.read_unread, View.ld_unit_zero (S := S768x5376) offs_zero, View.ld_unit_zero (S := S5376x512) offs_zero, View.ld_unit_zero (S := S1x512) offs_zero, View.ld_unit_zero (S := S768x512) offs_zero, View.ld_unit_zero (S := S768x128) offs_zero]
  rfl

theorem runB_s1 (hc0 : ¬cond0_0 i) (hc1 : ¬cond0_1 i) (xs1 : Vec F S768x128 .f32) (v : View sig .tc .vmem S768x128 .f32) (f : v.ty.Contents (Elt F)) :
    v.read (Elt F) (v.writes (Elt F) f (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.2.1) = ssqval x0 x1 x2 x3 x4 xs1 := by
  unfold kernelRun0_B
  dsimp only
  sl_unfold_words
  rw [View.read_writes_full]

  simp only [View.readAt_eq_ld, harg1.read_unread, harg2.read_unread, harg3.read_unread, harg4.read_unread, harg5.read_unread, harg12.read_unread, View.ld_unit_zero (S := S768x5376) offs_zero, View.ld_unit_zero (S := S5376x512) offs_zero, View.ld_unit_zero (S := S1x512) offs_zero, View.ld_unit_zero (S := S768x512) offs_zero, View.ld_unit_zero (S := S768x128) offs_zero]
  rfl

theorem runC_6 (hc0 : ¬cond0_0 i) (hc1 : cond0_1 i) (xs1 : Vec F S768x128 .f32) (v : View sig .tc .vmem S768x512 .f32) (f : v.ty.Contents (Elt F)) :
    v.read (Elt F) (v.writes (Elt F) f (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).1) = hval x0 x1 x2 x3 x4 := by
  unfold kernelRun0_C
  dsimp only
  sl_unfold_words
  rw [View.read_writes_full]
  simp only [View.readAt_eq_ld, harg1.read_unread, harg2.read_unread, harg3.read_unread, harg4.read_unread, harg5.read_unread, harg12.read_unread, View.ld_unit_zero (S := S768x5376) offs_zero, View.ld_unit_zero (S := S5376x512) offs_zero, View.ld_unit_zero (S := S1x512) offs_zero, View.ld_unit_zero (S := S768x512) offs_zero, View.ld_unit_zero (S := S768x128) offs_zero]
  rfl

theorem runC_7 (hc0 : ¬cond0_0 i) (hc1 : cond0_1 i) (xs1 : Vec F S768x128 .f32) (v : View sig .tc .vmem S768x512 .bf16) (f : v.ty.Contents (Elt F)) :
    v.read (Elt F) (v.writes (Elt F) f (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1) = hbval x0 x1 x2 x3 x4 := by
  unfold kernelRun0_C
  dsimp only
  sl_unfold_words
  rw [View.read_writes_full]
  simp only [View.readAt_eq_ld, harg1.read_unread, harg2.read_unread, harg3.read_unread, harg4.read_unread, harg5.read_unread, harg12.read_unread, View.ld_unit_zero (S := S768x5376) offs_zero, View.ld_unit_zero (S := S5376x512) offs_zero, View.ld_unit_zero (S := S1x512) offs_zero, View.ld_unit_zero (S := S768x512) offs_zero, View.ld_unit_zero (S := S768x128) offs_zero]
  rfl

theorem runC_s0 (hc0 : ¬cond0_0 i) (hc1 : cond0_1 i) (xs1 : Vec F S768x128 .f32) :
    arg11.view.writes (Elt F) (harg11.unread xs0) (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1 = harg11.unread (putAt i xs0 (slab x0 x1 x2 x3 x4)) := by
  refine harg11.eq_unread ?_
  unfold kernelRun0_C
  dsimp only
  sl_unfold_words
  refine (View.read_writes_cons_put _ _ _ _ _ (k0_off1_eq i)).trans ?_
  rw [View.writes_nil, harg11.read_unread]
  simp only [View.readAt_eq_ld, harg1.read_unread, harg2.read_unread, harg3.read_unread, harg4.read_unread, harg5.read_unread, harg12.read_unread, View.ld_unit_zero (S := S768x5376) offs_zero, View.ld_unit_zero (S := S5376x512) offs_zero, View.ld_unit_zero (S := S1x512) offs_zero, View.ld_unit_zero (S := S768x512) offs_zero, View.ld_unit_zero (S := S768x128) offs_zero]
  rfl

theorem runC_s1 (hc0 : ¬cond0_0 i) (hc1 : cond0_1 i) (xs1 : Vec F S768x128 .f32) (v : View sig .tc .vmem S768x128 .f32) (f : v.ty.Contents (Elt F)) :
    v.read (Elt F) (v.writes (Elt F) f (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.2.1) = ssqval x0 x1 x2 x3 x4 xs1 := by
  unfold kernelRun0_C
  dsimp only
  sl_unfold_words
  rw [View.read_writes_full]

  simp only [View.readAt_eq_ld, harg1.read_unread, harg2.read_unread, harg3.read_unread, harg4.read_unread, harg5.read_unread, harg12.read_unread, View.ld_unit_zero (S := S768x5376) offs_zero, View.ld_unit_zero (S := S5376x512) offs_zero, View.ld_unit_zero (S := S1x512) offs_zero, View.ld_unit_zero (S := S768x512) offs_zero, View.ld_unit_zero (S := S768x128) offs_zero]
  rfl

/-- The pieces the last point's loop writes into output 8: the scratches it reads hold all blocks and all sums. -/
theorem runC_8 (hc0 : ¬cond0_0 i) (hc1 : cond0_1 i) (xs1 : Vec F S768x128 .f32) :
    (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1
      = (pb_k0_t1 (F := F) Variants.none c none i arg1 harg1 arg2 harg2 arg3 harg3 arg4 harg4 arg5 harg5 arg6 harg6 arg7 harg7 arg8 harg8 arg9 harg9 arg10 harg10 arg11 harg11 arg12 harg12 hc1 (harg6.unread x5) (harg11.unread (putAt i xs0 (slab x0 x1 x2 x3 x4))) (harg12.unread (Val := Elt F) (ssqval x0 x1 x2 x3 x4 xs1)) k0_t1_loop.trips).1 := by
  have e : arg12.view.writes (Elt F) arg12.view.junk (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.2.1 = harg12.unread (ssqval x0 x1 x2 x3 x4 xs1) :=
    harg12.eq_unread (runC_s1 hc0 hc1 xs1 _ _)
  have e0 : arg11.view.writes (Elt F) (harg11.unread xs0) (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1 = harg11.unread (putAt i xs0 (slab x0 x1 x2 x3 x4)) :=
    runC_s0 hc0 hc1 xs1
  exact congrArg₂ (fun X Y => (pb_k0_t1 (F := F) Variants.none c none i arg1 harg1 arg2 harg2 arg3 harg3 arg4 harg4 arg5 harg5 arg6 harg6 arg7 harg7 arg8 harg8 arg9 harg9 arg10 harg10 arg11 harg11 arg12 harg12 hc1 (harg6.unread x5) X Y k0_t1_loop.trips).1) e0 e

/-- The pieces the last point's loop writes into output 9: the scratches it reads hold all blocks and all sums. -/
theorem runC_9 (hc0 : ¬cond0_0 i) (hc1 : cond0_1 i) (xs1 : Vec F S768x128 .f32) :
    (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1
      = (pb_k0_t1 (F := F) Variants.none c none i arg1 harg1 arg2 harg2 arg3 harg3 arg4 harg4 arg5 harg5 arg6 harg6 arg7 harg7 arg8 harg8 arg9 harg9 arg10 harg10 arg11 harg11 arg12 harg12 hc1 (harg6.unread x5) (harg11.unread (putAt i xs0 (slab x0 x1 x2 x3 x4))) (harg12.unread (Val := Elt F) (ssqval x0 x1 x2 x3 x4 xs1)) k0_t1_loop.trips).2 := by
  have e : arg12.view.writes (Elt F) arg12.view.junk (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.2.1 = harg12.unread (ssqval x0 x1 x2 x3 x4 xs1) :=
    harg12.eq_unread (runC_s1 hc0 hc1 xs1 _ _)
  have e0 : arg11.view.writes (Elt F) (harg11.unread xs0) (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1 = harg11.unread (putAt i xs0 (slab x0 x1 x2 x3 x4)) :=
    runC_s0 hc0 hc1 xs1
  exact congrArg₂ (fun X Y => (pb_k0_t1 (F := F) Variants.none c none i arg1 harg1 arg2 harg2 arg3 harg3 arg4 harg4 arg5 harg5 arg6 harg6 arg7 harg7 arg8 harg8 arg9 harg9 arg10 harg10 arg11 harg11 arg12 harg12 hc1 (harg6.unread x5) X Y k0_t1_loop.trips).2) e0 e

/-- The pieces the loop writes into output 8 cover it. -/
theorem loop_cover8 (hc1 : cond0_1 i) (X6 : BufTy.Contents (Elt F) arg6.view.ty) (X11 : BufTy.Contents (Elt F) arg11.view.ty)
    (X12 : BufTy.Contents (Elt F) arg12.view.ty) (y : S768x7168.Idx) :
    ∃ pc ∈ (pb_k0_t1 (F := F) Variants.none c none i arg1 harg1 arg2 harg2 arg3 harg3 arg4 harg4 arg5 harg5 arg6 harg6 arg7 harg7 arg8 harg8 arg9 harg9 arg10 harg10 arg11 harg11 arg12 harg12 hc1 X6 X11 X12 k0_t1_loop.trips).1, y ∈ pc.1.set :=
  View.cover_of_tiledL (pb_k0_t1 (F := F) Variants.none c none i arg1 harg1 arg2 harg2 arg3 harg3 arg4 harg4 arg5 harg5 arg6 harg6 arg7 harg7 arg8 harg8 arg9 harg9 arg10 harg10 arg11 harg11 arg12 harg12 hc1 X6 X11 X12 k0_t1_loop.trips).1 S64x512.size (by sl_kernel_rfl) y

/-- The pieces the loop writes into output 9 cover it. -/
theorem loop_cover9 (hc1 : cond0_1 i) (X6 : BufTy.Contents (Elt F) arg6.view.ty) (X11 : BufTy.Contents (Elt F) arg11.view.ty)
    (X12 : BufTy.Contents (Elt F) arg12.view.ty) (y : S768x128.Idx) :
    ∃ pc ∈ (pb_k0_t1 (F := F) Variants.none c none i arg1 harg1 arg2 harg2 arg3 harg3 arg4 harg4 arg5 harg5 arg6 harg6 arg7 harg7 arg8 harg8 arg9 harg9 arg10 harg10 arg11 harg11 arg12 harg12 hc1 X6 X11 X12 k0_t1_loop.trips).2, y ∈ pc.1.set :=
  View.cover_of_tiledL (pb_k0_t1 (F := F) Variants.none c none i arg1 harg1 arg2 harg2 arg3 harg3 arg4 harg4 arg5 harg5 arg6 harg6 arg7 harg7 arg8 harg8 arg9 harg9 arg10 harg10 arg11 harg11 arg12 harg12 hc1 X6 X11 X12 k0_t1_loop.trips).2 S64x128.size (by sl_kernel_rfl) y

end Body

variable (m : (ℓ : Loc nD τ sig) → Buf (Elt F) ℓ) (ρ : Dev nD → PrngReg)

/-! ## What the buffers hold, point by point -/

/-- The block of the sum point `t` makes. -/
abbrev hAt (c : Dev nD) (t : Fin cfg0.N) : FVec F S768x512 .f32 := hval (iblk m c 0 t) (iblk m c 1 t) (iblk m c 2 t) (iblk m c 3 t) (iblk m c 4 t)
/-- The same in bf16. -/
abbrev hbAt (c : Dev nD) (t : Fin cfg0.N) : FVec F S768x512 .bf16 := hbval (iblk m c 0 t) (iblk m c 1 t) (iblk m c 2 t) (iblk m c 3 t) (iblk m c 4 t)
/-- The same as a slab of the scratch. -/
abbrev slabAt (c : Dev nD) (t : Fin cfg0.N) : FVec F S1x768x512 .f32 := slab (iblk m c 0 t) (iblk m c 1 t) (iblk m c 2 t) (iblk m c 3 t) (iblk m c 4 t)

/-- The sums of squares after point `n`: cleared at the first, raised at every one. -/
def ssqAt (c : Dev nD) : (n : ℕ) → n < cfg0.N → Vec F S768x128 .f32
  | 0, h => ssqval (iblk m c 0 ⟨0, h⟩) (iblk m c 1 ⟨0, h⟩) (iblk m c 2 ⟨0, h⟩) (iblk m c 3 ⟨0, h⟩) (iblk m c 4 ⟨0, h⟩) (k0_pay38 (F := F))
  | n + 1, h => ssqval (iblk m c 0 ⟨n + 1, h⟩) (iblk m c 1 ⟨n + 1, h⟩) (iblk m c 2 ⟨n + 1, h⟩) (iblk m c 3 ⟨n + 1, h⟩) (iblk m c 4 ⟨n + 1, h⟩) (ssqAt c n (Nat.lt_of_succ_lt h))

/-- The scratch once every point has stored its slab. -/
def blocks (c : Dev nD) : Vec F S14x768x512 .f32 := fun y => slabAt m c ⟨(y 0).val, (y 0).isLt⟩ (fun a => ⟨![0, (y 1).val, (y 2).val] a, by
  fin_cases a
  · exact Nat.one_pos
  · exact (y 1).isLt
  · exact (y 2).isLt⟩)

/-- The slabs of the points up to `n` are in. -/
def Filled (c : Dev nD) (n : ℕ) (A : Vec F S14x768x512 .f32) : Prop := ∀ y, (y 0).val ≤ n → A y = blocks m c y

theorem coords_val (t : Fin cfg0.N) : (grid0.coords t 0).val = t.val := by
  have ht : t.val < 14 := Nat.lt_of_lt_of_eq t.isLt N_0
  have e0 : (grid0.coords t 0).val = t.val / 1 % 14 := Pipeline.Grid.coords_val t 0 (by decide) rfl
  omega

theorem putAt_same (c : Dev nD) (t : Fin cfg0.N) (A : Vec F S14x768x512 .f32) (y : S14x768x512.Idx) (h : (y 0).val = t.val) :
    putAt (grid0.coords t) A (slabAt m c t) y = blocks m c y := by
  obtain rfl : t = ⟨(y 0).val, (y 0).isLt⟩ := Fin.ext h.symm
  unfold putAt VecWindow.put
  have hy : ∀ a : Fin 3, (![(grid0.coords (⟨(y 0).val, (y 0).isLt⟩ : Fin cfg0.N) 0).val, 0, 0] : Fin 3 → ℕ) a ≤ (y a).val
      ∧ (y a).val < (![(grid0.coords (⟨(y 0).val, (y 0).isLt⟩ : Fin cfg0.N) 0).val, 0, 0] : Fin 3 → ℕ) a + S1x768x512.size a := by
    rw [coords_val]
    intro a; fin_cases a
    · exact ⟨le_refl _, Nat.lt_succ_self _⟩
    · exact ⟨Nat.zero_le _, by rw [show ((![(y 0).val, 0, 0] : Fin 3 → ℕ) ⟨1, by decide⟩) = 0 from rfl, Nat.zero_add]; exact (y 1).isLt⟩
    · exact ⟨Nat.zero_le _, by rw [show ((![(y 0).val, 0, 0] : Fin 3 → ℕ) ⟨2, by decide⟩) = 0 from rfl, Nat.zero_add]; exact (y 2).isLt⟩
  refine (dif_pos hy).trans ?_
  unfold blocks
  refine congrArg _ (funext fun a => Fin.ext ?_)
  rw [Rect.unitLocal_val]
  have e := coords_val (⟨(y 0).val, (y 0).isLt⟩ : Fin cfg0.N)
  fin_cases a
  · show (y 0).val - (grid0.coords (⟨(y 0).val, (y 0).isLt⟩ : Fin cfg0.N) 0).val = 0
    rw [e]; exact Nat.sub_self _
  · rfl
  · rfl

theorem putAt_other (c : Dev nD) (t : Fin cfg0.N) (A : Vec F S14x768x512 .f32) (w : Vec F S1x768x512 .f32) (y : S14x768x512.Idx) (h : (y 0).val ≠ t.val) :
    putAt (grid0.coords t) A w y = A y := by
  unfold putAt VecWindow.put
  refine dif_neg fun hy => h ?_
  have := hy 0
  have e := coords_val t
  have e1 : (![(grid0.coords t 0).val, 0, 0] : Fin 3 → ℕ) 0 = (grid0.coords t 0).val := rfl
  have e2 : S1x768x512.size 0 = 1 := rfl
  omega

theorem filled_first (c : Dev nD) (t : Fin cfg0.N) (h : t.val = 0) (A : Vec F S14x768x512 .f32) :
    Filled m c t.val (putAt (grid0.coords t) A (slabAt m c t)) := fun y hy => putAt_same m c t A y (by omega)

theorem filled_next (c : Dev nD) (t : Fin cfg0.N) (A : Vec F S14x768x512 .f32) (hA : Filled m c (t.val - 1) A) :
    Filled m c t.val (putAt (grid0.coords t) A (slabAt m c t)) := fun y hy => by
  by_cases e : (y 0).val = t.val
  · exact putAt_same m c t A y e
  · rw [putAt_other c t A _ y e]; exact hA y (by omega)

theorem filled_all (c : Dev nD) (n : ℕ) (h : n = 13) (A : Vec F S14x768x512 .f32) (hA : Filled m c n A) : A = blocks m c :=
  funext fun y => hA y (by have : (y 0).val < 14 := (y 0).isLt; omega)

theorem ssqAt_next (c : Dev nD) (t : Fin cfg0.N) (h : t.val ≠ 0) :
    ssqAt m c t.val t.isLt = ssqval (iblk m c 0 t) (iblk m c 1 t) (iblk m c 2 t) (iblk m c 3 t) (iblk m c 4 t) (ssqAt m c (t.val - 1) (by omega)) := by
  obtain ⟨n, hn⟩ := t
  cases n with
  | zero => exact absurd rfl h
  | succ n => rfl

theorem ssqAt_first (c : Dev nD) (t : Fin cfg0.N) (h : t.val = 0) : ssqAt m c t.val t.isLt = ssqval (iblk m c 0 t) (iblk m c 1 t) (iblk m c 2 t) (iblk m c 3 t) (iblk m c 4 t) (k0_pay38 (F := F)) := by
  obtain ⟨n, hn⟩ := t
  obtain rfl : n = 0 := h
  rfl

/-- The pieces the last point's loop writes, into the codes and into the scales. -/
abbrev loopAt (c : Dev nD) (t : Fin cfg0.N) (hc1 : cond0_1 (grid0.coords t)) :
    List (View.Piece (Elt F) S768x7168 .fp8e4m3) × List (View.Piece (Elt F) S768x128 .f32) :=
  (pb_k0_t1 (F := F) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) hc1 ((hs0_5 t).unread (iblk m c 5 t)) (Memref.IsWhole.unread (m := scM0_0) (Val := Elt F) (Memref.isWhole_whole _) (blocks m c)) (Memref.IsWhole.unread (m := scM0_1) (Val := Elt F) (Memref.isWhole_whole _) (ssqAt m c t.val t.isLt)) k0_t1_loop.trips)

/-- The codes after the body at point `t`: what the loop leaves at the last point; at the others nothing consults it. -/
def codesAt (c : Dev nD) (t : Fin cfg0.N) : Vec F S768x7168 .fp8e4m3 :=
  if h : cond0_1 (grid0.coords t) then VO0_8.read (Elt F) (VO0_8.writes (Elt F) VO0_8.junk (loopAt m c t h).1)
  else VO0_8.read (Elt F) VO0_8.junk

/-- The scales after the body at point `t`, likewise. -/
def scalesAt (c : Dev nD) (t : Fin cfg0.N) : Vec F S768x128 .f32 :=
  if h : cond0_1 (grid0.coords t) then VO0_9.read (Elt F) (VO0_9.writes (Elt F) VO0_9.junk (loopAt m c t h).2)
  else VO0_9.read (Elt F) VO0_9.junk

/-- The invariant before position `n`: at first every scratch at anything; afterwards the slabs of the points before are in,
    and the sums of squares are those the point before left. -/
def PhiS (c : Dev nD) : (n : ℕ) → n ≤ cfg0.N → sProp (MT nD τ sig Unit (Elt F) ℕ (UR sig nD τ) ℕ)
  | 0, _ => Pipeline.ΦA spec0 c
  | n + 1, hn => iprop(iprop((∃ A, owns (c : Thread nD τ) scM0_0 fullShare A ∗ ⌜Filled m c n A⌝) ∗ owns (c : Thread nD τ) scM0_1 fullShare (ssqAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ A, owns (c : Thread nD τ) scM0_0 fullShare A ∗ ⌜Filled m c n A⌝) ∗ owns (c : Thread nD τ) scM0_1 fullShare (ssqAt m c n hn)) ∗ (∃ r, prngReg c r)) := rfl

theorem PhiS_pos (c : Dev nD) (n : ℕ) (h : n ≤ cfg0.N) (hz : n ≠ 0) :
    PhiS m c n h = iprop(iprop((∃ A, owns (c : Thread nD τ) scM0_0 fullShare A ∗ ⌜Filled m c (n - 1) A⌝) ∗ owns (c : Thread nD τ) scM0_1 fullShare (ssqAt m c (n - 1) (by omega))) ∗ (∃ r, prngReg c r)) := by
  cases n with
  | zero => exact absurd rfl hz
  | succ n => rfl

/-! ## The pipeline's proof data -/

/-- The arrays as the region finds them; after the body at point `t` each input's buffer at its block and the outputs' at the
    values above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hAt m c t
    | ⟨7, _⟩ => hbAt m c t
    | ⟨8, _⟩ => codesAt m c t
    | ⟨9, _⟩ => scalesAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = hAt m c t := by dsimp only [dats]
theorem after0_7 (c : Dev nD) (t : Fin cfg0.N) : (dats m 0 c).after 7 t = hbAt m c t := by dsimp only [dats]
theorem after0_8 (c : Dev nD) (t : Fin cfg0.N) : (dats m 0 c).after 8 t = codesAt m c t := by dsimp only [dats]
theorem after0_9 (c : Dev nD) (t : Fin cfg0.N) : (dats m 0 c).after 9 t = scalesAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem leaves0_0 (c : Dev nD) (t : Fin cfg0.N) : (dats m 0 c).leavesExact 0 t = owns (c : Thread nD τ) (ms0_0 t) fullShare (iblk m c 0 t) := by
  rw [← after0_0]
theorem leaves0_1 (c : Dev nD) (t : Fin cfg0.N) : (dats m 0 c).leavesExact 1 t = owns (c : Thread nD τ) (ms0_1 t) fullShare (iblk m c 1 t) := by
  rw [← after0_1]
theorem leaves0_2 (c : Dev nD) (t : Fin cfg0.N) : (dats m 0 c).leavesExact 2 t = owns (c : Thread nD τ) (ms0_2 t) fullShare (iblk m c 2 t) := by
  rw [← after0_2]
theorem leaves0_3 (c : Dev nD) (t : Fin cfg0.N) : (dats m 0 c).leavesExact 3 t = owns (c : Thread nD τ) (ms0_3 t) fullShare (iblk m c 3 t) := by
  rw [← after0_3]
theorem leaves0_4 (c : Dev nD) (t : Fin cfg0.N) : (dats m 0 c).leavesExact 4 t = owns (c : Thread nD τ) (ms0_4 t) fullShare (iblk m c 4 t) := by
  rw [← after0_4]
theorem leaves0_5 (c : Dev nD) (t : Fin cfg0.N) : (dats m 0 c).leavesExact 5 t = owns (c : Thread nD τ) (ms0_5 t) fullShare (iblk m c 5 t) := by
  rw [← after0_5]
theorem leaves0_6 (c : Dev nD) (t : Fin cfg0.N) : (dats m 0 c).leavesExact 6 t = owns (c : Thread nD τ) (ms0_6 t) fullShare (hAt m c t) := by
  rw [← after0_6]
theorem leaves0_7 (c : Dev nD) (t : Fin cfg0.N) : (dats m 0 c).leavesExact 7 t = owns (c : Thread nD τ) (ms0_7 t) fullShare (hbAt m c t) := by
  rw [← after0_7]
theorem leaves0_8_C (c : Dev nD) (t : Fin cfg0.N) (h0 : ¬cond0_0 (grid0.coords t)) (h1 : cond0_1 (grid0.coords t)) :
    (dats m 0 c).leavesExact 8 t = owns (c : Thread nD τ) (ms0_8 t) fullShare (codesAt m c t) := by
  rw [← after0_8]; unfold Dat.leavesExact; rw [liveAt0_8_C t h0 h1]
theorem leaves0_9_C (c : Dev nD) (t : Fin cfg0.N) (h0 : ¬cond0_0 (grid0.coords t)) (h1 : cond0_1 (grid0.coords t)) :
    (dats m 0 c).leavesExact 9 t = owns (c : Thread nD τ) (ms0_9 t) fullShare (scalesAt m c t) := by
  rw [← after0_9]; unfold Dat.leavesExact; rw [liveAt0_9_C t h0 h1]

/-! ## The body at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- At the last point the pieces of output 8 read as the codes named above. -/
theorem codes_read (c : Dev nD) (t : Fin cfg0.N) (h0 : ¬t.val % 14 = 0) (h1 : t.val % 14 = 13) (A0 : Vec F S14x768x512 .f32)
    (hA : Filled m c (t.val - 1) A0) (v : View sig .tc .vmem S768x7168 .fp8e4m3) (f : v.ty.Contents (Elt F)) :
    v.read (Elt F) (v.writes (Elt F) f (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) A0 (ssqAt m c (t.val - 1) (by omega))).2.2.1) = codesAt m c t := by
  have hN : t.val < 14 := lt_of_lt_of_eq t.isLt (show cfg0.N = 14 from N_0)
  unfold codesAt
  rw [dif_pos ((hcond0_1 t).mpr h1), runC_8, filled_all m c t.val (by omega) _ (filled_next m c t A0 hA), ← ssqAt_next m c t (by omega)]
  exact View.read_writes_of_cover _ _ _ _ _ (loop_cover8 _ _ _ _)

/-- At the last point the pieces of output 9 read as the scales named above. -/
theorem scales_read (c : Dev nD) (t : Fin cfg0.N) (h0 : ¬t.val % 14 = 0) (h1 : t.val % 14 = 13) (A0 : Vec F S14x768x512 .f32)
    (hA : Filled m c (t.val - 1) A0) (v : View sig .tc .vmem S768x128 .f32) (f : v.ty.Contents (Elt F)) :
    v.read (Elt F) (v.writes (Elt F) f (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) A0 (ssqAt m c (t.val - 1) (by omega))).2.2.2.1) = scalesAt m c t := by
  have hN : t.val < 14 := lt_of_lt_of_eq t.isLt (show cfg0.N = 14 from N_0)
  unfold scalesAt
  rw [dif_pos ((hcond0_1 t).mpr h1), runC_9, filled_all m c t.val (by omega) _ (filled_next m c t A0 hA), ← ssqAt_next m c t (by omega)]
  exact View.read_writes_of_cover _ _ _ _ _ (loop_cover9 _ _ _ _)

set_option maxHeartbeats 4000000 in
/-- The body's triple at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 14 := lt_of_lt_of_eq t.isLt (show cfg0.N = 14 from N_0)
  rw [leaves0_0, leaves0_1, leaves0_2, leaves0_3, leaves0_4, leaves0_5, leaves0_6, leaves0_7]
  by_cases h0 : t.val % 14 = 0
  · have h1 : ¬t.val % 14 = 13 := by omega
    rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
    rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
    have hz : t.val = 0 := by omega
    rw [PhiS_castSucc m c t, PhiS_zero m c _ _ hz, PhiA0_eq, ssqAt_first m c t hz]
    iintro ⟨⟨⟨⟨%A0, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) A0).2.2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    isplitl [H9]; · iexact H9
    isplitl [HS0]; · iexact HS0
    isplitl [HS1]; · iexact HS1
    iintro ⟨H0, H1, H2, H3, H4, H5, ⟨%e6, H6⟩, ⟨%e7, H7⟩, H8, H9, HS0, ⟨%es1, HS1⟩⟩
    isplitl [HS0 HS1 Hg]
    · isplitl [HS0 HS1]
      · isplitl [HS0]
        · iexists _; isplitl [HS0]
          · unfold owns; iexists _; isplitr
            swap; · iexact HS0
            ipureintro; exact (congrArg _ (runA_s0 _ _)).trans (Memref.IsWhole.read_unread _ _)
          ipureintro; exact filled_first m c t hz A0
        unfold owns; iexists _; isplitr
        swap; · iexact HS1
        ipureintro; exact (runA_s1 _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact runA_6 _ _ _ _
    isplitl [H7]
    · unfold owns; iexists _; isplitr
      swap; · iexact H7
      ipureintro; exact runA_7 _ _ _ _
    isplitl [H8]; · iexists _; iexact H8
    iexists _; iexact H9
  by_cases h1 : t.val % 14 = 13
  · skip
    rw [leaves0_8_C m c t (fun h => h0 ((hcond0_0 t).mp h)) ((hcond0_1 t).mpr h1), leaves0_9_C m c t (fun h => h0 ((hcond0_0 t).mp h)) ((hcond0_1 t).mpr h1)]
    have hz : t.val ≠ 0 := by omega
    rw [PhiS_castSucc m c t, PhiS_pos m c _ _ hz]
    iintro ⟨⟨⟨⟨%A0, HS0, %hA⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_C c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) A0 _).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, ⟨%e6, H6⟩, ⟨%e7, H7⟩, ⟨%e8, H8⟩, ⟨%e9, H9⟩, HS0, ⟨%es1, HS1⟩⟩
    isplitl [HS0 HS1 Hg]
    · isplitl [HS0 HS1]
      · isplitl [HS0]
        · iexists _; isplitl [HS0]
          · unfold owns; iexists _; isplitr
            swap; · iexact HS0
            ipureintro; exact (congrArg _ (runC_s0 _ _ _)).trans (Memref.IsWhole.read_unread _ _)
          ipureintro; exact filled_next m c t A0 hA
        unfold owns; iexists _; isplitr
        swap; · iexact HS1
        ipureintro; exact ((runC_s1 _ _ _ _ _).trans (ssqAt_next m c t hz).symm)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact runC_6 _ _ _ _ _
    isplitl [H7]
    · unfold owns; iexists _; isplitr
      swap; · iexact H7
      ipureintro; exact runC_7 _ _ _ _ _
    isplitl [H8]
    · unfold owns; iexists _; isplitr
      swap; · iexact H8
      ipureintro; exact codes_read m c t h0 h1 A0 hA _ _
    unfold owns; iexists _; isplitr
    swap; · iexact H9
    ipureintro; exact scales_read m c t h0 h1 A0 hA _ _
  · skip
    rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
    rw [Dat.leavesExact_idle (dats m 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
    have hz : t.val ≠ 0 := by omega
    rw [PhiS_castSucc m c t, PhiS_pos m c _ _ hz]
    rw [ssqAt_next m c t hz]
    iintro ⟨⟨⟨⟨%A0, HS0, %hA⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) A0 _).2.2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    isplitl [H9]; · iexact H9
    isplitl [HS0]; · iexact HS0
    isplitl [HS1]; · iexact HS1
    iintro ⟨H0, H1, H2, H3, H4, H5, ⟨%e6, H6⟩, ⟨%e7, H7⟩, H8, H9, HS0, ⟨%es1, HS1⟩⟩
    isplitl [HS0 HS1 Hg]
    · isplitl [HS0 HS1]
      · isplitl [HS0]
        · iexists _; isplitl [HS0]
          · unfold owns; iexists _; isplitr
            swap; · iexact HS0
            ipureintro; exact (congrArg _ (runB_s0 _ _ _)).trans (Memref.IsWhole.read_unread _ _)
          ipureintro; exact filled_next m c t A0 hA
        unfold owns; iexists _; isplitr
        swap; · iexact HS1
        ipureintro; exact (runB_s1 _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact runB_6 _ _ _ _ _
    isplitl [H7]
    · unfold owns; iexists _; isplitr
      swap; · iexact H7
      ipureintro; exact runB_7 _ _ _ _ _
    isplitl [H8]; · iexists _; iexact H8
    iexists _; iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨⟨%A0, HS0, -⟩, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 14 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: every run ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Oproj.Gen

end
-- ==== Proof.Common.lean ====
/-
  A SCALED PRODUCT READ AT AN INDEX. Every product of the layer has the same form: two matrices of fp8 codes are
  multiplied into f32, and each element of the product is multiplied by its row's scale and by its column's scale. Over
  the extended reals this is `proj` below. The lemmas of this file read the kernels' vector operations at one index: the
  product, the two broadcast scales, and an index of a block as an index of the whole array.
-/
module

public import Idealize.ShloMosaic.Lib.MatmulPlain
public import Idealize.ShloMosaic.Lib.ValueIdx
public import Idealize.ShloMosaic.Lib.Pipeline.Value
public import Idealize.ShloMosaic.PureOps.Ideal.Laws

@[expose] public section

noncomputable section

namespace Cert.Layer

open Idealize.ShloMosaic Idealize.ShloMosaic.ValueIdx
open scoped BigOperators

variable {M K N : ℕ}

/-- The scaled product at row `r` and column `c`: Σ_k a[r,k]·w[k,c], times the row's scale, times the column's scale. -/
def proj (a : (⟨2, ![M, K]⟩ : Shape).Idx → EReal) (w : (⟨2, ![K, N]⟩ : Shape).Idx → EReal) (sa : Fin M → EReal)
    (s : Fin N → EReal) (r : Fin M) (c : Fin N) : EReal :=
  (∑ k : Fin K, a (ix2 r k) * w (ix2 k c)) * sa r * s c

/-- Two scaled products of the same rows of codes, columns of codes and scales are equal. -/
theorem proj_congr {M' N' : ℕ} {a : (⟨2, ![M, K]⟩ : Shape).Idx → EReal} {a' : (⟨2, ![M', K]⟩ : Shape).Idx → EReal}
    {w : (⟨2, ![K, N]⟩ : Shape).Idx → EReal} {w' : (⟨2, ![K, N']⟩ : Shape).Idx → EReal} {sa : Fin M → EReal} {sa' : Fin M' → EReal}
    {s : Fin N → EReal} {s' : Fin N' → EReal} {r : Fin M} {r' : Fin M'} {c : Fin N} {c' : Fin N'}
    (ha : ∀ k, a (ix2 r k) = a' (ix2 r' k)) (hw : ∀ k, w (ix2 k c) = w' (ix2 k c')) (hsa : sa r = sa' r') (hs : s c = s' c') :
    proj a w sa s r c = proj a' w' sa' s' r' c' := by
  unfold proj
  rw [hsa, hs]
  exact congrArg (· * _ * _) (Finset.sum_congr rfl fun k _ => by rw [ha, hw])

/-- A row's scalar, broadcast along the row, read at an index. -/
theorem bcast_row (x : (⟨2, ![M, 1]⟩ : Shape).Idx → EReal) (h : (⟨2, ![M, 1]⟩ : Shape).Broadcasts ⟨2, ![M, N]⟩) (r : Fin M)
    (c : Fin N) : broadcastTo ⟨2, ![M, N]⟩ x h (ix2 r c) = x (ix2 r 0) := by
  refine broadcastTo_apply x h _ _ fun a => ?_
  match a with
  | ⟨0, _⟩ =>
    show r.val = if M = 1 then 0 else r.val
    split
    · have := r.isLt; omega
    · rfl
  | ⟨1, _⟩ => rfl

/-- A column's scalar, broadcast down the column, read at an index. -/
theorem bcast_col (x : (⟨2, ![1, N]⟩ : Shape).Idx → EReal) (h : (⟨2, ![1, N]⟩ : Shape).Broadcasts ⟨2, ![M, N]⟩) (r : Fin M)
    (c : Fin N) : broadcastTo ⟨2, ![M, N]⟩ x h (ix2 r c) = x (ix2 0 c) := by
  refine broadcastTo_apply x h _ _ fun a => ?_
  match a with
  | ⟨0, _⟩ => rfl
  | ⟨1, _⟩ =>
    show c.val = if N = 1 then 0 else c.val
    split
    · have := c.isLt; omega
    · rfl

/-- The kernels' scaled product — the matrix unit's product onto a zero accumulator, times the two broadcast scales — read
    at an index. -/
theorem proj_apply {φ : FTy} (a : FVec Ideal ⟨2, ![M, K]⟩ φ) (w : FVec Ideal ⟨2, ![K, N]⟩ φ) (prec : Option ContractPrecision)
    (sa : FVec Ideal ⟨2, ![M, 1]⟩ .f32) (s : FVec Ideal ⟨2, ![1, N]⟩ .f32)
    (h : (⟨2, ![M, 1]⟩ : Shape).Broadcasts ⟨2, ![M, N]⟩) (h' : (⟨2, ![1, N]⟩ : Shape).Broadcasts ⟨2, ![M, N]⟩) (r : Fin M) (c : Fin N) :
    mulf (mulf (matmul (DotDims.plain M K N) prec a w (constant ⟨2, ![M, N]⟩ .f32 0x00000000#32))
      (broadcastTo ⟨2, ![M, N]⟩ sa h)) (broadcastTo ⟨2, ![M, N]⟩ s h') (ix2 r c)
      = proj a w (fun r => sa (ix2 r 0)) (fun c => s (ix2 0 c)) r c := by
  rw [mulf_apply, mulf_apply, bcast_row, bcast_col]
  unfold proj
  refine congrArg₂ (· * ·) (congrArg₂ (· * ·) ?_ rfl) rfl
  refine (Ideal.matmul_plain_apply prec a w _ r c).trans ?_
  have hz : (constant ⟨2, ![M, N]⟩ .f32 0x00000000#32 : FVec Ideal ⟨2, ![M, N]⟩ .f32) (ix2 r c) = 0 :=
    Ideal.ofBits_zero_f32
  rw [hz, zero_add]

/-- The offsets of a load or store of a whole two-axis buffer are zero on both axes. -/
theorem offs_zero : (![0, 0] : Fin 2 → Nat) = fun _ => 0 := funext fun a => by fin_cases a <;> rfl

/-- A per-row vector made a column, read at an index. -/
theorem colOf_apply (x : (⟨1, ![M]⟩ : Shape).Idx → EReal) (h : (⟨1, ![M]⟩ : Shape).BroadcastsInDim ⟨2, ![M, 1]⟩ ![0]) (r : Fin M)
    (z : Fin 1) : broadcastInDim ⟨2, ![M, 1]⟩ ![0] h x (ix2 r z) = x (ix1 r) := by
  refine broadcastInDim_apply _ h x _ _ fun a => ?_
  match a with
  | ⟨0, _⟩ =>
    show r.val = if M = 1 then 0 else r.val
    split
    · have := r.isLt; omega
    · rfl

/-- A column repeated over `N` lanes, read at an index. -/
theorem lanesOf_apply (x : (⟨2, ![M, 1]⟩ : Shape).Idx → EReal) (h : (⟨2, ![M, 1]⟩ : Shape).BroadcastsInDim ⟨2, ![M, N]⟩ ![0, 1])
    (r : Fin M) (c : Fin N) : broadcastInDim ⟨2, ![M, N]⟩ ![0, 1] h x (ix2 r c) = x (ix2 r 0) := by
  refine broadcastInDim_apply _ h x _ _ fun a => ?_
  match a with
  | ⟨0, _⟩ =>
    show r.val = if M = 1 then 0 else r.val
    split
    · have := r.isLt; omega
    · rfl
  | ⟨1, _⟩ => rfl

/-- A per-column vector reshaped to one row, read at an index. -/
theorem rowOf_apply (x : (⟨1, ![N]⟩ : Shape).Idx → EReal) (h : (⟨1, ![N]⟩ : Shape).ShapeCasts ⟨2, ![1, N]⟩) (z : Fin 1) (c : Fin N) :
    shapeCast ⟨2, ![1, N]⟩ x h (ix2 z c) = x (ix1 c) := by
  refine shapeCast_apply x h _ _ ?_
  have hz : z.val = 0 := by have := z.isLt; omega
  rw [Shape.rowMajor_val_one, Shape.rowMajor_val_two]
  show c.val = z.val * N + c.val
  rw [hz, Nat.zero_mul, Nat.zero_add]

end Cert.Layer

end
-- ==== Proof.SiluMax.lean ====
/-
  THE SILU PRODUCT AND ITS ROW MAXIMUM. The gate/up call of the layer makes silu(gate)·up from two scaled products, and
  the largest magnitude of each row of it. This file states the two as functions of whole arrays over the extended
  reals, and reads a row maximum (a reduction along a row, kept as a column and broadcast) at one index.
-/
module

public import proofs.«01_k».proof.Proof.Common

@[expose] public section

noncomputable section

namespace Cert.Layer

open Idealize.ShloMosaic Idealize.ShloMosaic.ValueIdx

variable {M K N L : ℕ}

/-- silu(gate)·up, with silu(x) = x·logistic(x). -/
def siluMul (gate up : EReal) : EReal := gate * Ideal.logistic gate * up

/-- The vector operations of the SiLU product, read at an index. -/
theorem silu_apply {s : Shape} (g u : FVec Ideal s .f32) (i : s.Idx) (G U : EReal) (hg : g i = G) (hu : u i = U) :
    mulf (mulf g (logistic g)) u i = siluMul G U := by
  subst hg hu; rfl

/-- The magnitude of an extended real. -/
def mag (x : EReal) : EReal := max x (-x)

theorem mag_nonneg (x : EReal) : 0 ≤ mag x := by
  rcases le_total 0 x with h | h
  · exact le_trans h (le_max_left _ _)
  · exact le_trans (EReal.le_neg_of_le_neg (by simpa using h)) (le_max_right _ _)

/-- The SiLU product of the whole arrays: `h` the codes of the input and `sh` their row scales, `wg`, `sg` and `wu`, `su` the
    codes and column scales of the gate and the up weight. -/
def actAt (h : (⟨2, ![M, K]⟩ : Shape).Idx → EReal) (sh : (⟨1, ![M]⟩ : Shape).Idx → EReal)
    (wg : (⟨2, ![K, N]⟩ : Shape).Idx → EReal) (sg : (⟨1, ![N]⟩ : Shape).Idx → EReal)
    (wu : (⟨2, ![K, N]⟩ : Shape).Idx → EReal) (su : (⟨1, ![N]⟩ : Shape).Idx → EReal) : (⟨2, ![M, N]⟩ : Shape).Idx → EReal :=
  fun i => siluMul (proj h wg (fun r => sh (ix1 r)) (fun c => sg (ix1 c)) (i 0) (i 1))
    (proj h wu (fun r => sh (ix1 r)) (fun c => su (ix1 c)) (i 0) (i 1))

/-- The largest magnitude of row `r`. -/
def amaxAt (a : (⟨2, ![M, N]⟩ : Shape).Idx → EReal) (r : Fin M) : EReal := Finset.univ.sup fun c : Fin N => mag (a (ix2 r c))

theorem amaxAt_le (a : (⟨2, ![M, N]⟩ : Shape).Idx → EReal) (r : Fin M) (b : EReal) :
    amaxAt a r ≤ b ↔ ∀ c : Fin N, mag (a (ix2 r c)) ≤ b := by
  unfold amaxAt
  rw [Finset.sup_le_iff]
  exact ⟨fun h c => h c (Finset.mem_univ c), fun h c _ => h c⟩

theorem ofBits_neg_inf : Ideal.ofBits .f32 0xFF800000#32 = ⊥ := by simp [Ideal.ofBits, Ideal.ieee]

/-- A per-row vector made a column, read at an index. -/
theorem colCast_apply (x : (⟨1, ![M]⟩ : Shape).Idx → EReal) (h : (⟨1, ![M]⟩ : Shape).ShapeCasts ⟨2, ![M, 1]⟩) (r : Fin M) (z : Fin 1) :
    shapeCast ⟨2, ![M, 1]⟩ x h (ix2 r z) = x (ix1 r) := by
  refine shapeCast_apply x h _ _ ?_
  have hz : z.val = 0 := by have := z.isLt; omega
  rw [Shape.rowMajor_val_one, Shape.rowMajor_val_two]
  show r.val = r.val * 1 + z.val
  omega

/-- A row's maximum, from −∞: it is below `b` exactly when every element of the row is. -/
theorem redMax_le (v : FVec Ideal ⟨2, ![M, N]⟩ .f32) (h : (⟨2, ![M, N]⟩ : Shape).Reduces [1] ⟨1, ![M]⟩) (r : Fin M) (b : EReal) :
    multiReduction .maximumf [1] ⟨1, ![M]⟩ v 0xFF800000#32 h (.inl rfl) rfl (ix1 r) ≤ b ↔ ∀ c : Fin N, v (ix2 r c) ≤ b := by
  have e : ∀ k : Fin N, h.lift (ix1 r) k = ix2 r k := fun k => Shape.idx_ext₂ rfl rfl
  refine (Iff.of_eq (congrArg (· ≤ b) (Ideal.multiReduction_maximumf_single v 0xFF800000#32 h (.inl rfl) rfl (ix1 r)))).trans ?_
  refine (Finset.fold_max_le b).trans ?_
  constructor
  · intro hh c
    exact (congrArg v (e c)).symm.trans_le (hh.2 c (Finset.mem_univ _))
  · intro hh
    refine ⟨?_, fun k _ => (congrArg v (e k)).trans_le (hh k)⟩
    show Ideal.ofBits .f32 0xFF800000#32 ≤ b
    rw [ofBits_neg_inf]; exact bot_le

/-- A row's maximum broadcast over `L` lanes: it is below `b` exactly when every element of the row is. -/
theorem rowMax_le (v : FVec Ideal ⟨2, ![M, N]⟩ .f32) (h : (⟨2, ![M, N]⟩ : Shape).Reduces [1] ⟨1, ![M]⟩)
    (h1 : (⟨1, ![M]⟩ : Shape).ShapeCasts ⟨2, ![M, 1]⟩) (h2 : (⟨2, ![M, 1]⟩ : Shape).ShapeCasts ⟨2, ![M, 1]⟩)
    (h3 : (⟨2, ![M, 1]⟩ : Shape).Broadcasts ⟨2, ![M, L]⟩) (r : Fin M) (l : Fin L) (b : EReal) :
    broadcastTo ⟨2, ![M, L]⟩ (shapeCast ⟨2, ![M, 1]⟩ (shapeCast ⟨2, ![M, 1]⟩
      (multiReduction .maximumf [1] ⟨1, ![M]⟩ v 0xFF800000#32 h (.inl rfl) rfl) h1) h2) h3 (ix2 r l) ≤ b
      ↔ ∀ c : Fin N, v (ix2 r c) ≤ b := by
  rw [bcast_row, shapeCast_self, colCast_apply]
  exact redMax_le v h r b

end Cert.Layer

end
-- ==== Proof.Quant.lean ====
/-
  THE POWER-OF-TWO SCALE OF A ROW. Each quantised row is divided by the power of two 2^e, where e is the exponent of the
  row's largest magnitude over 448. The kernels find the exponent by eight comparisons with floats built from their
  exponent field, and build 2^e and 2^-e from their fields in the same way. The references count the powers of two, from
  2^-126 on, that are at most the quotient. `Cert.Layer.scales_eq` says the two agree on every quotient
  below 2^126.
-/
module

public import Idealize.ShloMosaic.PureOps
public import Idealize.ShloMosaic.PureOps.Ideal.Laws
public import Idealize.ShloMosaic.Lib.Pointwise.ElementwiseCore

@[expose] public section

noncomputable section

namespace Cert.Layer

open Idealize.ShloMosaic
open scoped BigOperators

/-! ## Floats by their exponent field -/

/-- The float with exponent field `k` and nothing else. -/
def pow (k : BitVec 32) : EReal := FloatOps.ofBits (F := Ideal) .f32 (IntOp.shli .vector k 23#32)

/-- The three fields of the float with exponent field `k`. -/
theorem fields : ∀ k : Fin 256,
    ((IntOp.shli .vector (BitVec.ofNat 32 k.val) 23#32).extractLsb' 31 1 == 1#1) = false
      ∧ ((IntOp.shli .vector (BitVec.ofNat 32 k.val) 23#32).extractLsb' 23 8).toNat = k.val
      ∧ ((IntOp.shli .vector (BitVec.ofNat 32 k.val) 23#32).extractLsb' 0 23).toNat = 0 := by
  decide +kernel

/-- A positive normal float by its three fields. -/
theorem ieee_pos {b : BitVec 32} {ex fr : ℕ} (h1 : (b.extractLsb' 31 1 == 1#1) = false) (h2 : (b.extractLsb' 23 8).toNat = ex)
    (h3 : (b.extractLsb' 0 23).toNat = fr) (h : ex ≠ 255) (h' : ex ≠ 0) :
    Ideal.ieee 8 23 b = ((((2 ^ 23 + fr : ℕ) : ℝ) * (2 : ℝ) ^ ((ex : ℤ) - 150) : ℝ) : EReal) := by
  unfold Ideal.ieee
  dsimp only
  rw [h1, h2, h3, if_neg (by norm_num; exact h), if_neg h']
  refine congrArg Real.toEReal (congrArg₂ (· * ·) ?_ (congrArg _ ?_))
  · simp
  · norm_num; ring

theorem pow_eq {k : ℕ} (h : k < 256) : pow (BitVec.ofNat 32 k)
    = if k = 255 then ⊤ else if k = 0 then 0 else (((2 : ℝ) ^ ((k : ℤ) - 127) : ℝ) : EReal) := by
  obtain ⟨h1, h2, h3⟩ := fields ⟨k, h⟩
  show Ideal.ieee 8 23 (IntOp.shli .vector (BitVec.ofNat 32 k) 23#32) = _
  dsimp only at h1 h2 h3
  by_cases e : k = 255
  · unfold Ideal.ieee
    dsimp only
    rw [h1, h2, h3, if_pos (by norm_num; exact e), if_pos e, if_pos rfl]; rfl
  · rw [if_neg e]
    by_cases z : k = 0
    · unfold Ideal.ieee
      dsimp only
      rw [h1, h2, h3, if_neg (by norm_num; exact e), if_pos z, if_pos z]; simp
    · rw [if_neg z, ieee_pos h1 h2 h3 e z]
      refine congrArg Real.toEReal ?_
      have : (((2 ^ 23 + 0 : ℕ) : ℝ)) = (2 : ℝ) ^ (23 : ℤ) := by norm_num
      rw [this, ← zpow_add₀ (by norm_num : (2 : ℝ) ≠ 0)]
      exact congrArg _ (by ring)

theorem pow_zero' : pow (BitVec.ofNat 32 0) = 0 := by rw [pow_eq (by norm_num)]; simp

theorem pow_pos {k : ℕ} (h0 : 1 ≤ k) (h : k ≤ 254) :
    pow (BitVec.ofNat 32 k) = (((2 : ℝ) ^ ((k : ℤ) - 127) : ℝ) : EReal) := by
  rw [pow_eq (by omega), if_neg (by omega), if_neg (by omega)]

/-- A larger exponent field is a larger float. -/
theorem pow_mono {j k : ℕ} (hjk : j ≤ k) (hk : k < 256) : pow (BitVec.ofNat 32 j) ≤ pow (BitVec.ofNat 32 k) := by
  rw [pow_eq (by omega), pow_eq hk]
  by_cases e : k = 255
  · rw [if_pos e]; exact le_top
  · rw [if_neg (by omega), if_neg e]
    by_cases z : j = 0
    · rw [if_pos z]
      split
      · exact le_rfl
      · exact EReal.coe_nonneg.2 (by positivity)
    · rw [if_neg z, if_neg (by omega)]
      exact EReal.coe_le_coe_iff.2 (zpow_le_zpow_right₀ (by norm_num) (by omega))

/-! ## The search for the exponent field -/

/-- One comparison: add `s` to the field if the float with the larger field is still at most `v`. -/
def step (v : EReal) (k s : BitVec 32) : BitVec 32 :=
  Scalar.select (FloatOps.cmpf (F := Ideal) (φ := .f32) .ole (FloatOps.ofBits (F := Ideal) .f32 (IntOp.shli .vector (IntOp.addi k s) 23#32)) v)
    (IntOp.addi k s) k

/-- The exponent field of `v`, by eight comparisons. -/
def field (v : EReal) : BitVec 32 :=
  step v (step v (step v (step v (step v (step v (step v (step v 0#32 128#32) 64#32) 32#32) 16#32) 8#32) 4#32) 2#32) 1#32

theorem select_ofBool {α : Type} (p : Prop) [Decidable p] (a b : α) :
    Scalar.select (BitVec.ofBool (decide p)) a b = if p then a else b := by
  by_cases h : p <;> simp [Scalar.select, h]

theorem step_eq (v : EReal) (k s : BitVec 32) : step v k s = if pow (k + s) ≤ v then k + s else k := by
  exact select_ofBool (pow (k + s) ≤ v) _ _

/-- The field of `v` is `n`: the floats with fields from 1 up to `n` are at most `v`, and no others. -/
def HasField (v : EReal) (n : ℕ) : Prop := ∀ k, 1 ≤ k → k < 256 → (pow (BitVec.ofNat 32 k) ≤ v ↔ k ≤ n)

/-- One comparison halves the interval the field lies in. -/
theorem step_spec {v : EReal} {n : ℕ} (h : HasField v n) {b s : BitVec 32} {k w : ℕ} (hb : b = BitVec.ofNat 32 k)
    (hs : s = BitVec.ofNat 32 w) (h1 : k ≤ n) (h2 : n < k + (w + w)) (h3 : k + (w + w) ≤ 256) (hw : 0 < w) :
    ∃ k', step v b s = BitVec.ofNat 32 k' ∧ k' ≤ n ∧ n < k' + w ∧ k' + w ≤ 256 := by
  have e : b + s = BitVec.ofNat 32 (k + w) := by rw [hb, hs, BitVec.ofNat_add]
  rw [step_eq, e]
  by_cases c : k + w ≤ n
  · exact ⟨k + w, by rw [if_pos ((h _ (by omega) (by omega)).2 c)], c, by omega, by omega⟩
  · exact ⟨k, by rw [if_neg (fun t => c ((h _ (by omega) (by omega)).1 t)), hb], h1, by omega, by omega⟩

/-- The eight comparisons find the field. -/
theorem field_eq {v : EReal} {n : ℕ} (h : HasField v n) (hn : n < 256) : field v = BitVec.ofNat 32 n := by
  unfold field
  obtain ⟨k1, e1, a1, b1, c1⟩ := step_spec h (b := 0#32) (s := 128#32) (k := 0) (w := 128) rfl rfl (by omega) (by omega) (by omega) (by omega)
  obtain ⟨k2, e2, a2, b2, c2⟩ := step_spec h (s := 64#32) (w := 64) e1 rfl a1 (by omega) (by omega) (by omega)
  obtain ⟨k3, e3, a3, b3, c3⟩ := step_spec h (s := 32#32) (w := 32) e2 rfl a2 (by omega) (by omega) (by omega)
  obtain ⟨k4, e4, a4, b4, c4⟩ := step_spec h (s := 16#32) (w := 16) e3 rfl a3 (by omega) (by omega) (by omega)
  obtain ⟨k5, e5, a5, b5, c5⟩ := step_spec h (s := 8#32) (w := 8) e4 rfl a4 (by omega) (by omega) (by omega)
  obtain ⟨k6, e6, a6, b6, c6⟩ := step_spec h (s := 4#32) (w := 4) e5 rfl a5 (by omega) (by omega) (by omega)
  obtain ⟨k7, e7, a7, b7, c7⟩ := step_spec h (s := 2#32) (w := 2) e6 rfl a6 (by omega) (by omega) (by omega)
  obtain ⟨k8, e8, a8, b8, c8⟩ := step_spec h (s := 1#32) (w := 1) e7 rfl a7 (by omega) (by omega) (by omega)
  rw [e8]
  congr 1
  omega

/-- A quotient below 2^126 has a field below 253. -/
theorem exists_field {v : EReal} (h1 : v < (((2 : ℝ) ^ (126 : ℤ) : ℝ) : EReal)) : ∃ n, n ≤ 252 ∧ HasField v n := by
  classical
  have big : ∀ k, k < 256 → pow (BitVec.ofNat 32 k) ≤ v → k ≤ 252 := fun k hk hp => by
    by_contra c
    have := (pow_mono (j := 253) (by omega) hk).trans hp
    rw [pow_pos (by omega) (by omega)] at this
    exact absurd (lt_of_le_of_lt this h1) (by norm_num)
  let P : ℕ → Prop := fun k => k = 0 ∨ pow (BitVec.ofNat 32 k) ≤ v
  refine ⟨Nat.findGreatest P 252, Nat.findGreatest_le _, fun k hk1 hk => ⟨fun hp => ?_, fun hkn => ?_⟩⟩
  · exact Nat.le_findGreatest (big k hk hp) (Or.inr hp)
  · have := Nat.findGreatest_spec (P := P) (m := 0) (n := 252) (by omega) (Or.inl rfl)
    have hle : Nat.findGreatest P 252 ≤ 252 := Nat.findGreatest_le _
    rcases this with z | hp
    · omega
    · exact (pow_mono hkn (by omega)).trans hp

/-! ## The two scales -/

/-- The kernels' exponent of the quotient `v`. -/
def kexp (v : EReal) : BitVec 32 :=
  Scalar.select (FloatOps.cmpf (F := Ideal) (φ := .f32) .oeq v (FloatOps.ofBits (F := Ideal) .f32 0x00000000#32)) 0#32
    (IntOp.subi (field v) 126#32)

/-- The kernels' scale 2^e. -/
def kscale (v : EReal) : EReal := pow (IntOp.addi (kexp v) 127#32)

/-- The kernels' inverse scale 2^-e. -/
def kinv (v : EReal) : EReal := pow (IntOp.subi 127#32 (kexp v))

/-- The references' exponent of a row of largest magnitude `a` and quotient `v`: the count of the powers of two, from
    2^-126 on, that are at most `v`, less 126; 0 for a row of zeros. -/
def rexp (a v : EReal) : EReal :=
  if a = 0 then 0 else (∑ k : Fin 254, if Ideal.exp2 (((k.val : ℝ) - 126 : ℝ) : EReal) ≤ v then (1 : EReal) else 0) - ((126 : ℝ) : EReal)

theorem exp2_int (z : ℤ) : Ideal.exp2 (((z : ℝ)) : EReal) = (((2 : ℝ) ^ z : ℝ) : EReal) := by
  rw [Ideal.exp2_coe]
  exact congrArg _ (Real.rpow_intCast 2 z)

/-- The count of the powers of two is the exponent field. -/
theorem count_eq {v : EReal} {n : ℕ} (h : HasField v n) (hn : n ≤ 252) :
    (∑ k : Fin 254, if Ideal.exp2 (((k.val : ℝ) - 126 : ℝ) : EReal) ≤ v then (1 : EReal) else 0) = ((n : ℝ) : EReal) := by
  have e : ∀ k : Fin 254, (if Ideal.exp2 (((k.val : ℝ) - 126 : ℝ) : EReal) ≤ v then (1 : EReal) else 0)
      = (((if k.val < n then 1 else 0 : ℝ)) : EReal) := fun k => by
    have hk := k.isLt
    have e1 : Ideal.exp2 (((k.val : ℝ) - 126 : ℝ) : EReal) = pow (BitVec.ofNat 32 (k.val + 1)) := by
      rw [pow_pos (by omega) (by omega)]
      have c : ((k.val : ℝ) - 126 : ℝ) = (((k.val : ℤ) - 126 : ℤ) : ℝ) := by push_cast; rfl
      rw [c, exp2_int]
      exact congrArg Real.toEReal (congrArg _ (by push_cast; ring))
    have e2 : (pow (BitVec.ofNat 32 (k.val + 1)) ≤ v) ↔ k.val < n := h _ (by omega) (by omega)
    rw [e1]
    by_cases c : k.val < n
    · rw [if_pos (e2.2 c), if_pos c]; rfl
    · rw [if_neg (fun t => c (e2.1 t)), if_neg c]; rfl
  rw [Finset.sum_congr rfl fun k _ => e k]
  refine (map_sum (⟨⟨Real.toEReal, rfl⟩, EReal.coe_add⟩ : ℝ →+ EReal) (fun k : Fin 254 => if k.val < n then (1 : ℝ) else 0) Finset.univ).symm.trans ?_
  refine congrArg Real.toEReal ?_
  rw [Finset.sum_boole]
  congr 1
  rw [Fin.card_filter_val_lt]
  omega

theorem ofBits_zero : FloatOps.ofBits (F := Ideal) .f32 0x00000000#32 = (0 : EReal) := Ideal.ofBits_zero_f32

/-- The kernels' scale and inverse scale are the references'. -/
theorem scales_eq {a v : EReal} (hav : a = 0 ↔ v = 0) (h1 : v < (((2 : ℝ) ^ (126 : ℤ) : ℝ) : EReal)) :
    kscale v = Ideal.exp2 (rexp a v) ∧ kinv v = Ideal.exp2 (0 - rexp a v) := by
  have hk : kexp v = if v = 0 then 0#32 else field v - 126#32 := by
    unfold kexp
    rw [ofBits_zero]
    exact select_ofBool (v = 0) _ _
  unfold kscale kinv rexp
  rw [hk]
  by_cases z : v = 0
  · rw [if_pos z, if_pos (hav.2 z)]
    have e := exp2_int 0
    have p : pow (BitVec.ofNat 32 127) = (((2 : ℝ) ^ (0 : ℤ) : ℝ) : EReal) := by
      rw [pow_pos (by omega) (by omega)]; norm_num
    have e' : Ideal.exp2 0 = (((2 : ℝ) ^ (0 : ℤ) : ℝ) : EReal) := by rw [← e]; simp
    refine ⟨?_, ?_⟩
    · rw [e', ← p]; rfl
    · rw [sub_zero, e', ← p]; rfl
  · rw [if_neg z, if_neg (fun t => z (hav.1 t))]
    obtain ⟨n, hn, hf⟩ := exists_field h1
    rw [field_eq hf (by omega), count_eq hf hn]
    have w1 : IntOp.addi (BitVec.ofNat 32 n - 126#32) 127#32 = BitVec.ofNat 32 (n + 1) := by
      show BitVec.ofNat 32 n - 126#32 + 127#32 = _
      rw [BitVec.ofNat_add]; bv_omega
    have w2 : IntOp.subi 127#32 (BitVec.ofNat 32 n - 126#32) = BitVec.ofNat 32 (253 - n) := by
      show 127#32 - (BitVec.ofNat 32 n - 126#32) = _
      apply BitVec.eq_of_toNat_eq
      simp only [BitVec.toNat_sub, BitVec.toNat_ofNat]
      omega
    rw [w1, w2, pow_pos (by omega) (by omega), pow_pos (by omega) (by omega)]
    have r1 : ((n : ℝ) : EReal) - ((126 : ℝ) : EReal) = ((((n : ℤ) - 126 : ℤ) : ℝ) : EReal) := by
      rw [← EReal.coe_sub]; push_cast; rfl
    have r2 : (0 : EReal) - ((((n : ℤ) - 126 : ℤ) : ℝ) : EReal) = (((126 - (n : ℤ) : ℤ) : ℝ) : EReal) := by
      rw [← EReal.coe_zero, ← EReal.coe_sub]; congr 1; push_cast; ring
    refine ⟨?_, ?_⟩
    · rw [r1, exp2_int]; congr 2; push_cast; ring
    · rw [r1, r2, exp2_int]; congr 2; push_cast [Nat.cast_sub (by omega : n ≤ 253)]; ring

/-! ## The quotient -/

/-- 1/448 as the programs round it. -/
theorem rcp448 : FloatOps.ofBits (F := Ideal) .f32 0x3B124925#32 = ((9586981 * (2 : ℝ) ^ (-32 : ℤ) : ℝ) : EReal) := by
  refine (ieee_pos (b := 0x3B124925#32) (ex := 118) (fr := 1198373) (by decide) (by decide) (by decide) (by norm_num) (by norm_num)).trans ?_
  exact congrArg Real.toEReal (by norm_num)

/-- The largest finite number of the format. -/
theorem bound : FloatOps.ofBits (F := Ideal) .f32 0x7F7FFFFF#32 = ((16777215 * (2 : ℝ) ^ (104 : ℤ) : ℝ) : EReal) := by
  refine (ieee_pos (b := 0x7F7FFFFF#32) (ex := 254) (fr := 8388607) (by decide) (by decide) (by decide) (by norm_num) (by norm_num)).trans ?_
  exact congrArg Real.toEReal (by norm_num)

theorem ofBits_126 : FloatOps.ofBits (F := Ideal) .f32 0x42FC0000#32 = ((126 : ℝ) : EReal) := by
  refine (ieee_pos (b := 0x42FC0000#32) (ex := 133) (fr := 8126464) (by decide) (by decide) (by decide) (by norm_num) (by norm_num)).trans ?_
  exact congrArg Real.toEReal (by norm_num)

theorem ofBits_one : FloatOps.ofBits (F := Ideal) .f32 0x3F800000#32 = (1 : EReal) := by
  refine (ieee_pos (b := 0x3F800000#32) (ex := 127) (fr := 0) (by decide) (by decide) (by decide) (by norm_num) (by norm_num)).trans ?_
  rw [← EReal.coe_one]
  exact congrArg Real.toEReal (by norm_num)

/-- A row's quotient. -/
def quot (a : EReal) : EReal := a * FloatOps.ofBits (F := Ideal) .f32 0x3B124925#32

/-- The scales agree on a row whose largest magnitude is at most a number whose quotient is below 2^126. -/
theorem scales_of_le {a : EReal} {B : ℝ} (hB : B * (9586981 * (2 : ℝ) ^ (-32 : ℤ)) < (2 : ℝ) ^ (126 : ℤ)) (h1 : a ≤ (B : EReal)) :
    kscale (quot a) = Ideal.exp2 (rexp a (quot a)) ∧ kinv (quot a) = Ideal.exp2 (0 - rexp a (quot a)) := by
  have p : (0 : ℝ) < 9586981 * (2 : ℝ) ^ (-32 : ℤ) := by positivity
  induction a with
  | bot =>
    have q : quot ⊥ = ⊥ := by unfold quot; rw [rcp448]; exact EReal.bot_mul_coe_of_pos p
    rw [q]
    exact scales_eq (by simp) (EReal.bot_lt_coe _)
  | top => exact absurd h1 (not_le.2 (EReal.coe_lt_top _))
  | coe r =>
    have r1 : r ≤ B := EReal.coe_le_coe_iff.1 h1
    have q : quot (r : EReal) = ((r * (9586981 * (2 : ℝ) ^ (-32 : ℤ)) : ℝ) : EReal) := by
      unfold quot; rw [rcp448]; exact (EReal.coe_mul _ _).symm
    rw [q]
    refine scales_eq ?_ (EReal.coe_lt_coe_iff.2 ?_)
    · rw [EReal.coe_eq_zero, EReal.coe_eq_zero]
      constructor
      · rintro rfl; simp
      · intro h
        rcases mul_eq_zero.1 h with h | h
        · exact h
        · exact absurd h p.ne'
    · calc r * (9586981 * (2 : ℝ) ^ (-32 : ℤ)) ≤ B * (9586981 * (2 : ℝ) ^ (-32 : ℤ)) :=
            mul_le_mul_of_nonneg_right r1 p.le
        _ < (2 : ℝ) ^ (126 : ℤ) := hB

/-- The scales agree on a row whose largest magnitude is at most the largest finite number of the format. -/
theorem scales_of_bound {a : EReal} (h1 : a ≤ FloatOps.ofBits (F := Ideal) .f32 0x7F7FFFFF#32) :
    kscale (quot a) = Ideal.exp2 (rexp a (quot a)) ∧ kinv (quot a) = Ideal.exp2 (0 - rexp a (quot a)) :=
  scales_of_le (B := 16777215 * (2 : ℝ) ^ (104 : ℤ)) (by norm_num) (h1.trans_eq bound)

/-- A value brought onto the codes' range. -/
def clip (x : EReal) : EReal :=
  FloatOps.minimumf (F := Ideal) (φ := .f32) (FloatOps.ofBits .f32 0x43E00000#32)
    (FloatOps.maximumf (F := Ideal) (φ := .f32) (FloatOps.ofBits .f32 0xC3E00000#32) x)

end Cert.Layer

end
-- ==== Proof.RmsNorm.lean ====
/-
  THE NORMALISED SUM. The o-projection call of the layer adds a scaled product to the residual, divides each row by the
  root of its mean square and multiplies each column by a weight. This file states the sum and its normalisation as
  functions of whole arrays over the extended reals. `norm_le` bounds a normalised element: no element of a row is more
  than 85 (the root of the row's length, 7168, rounded up) times its column's weight, whatever the row holds, because a row
  with an infinite element is divided by infinity.
-/
module

public import proofs.«01_k».proof.Proof.SiluMax
public import proofs.«01_k».proof.Proof.Quant

@[expose] public section

noncomputable section

namespace Cert.Layer

open Idealize.ShloMosaic Idealize.ShloMosaic.ValueIdx
open scoped BigOperators

/-- The inverse root mean square of a row, from the sum of its squares. -/
def rms (s : EReal) : EReal :=
  Ideal.rsqrt (s * FloatOps.ofBits (F := Ideal) .f32 0x39124925#32 + FloatOps.ofBits (F := Ideal) .f32 0x3727C5AC#32)

/-- The sum of the residual and a scaled product. -/
def sumAt {M K N : ℕ} (a : (⟨2, ![M, K]⟩ : Shape).Idx → EReal) (sa : (⟨1, ![M]⟩ : Shape).Idx → EReal)
    (w : (⟨2, ![K, N]⟩ : Shape).Idx → EReal) (s : (⟨1, ![N]⟩ : Shape).Idx → EReal) (x : (⟨2, ![M, N]⟩ : Shape).Idx → EReal) :
    (⟨2, ![M, N]⟩ : Shape).Idx → EReal :=
  fun i => x i + proj a w (fun r => sa (ix1 r)) (fun c => s (ix1 c)) (i 0) (i 1)

/-- A row's sum of squares. -/
def sqAt {M N : ℕ} (h : (⟨2, ![M, N]⟩ : Shape).Idx → EReal) (r : Fin M) : EReal := ∑ p : Fin N, h (ix2 r p) * h (ix2 r p)

/-- The normalised sum. -/
def normAt {M N : ℕ} (h : (⟨2, ![M, N]⟩ : Shape).Idx → EReal) (g : (⟨1, ![N]⟩ : Shape).Idx → EReal) :
    (⟨2, ![M, N]⟩ : Shape).Idx → EReal :=
  fun i => h i * rms (sqAt h (i 0)) * g (ix1 (i 1))

/-- 1/7168 as the programs round it. -/
theorem rcp7168 : FloatOps.ofBits (F := Ideal) .f32 0x39124925#32 = ((9586981 * (2 : ℝ) ^ (-36 : ℤ) : ℝ) : EReal) := by
  refine (ieee_pos (b := 0x39124925#32) (ex := 114) (fr := 1198373) (by decide) (by decide) (by decide) (by norm_num) (by norm_num)).trans ?_
  exact congrArg Real.toEReal (by norm_num)

/-- The offset under the root. -/
theorem eps : FloatOps.ofBits (F := Ideal) .f32 0x3727C5AC#32 = ((10995116 * (2 : ℝ) ^ (-40 : ℤ) : ℝ) : EReal) := by
  refine (ieee_pos (b := 0x3727C5AC#32) (ex := 110) (fr := 2606508) (by decide) (by decide) (by decide) (by norm_num) (by norm_num)).trans ?_
  exact congrArg Real.toEReal (by norm_num)

theorem self_mul_nonneg (x : EReal) : 0 ≤ x * x := by
  induction x with
  | bot => simp
  | top => simp
  | coe r => rw [← EReal.coe_mul]; exact EReal.coe_nonneg.2 (mul_self_nonneg r)

theorem sum_coe {ι : Type} (s : Finset ι) (f : ι → ℝ) : ∑ k ∈ s, ((f k : ℝ) : EReal) = ((∑ k ∈ s, f k : ℝ) : EReal) :=
  (map_sum (⟨⟨Real.toEReal, rfl⟩, EReal.coe_add⟩ : ℝ →+ EReal) f s).symm

theorem real_norm (x s : ℝ) (hx : x * x ≤ s) :
    |x * (Real.sqrt (s * (9586981 * (2 : ℝ) ^ (-36 : ℤ)) + 10995116 * (2 : ℝ) ^ (-40 : ℤ)))⁻¹| ≤ 85 := by
  have hs : 0 ≤ s := (mul_self_nonneg x).trans hx
  set d := s * (9586981 * (2 : ℝ) ^ (-36 : ℤ)) + 10995116 * (2 : ℝ) ^ (-40 : ℤ) with hd
  have hd0 : 0 < d := by rw [hd]; positivity
  have hq : 0 < Real.sqrt d := Real.sqrt_pos.2 hd0
  rw [abs_mul, abs_inv, abs_of_pos hq, ← div_eq_mul_inv, div_le_iff₀ hq]
  refine Real.abs_le_sqrt (y := 85 ^ 2 * d) (x := x) ?_ |>.trans ?_
  · have c : (1 : ℝ) ≤ 85 ^ 2 * (9586981 * (2 : ℝ) ^ (-36 : ℤ)) := by norm_num
    have e : 85 ^ 2 * d = s * (85 ^ 2 * (9586981 * (2 : ℝ) ^ (-36 : ℤ))) + 85 ^ 2 * (10995116 * (2 : ℝ) ^ (-40 : ℤ)) := by
      rw [hd]; ring
    have p : (0 : ℝ) ≤ 85 ^ 2 * (10995116 * (2 : ℝ) ^ (-40 : ℤ)) := by positivity
    nlinarith [mul_le_mul_of_nonneg_left c hs]
  · rw [Real.sqrt_mul (by norm_num), Real.sqrt_sq (by norm_num)]

/-- A normalised element is at most 85 times the largest weight. -/
theorem norm_le {N : ℕ} (h : Fin N → EReal) (g : EReal) (hg : mag g ≤ FloatOps.ofBits (F := Ideal) .f32 0x7F7FFFFF#32) (p : Fin N) :
    mag (h p * rms (∑ q, h q * h q) * g) ≤ ((85 * (16777215 * (2 : ℝ) ^ (104 : ℤ)) : ℝ) : EReal) := by
  rw [bound] at hg
  have hB : (0 : ℝ) ≤ 85 * (16777215 * (2 : ℝ) ^ (104 : ℤ)) := by positivity
  have g1 : g ≤ _ := (le_max_left _ _).trans hg
  have g2 : -g ≤ _ := (le_max_right _ _).trans hg
  by_cases hall : ∀ q, h q ≠ ⊤ ∧ h q ≠ ⊥
  · induction g with
    | bot => exact absurd g2 (not_le.2 (EReal.coe_lt_top _))
    | top => exact absurd g1 (not_le.2 (EReal.coe_lt_top _))
    | coe γ =>
      have γ1 := EReal.coe_le_coe_iff.1 g1
      have γ2 : -γ ≤ _ := EReal.coe_le_coe_iff.1 g2
      have hη : ∀ q, h q = (((h q).toReal : ℝ) : EReal) := fun q => (EReal.coe_toReal (hall q).1 (hall q).2).symm
      have e : (∑ q, h q * h q) = ((∑ q, (h q).toReal * (h q).toReal : ℝ) : EReal) := by
        rw [← sum_coe]
        exact Finset.sum_congr rfl fun q _ => by rw [EReal.coe_mul, ← hη q]
      have hp : (h p).toReal * (h p).toReal ≤ ∑ q, (h q).toReal * (h q).toReal :=
        Finset.single_le_sum (f := fun q => (h q).toReal * (h q).toReal) (fun q _ => mul_self_nonneg _) (Finset.mem_univ p)
      have hs := (mul_self_nonneg _).trans hp
      have hd : 0 < (∑ q, (h q).toReal * (h q).toReal) * (9586981 * (2 : ℝ) ^ (-36 : ℤ)) + 10995116 * (2 : ℝ) ^ (-40 : ℤ) := by positivity
      rw [e]
      unfold rms
      rw [rcp7168, eps, ← EReal.coe_mul, ← EReal.coe_add, Ideal.rsqrt_coe, if_neg (not_lt.2 hd.le), if_neg hd.ne', hη p,
        ← EReal.coe_mul, ← EReal.coe_mul]
      have b := real_norm _ _ hp
      have b' : |((h p).toReal * (Real.sqrt ((∑ q, (h q).toReal * (h q).toReal) * (9586981 * (2 : ℝ) ^ (-36 : ℤ)) + 10995116 * (2 : ℝ) ^ (-40 : ℤ)))⁻¹) * γ|
          ≤ 85 * (16777215 * (2 : ℝ) ^ (104 : ℤ)) := by
        rw [abs_mul]
        exact mul_le_mul b (abs_le.2 ⟨by linarith, γ1⟩) (abs_nonneg _) (by norm_num)
      refine max_le (EReal.coe_le_coe_iff.2 ((le_abs_self _).trans b')) ?_
      rw [← EReal.coe_neg]
      exact EReal.coe_le_coe_iff.2 ((neg_le_abs _).trans b')
  · obtain ⟨q, hq⟩ := not_forall.1 hall
    have ht : h q * h q = ⊤ := by
      by_cases c : h q = ⊤
      · rw [c]; simp
      · have : h q = ⊥ := by by_contra c'; exact hq ⟨c, c'⟩
        rw [this]; simp
    have e : (∑ q, h q * h q) = ⊤ := top_le_iff.1 (ht.symm.trans_le
      (Finset.single_le_sum (f := fun q => h q * h q) (fun q _ => self_mul_nonneg _) (Finset.mem_univ q)))
    have r : rms ⊤ = 0 := by
      unfold rms
      rw [rcp7168, eps, EReal.top_mul_coe_of_pos (by positivity), EReal.top_add_coe]; rfl
    rw [e, r, mul_zero, zero_mul]
    unfold mag
    rw [neg_zero, max_self]
    exact EReal.coe_nonneg.2 hB

/-- The two scales agree on every row of a normalised sum whose weights are finite. -/
theorem scales_norm {M N : ℕ} (h : (⟨2, ![M, N]⟩ : Shape).Idx → EReal) (g : (⟨1, ![N]⟩ : Shape).Idx → EReal)
    (hg : ∀ p : Fin N, mag (g (ix1 p)) ≤ FloatOps.ofBits (F := Ideal) .f32 0x7F7FFFFF#32) (r : Fin M) :
    kscale (quot (amaxAt (normAt h g) r)) = Ideal.exp2 (rexp (amaxAt (normAt h g) r) (quot (amaxAt (normAt h g) r)))
      ∧ kinv (quot (amaxAt (normAt h g) r)) = Ideal.exp2 (0 - rexp (amaxAt (normAt h g) r) (quot (amaxAt (normAt h g) r))) :=
  scales_of_le (B := 85 * (16777215 * (2 : ℝ) ^ (104 : ℤ))) (by norm_num)
    ((amaxAt_le _ _ _).2 fun p => norm_le (fun q => h (ix2 r q)) (g (ix1 p)) (hg p) p)

end Cert.Layer

end
-- ==== Proof.QuantIdx.lean ====
/-
  THE REFERENCES' EXPONENT READ AT A ROW. The references work out a row's exponent on vectors: an iota of 254 powers of two
  compared with the row's quotient, summed, less 126, and 0 for a row of zeros. `Cert.Layer.rowExp_apply` reads it at a row.
-/
module

public import proofs.«01_k».proof.Proof.Common
public import proofs.«01_k».proof.Proof.Quant
public import proofs.«01_k».proof.Proof.SiluMax

@[expose] public section

noncomputable section

namespace Cert.Layer

open Idealize.ShloMosaic Idealize.ShloMosaic.ValueIdx
open scoped BigOperators

variable {M N : ℕ}

/-- The first lane of each row, read at an index. -/
theorem lane0_apply {α : Type} (x : (⟨2, ![M, N + 1]⟩ : Shape).Idx → α) (h : (⟨2, ![M, N + 1]⟩ : Shape).Slices ![0, 0] ⟨2, ![M, 1]⟩)
    (r : Fin M) (z : Fin 1) : extractStridedSlice ⟨2, ![M, 1]⟩ ![0, 0] x h (ix2 r z) = x (ix2 r 0) := by
  refine extractStridedSlice_apply _ x h _ _ fun a => ?_
  match a with
  | ⟨0, _⟩ => show r.val = 0 + r.val; omega
  | ⟨1, _⟩ => show (0 : ℕ) = 0 + z.val; have := z.isLt; omega

/-- The exponents of the rows, on vectors. -/
def rowExp (x : FVec Ideal ⟨2, ![M, 1]⟩ .f32) (hi : (⟨2, ![1, 254]⟩ : Shape).Iotas .tc 32 [1])
    (h1 : (⟨2, ![1, 254]⟩ : Shape).Broadcasts ⟨2, ![M, 254]⟩) (h2 : (⟨2, ![M, 1]⟩ : Shape).Broadcasts ⟨2, ![M, 254]⟩)
    (hr : (⟨2, ![M, 254]⟩ : Shape).Reduces [1] ⟨1, ![M]⟩) (hc : (⟨1, ![M]⟩ : Shape).ShapeCasts ⟨2, ![M, 1]⟩) :
    FVec Ideal ⟨2, ![M, 1]⟩ .f32 :=
  select (cmpf .oeq x (broadcast ⟨2, ![M, 1]⟩ (Scalar.ofBits .f32 0x00000000#32 : Ideal .f32)))
    (broadcast ⟨2, ![M, 1]⟩ (Scalar.ofBits .f32 0x00000000#32 : Ideal .f32))
    (subf (shapeCast ⟨2, ![M, 1]⟩ (multiReduction .add [1] ⟨1, ![M]⟩
        (select (cmpf .ole
            (broadcastTo ⟨2, ![M, 254]⟩ (exp2 (subf (sitofp .f32 (iota .tc ⟨2, ![1, 254]⟩ 32 [1] hi))
              (broadcast ⟨2, ![1, 254]⟩ (Scalar.ofBits .f32 0x42FC0000#32 : Ideal .f32)))) h1)
            (broadcastTo ⟨2, ![M, 254]⟩ (mulf x (broadcast ⟨2, ![M, 1]⟩ (Scalar.ofBits .f32 0x3B124925#32 : Ideal .f32))) h2))
          (broadcast ⟨2, ![M, 254]⟩ (Scalar.ofBits .f32 0x3F800000#32 : Ideal .f32))
          (broadcast ⟨2, ![M, 254]⟩ (Scalar.ofBits .f32 0x00000000#32 : Ideal .f32)))
        0x00000000#32 hr (.inl rfl) rfl) hc)
      (broadcast ⟨2, ![M, 1]⟩ (Scalar.ofBits .f32 0x42FC0000#32 : Ideal .f32)))

theorem iota_val : ∀ k : Fin 254, (BitVec.ofNat 32 k.val).toInt = (k.val : ℤ) := by decide +kernel

/-- One power of two compared with a row's quotient. -/
theorem term_apply (x : FVec Ideal ⟨2, ![M, 1]⟩ .f32) (hi : (⟨2, ![1, 254]⟩ : Shape).Iotas .tc 32 [1])
    (h1 : (⟨2, ![1, 254]⟩ : Shape).Broadcasts ⟨2, ![M, 254]⟩) (h2 : (⟨2, ![M, 1]⟩ : Shape).Broadcasts ⟨2, ![M, 254]⟩)
    (r : Fin M) (k : Fin 254) :
    select (cmpf .ole
        (broadcastTo ⟨2, ![M, 254]⟩ (exp2 (subf (sitofp .f32 (iota .tc ⟨2, ![1, 254]⟩ 32 [1] hi))
          (broadcast ⟨2, ![1, 254]⟩ (Scalar.ofBits .f32 0x42FC0000#32 : Ideal .f32)))) h1)
        (broadcastTo ⟨2, ![M, 254]⟩ (mulf x (broadcast ⟨2, ![M, 1]⟩ (Scalar.ofBits .f32 0x3B124925#32 : Ideal .f32))) h2))
      (broadcast ⟨2, ![M, 254]⟩ (Scalar.ofBits .f32 0x3F800000#32 : Ideal .f32))
      (broadcast ⟨2, ![M, 254]⟩ (Scalar.ofBits .f32 0x00000000#32 : Ideal .f32)) (ix2 r k)
    = if Ideal.exp2 (((k.val : ℝ) - 126 : ℝ) : EReal) ≤ quot (x (ix2 r 0)) then (1 : EReal) else 0 := by
  rw [select_apply, cmpf_apply, bcast_col, bcast_row]
  have o1 : (broadcast ⟨2, ![M, 254]⟩ (Scalar.ofBits .f32 0x3F800000#32 : Ideal .f32)) (ix2 r k) = (1 : EReal) := ofBits_one
  have o0 : (broadcast ⟨2, ![M, 254]⟩ (Scalar.ofBits .f32 0x00000000#32 : Ideal .f32)) (ix2 r k) = (0 : EReal) := ofBits_zero
  rw [o1, o0]
  have p : exp2 (subf (sitofp .f32 (iota .tc ⟨2, ![1, 254]⟩ 32 [1] hi))
      (broadcast ⟨2, ![1, 254]⟩ (Scalar.ofBits .f32 0x42FC0000#32 : Ideal .f32))) (ix2 0 k)
      = Ideal.exp2 (((k.val : ℝ) - 126 : ℝ) : EReal) := by
    show Ideal.exp2 ((((iota .tc ⟨2, ![1, 254]⟩ 32 [1] hi (ix2 0 k)).toInt : ℝ) : EReal)
      - FloatOps.ofBits (F := Ideal) .f32 0x42FC0000#32) = _
    rw [iota_single_apply, EReal.coe_sub, ofBits_126]
    refine congrArg (fun z : ℝ => Ideal.exp2 ((z : EReal) - ((126 : ℝ) : EReal))) ?_
    exact (congrArg (fun z : ℤ => (z : ℝ)) (iota_val k)).trans (by norm_cast)
  rw [p]
  exact select_ofBool (Ideal.exp2 (((k.val : ℝ) - 126 : ℝ) : EReal) ≤ quot (x (ix2 r 0))) _ _

theorem rowExp_apply (x : FVec Ideal ⟨2, ![M, 1]⟩ .f32) (hi : (⟨2, ![1, 254]⟩ : Shape).Iotas .tc 32 [1])
    (h1 : (⟨2, ![1, 254]⟩ : Shape).Broadcasts ⟨2, ![M, 254]⟩) (h2 : (⟨2, ![M, 1]⟩ : Shape).Broadcasts ⟨2, ![M, 254]⟩)
    (hr : (⟨2, ![M, 254]⟩ : Shape).Reduces [1] ⟨1, ![M]⟩) (hc : (⟨1, ![M]⟩ : Shape).ShapeCasts ⟨2, ![M, 1]⟩) (r : Fin M) :
    rowExp x hi h1 h2 hr hc (ix2 r 0) = rexp (x (ix2 r 0)) (quot (x (ix2 r 0))) := by
  unfold rowExp rexp
  rw [select_apply, cmpf_apply]
  have z : (broadcast ⟨2, ![M, 1]⟩ (Scalar.ofBits .f32 0x00000000#32 : Ideal .f32)) (ix2 r 0) = (0 : EReal) := ofBits_zero
  rw [z]
  refine (select_ofBool (x (ix2 r 0) = 0) _ _).trans ?_
  refine if_congr Iff.rfl rfl ?_
  rw [subf_apply, colCast_apply]
  refine congrArg₂ (· - ·) ?_ ofBits_126
  refine (Ideal.multiReduction_add_single _ _ hr (.inl rfl) rfl (ix1 r)).trans ?_
  refine Finset.sum_congr rfl fun k _ => ?_
  have e : hr.lift (ix1 r) k = ix2 r k := Shape.idx_ext₂ rfl rfl
  exact (congrArg _ e).trans (term_apply x hi h1 h2 r k)

end Cert.Layer

end
-- ==== Proof.OprojIdealRuns.lean ====
/-
  THE OUTPUT-PROJECTION KERNEL'S BODY, run once at each of the three kinds of grid point: the first, where the sums of squares
  are cleared; the middle ones; and the last, where the loop over the rows makes the codes and scales. Every run starts with
  the scratch that keeps all fourteen blocks at stated contents, and says which block it stores there.
-/
module

public import proofs.«01_k».proof.Proof.Gen.OprojIdeal.Launch
public import proofs.«01_k».proof.Proof.Gen.OprojIdeal.Skeleton
public import proofs.«01_k».proof.Proof.Gen.OprojIdeal.Loops
public import proofs.«01_k».proof.Proof.Gen.OprojIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.Gen.OprojIdeal.Frame

@[expose] public section

set_option maxRecDepth 16384

noncomputable section

namespace Cert.OprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, e0]
    word_cmp
   : ∀ t : Fin grid0.N, cond0_0 (grid0.coords t) ↔ t.val % 14 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 14 = 13 :=
  (fun t => by
    have ht : t.val < 14 := Nat.lt_of_lt_of_eq t.isLt N_0
    have e0 : (grid0.coords t 0).val = t.val / 1 % 14 := Pipeline.Grid.coords_val t 0 (by decide) rfl
    simp only [cond0_1, k0_cond2, e0]
    word_cmp
   : ∀ t : Fin grid0.N, cond0_1 (grid0.coords t) ↔ t.val % 14 = 13)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an output stored at every point, under no condition). -/
theorem liveAt0_6 : ∀ t : Fin cfg0.N, cfg0.idle 6 (grid0.coords t) = false := fun _ => rfl
/-- Window 7 is never idle (an output stored at every point, under no condition). -/
theorem liveAt0_7 : ∀ t : Fin cfg0.N, cfg0.idle 7 (grid0.coords t) = false := fun _ => rfl
/-- At the points of case A the printed configuration (`Cfg.idle`) calls output 8 idle: the case stores nothing into it. -/
theorem idleAt0_8_A : ∀ t : Fin cfg0.N, cond0_0 (grid0.coords t) → ¬cond0_1 (grid0.coords t) → cfg0.idle 8 (grid0.coords t) = true := by decide +kernel
/-- At the points of case A the pipeline does not write output 8's block back. -/
theorem noFlush0_8_A : ∀ t : Fin cfg0.N, cond0_0 (grid0.coords t) → ¬cond0_1 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → ¬cond0_1 (grid0.coords t) → cfg0.idle 8 (grid0.coords t) = true := by decide +kernel
/-- At the points of case B the pipeline does not write output 8's block back. -/
theorem noFlush0_8_B : ∀ t : Fin cfg0.N, ¬cond0_0 (grid0.coords t) → ¬cond0_1 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → cond0_1 (grid0.coords t) → cfg0.idle 8 (grid0.coords t) = false := by decide +kernel
/-- At the points of case A the printed configuration (`Cfg.idle`) calls output 9 idle: the case stores nothing into it. -/
theorem idleAt0_9_A : ∀ t : Fin cfg0.N, cond0_0 (grid0.coords t) → ¬cond0_1 (grid0.coords t) → cfg0.idle 9 (grid0.coords t) = true := by decide +kernel
/-- At the points of case A the pipeline does not write output 9's block back. -/
theorem noFlush0_9_A : ∀ t : Fin cfg0.N, cond0_0 (grid0.coords t) → ¬cond0_1 (grid0.coords t) → (cfg0.win 9).flush t = false := by decide +kernel
/-- At the points of case B the printed configuration (`Cfg.idle`) calls output 9 idle: the case stores nothing into it. -/
theorem idleAt0_9_B : ∀ t : Fin cfg0.N, ¬cond0_0 (grid0.coords t) → ¬cond0_1 (grid0.coords t) → cfg0.idle 9 (grid0.coords t) = true := by decide +kernel
/-- At the points of case B the pipeline does not write output 9's block back. -/
theorem noFlush0_9_B : ∀ t : Fin cfg0.N, ¬cond0_0 (grid0.coords t) → ¬cond0_1 (grid0.coords t) → (cfg0.win 9).flush t = false := by decide +kernel
/-- At the points of case C the printed configuration (`Cfg.idle`) calls output 9 live: the case stores into it. -/
theorem liveAt0_9_C : ∀ t : Fin cfg0.N, ¬cond0_0 (grid0.coords t) → cond0_1 (grid0.coords t) → cfg0.idle 9 (grid0.coords t) = false := by decide +kernel

/-! ## The kernel body on any staging memrefs: a subtype the run finds -/

/-- One staging buffer of output window 6, through which its contents are stated (`View.read_writes_of_cover`: the
    choice does not matter). -/
abbrev VO0_6 : View sig .tc .vmem S768x512 .f32 := (Memref.whole cc0_stg6_0 : Memref sig .tc .vmem S768x512 .f32).view
/-- One staging buffer of output window 7, through which its contents are stated (`View.read_writes_of_cover`: the
    choice does not matter). -/
abbrev VO0_7 : View sig .tc .vmem S768x512 .bf16 := (Memref.whole cc0_stg7_0 : Memref sig .tc .vmem S768x512 .bf16).view
/-- One staging buffer of output window 8, through which its contents are stated (`View.read_writes_of_cover`: the
    choice does not matter). -/
abbrev VO0_8 : View sig .tc .vmem S768x7168 .fp8e4m3 := (Memref.whole cc0_stg8_0 : Memref sig .tc .vmem S768x7168 .fp8e4m3).view
/-- One staging buffer of output window 9, through which its contents are stated (`View.read_writes_of_cover`: the
    choice does not matter). -/
abbrev VO0_9 : View sig .tc .vmem S768x128 .f32 := (Memref.whole cc0_stg9_0 : Memref sig .tc .vmem S768x128 .f32).view
/-- Each window's current staging memref at point `t`, spelled as the pipeline passes it (`bodyAt0`), and its wholeness. -/
abbrev ms0_0 (t : Fin cfg0.N) : Memref sig .tc .vmem S768x5376 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5376x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x7168 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S768x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S768x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S768x7168 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S768x128 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S14x768x512 .f32 := Memref.whole cc0_scratch0
abbrev scM0_1 : Memref sig .tc .vmem S768x128 .f32 := Memref.whole cc0_scratch1
/-- The scratch `arg12` the kernel carries between points, as a view: what it holds is stated through it. -/
abbrev VS0_1 : View sig .tc .vmem S768x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

set_option maxHeartbeats 1000000 in
/-- What the body's stores leave AT THE FIRST POINT, as lists of pieces, last first: in each output's buffer, in the scratch of all blocks
    (over its earlier contents `xs0`) and in the scratch of sums of squares; with the proof that the body, run on whole
    buffers holding the inputs' blocks, ends with those pieces written. The lists are the run's own finds. -/
noncomputable def kernelRun0_A (c : Dev nD) (i : grid0.Coords) (arg1 : Memref sig .tc .vmem S768x5376 .fp8e4m3) (harg1 : arg1.IsWhole) (arg2 : Memref sig .tc .vmem S768x128 .f32) (harg2 : arg2.IsWhole) (arg3 : Memref sig .tc .vmem S5376x512 .fp8e4m3) (harg3 : arg3.IsWhole) (arg4 : Memref sig .tc .vmem S1x512 .f32) (harg4 : arg4.IsWhole) (arg5 : Memref sig .tc .vmem S768x512 .bf16) (harg5 : arg5.IsWhole) (arg6 : Memref sig .tc .vmem S1x7168 .f32) (harg6 : arg6.IsWhole) (arg7 : Memref sig .tc .vmem S768x512 .f32) (harg7 : arg7.IsWhole) (arg8 : Memref sig .tc .vmem S768x512 .bf16) (harg8 : arg8.IsWhole) (arg9 : Memref sig .tc .vmem S768x7168 .fp8e4m3) (harg9 : arg9.IsWhole) (arg10 : Memref sig .tc .vmem S768x128 .f32) (harg10 : arg10.IsWhole) (arg11 : Memref sig .tc .vmem S14x768x512 .f32) (harg11 : arg11.IsWhole) (arg12 : Memref sig .tc .vmem S768x128 .f32) (harg12 : arg12.IsWhole) (hc0 : cond0_0 i) (hc1 : ¬cond0_1 i)
    (x0 : Vec F S768x5376 .fp8e4m3) (x1 : Vec F S768x128 .f32) (x2 : Vec F S5376x512 .fp8e4m3) (x3 : Vec F S1x512 .f32) (x4 : Vec F S768x512 .bf16) (x5 : Vec F S1x7168 .f32) (xs0 : Vec F S14x768x512 .f32) :
    Σ' (L6 : List (View.Piece (Elt F) S768x512 .f32)), Σ' (L7 : List (View.Piece (Elt F) S768x512 .bf16)), Σ' (L8 : List (View.Piece (Elt F) S768x7168 .fp8e4m3)), Σ' (L9 : List (View.Piece (Elt F) S768x128 .f32)), Σ' (LS0 : List (View.Piece (Elt F) S14x768x512 .f32)), { LS1 : List (View.Piece (Elt F) S768x128 .f32) //
      ∀ (xi8 : Vec F S768x7168 .fp8e4m3) (xi9 : Vec F S768x128 .f32) (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xi8 ∗ owns (c : Thread nD τ) arg10 fullShare xi9 ∗ owns (c : Thread nD τ) arg11 fullShare xs0 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xi8 ∗ owns (c : Thread nD τ) arg10 fullShare xi9 ∗ (arg11.view.loc (c : Thread nD τ) ↦[arg11.view.set]{fullShare} arg11.view.writes (Elt F) (harg11.unread xs0) LS0) ∗ (∃ f, arg12.view.loc (c : Thread nD τ) ↦[arg12.view.set]{fullShare} arg12.view.writes (Elt F) f LS1)) -∗ K ⟨⟩))
          ⊢ wp frame (wpE (defs₀ (F := F)) Variants.none c none) E (cc0_oproj i arg1 harg1 arg2 harg2 arg3 harg3 arg4 harg4 arg5 harg5 arg6 harg6 arg7 harg7 arg8 harg8 arg9 harg9 arg10 harg10 arg11 harg11 arg12 harg12) K } := by
  refine ⟨?_,  ?_, [], [], ?_, ?_, fun xi8 xi9 E K => ?run⟩
  case run =>
    simp only [cc0_oproj_eq_skeleton]; unfold cc0_oproj_skel
    simp only [k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf8; obtain rfl := harg10.eq_unread hf9; obtain rfl := harg11.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]
    · iexists _; isplitr; · ipureintro; exact harg9.read_unread _
      iexact H8
    isplitl [H9]
    · iexists _; isplitr; · ipureintro; exact harg10.read_unread _
      iexact H9
    isplitl [HS0]; · iexact HS0
    iexists _; iexact HS1

set_option maxHeartbeats 1000000 in
/-- What the body's stores leave AT A MIDDLE POINT, as lists of pieces, last first: in each output's buffer, in the scratch of all blocks
    (over its earlier contents `xs0`) and in the scratch of sums of squares; with the proof that the body, run on whole
    buffers holding the inputs' blocks, ends with those pieces written. The lists are the run's own finds. -/
noncomputable def kernelRun0_B (c : Dev nD) (i : grid0.Coords) (arg1 : Memref sig .tc .vmem S768x5376 .fp8e4m3) (harg1 : arg1.IsWhole) (arg2 : Memref sig .tc .vmem S768x128 .f32) (harg2 : arg2.IsWhole) (arg3 : Memref sig .tc .vmem S5376x512 .fp8e4m3) (harg3 : arg3.IsWhole) (arg4 : Memref sig .tc .vmem S1x512 .f32) (harg4 : arg4.IsWhole) (arg5 : Memref sig .tc .vmem S768x512 .bf16) (harg5 : arg5.IsWhole) (arg6 : Memref sig .tc .vmem S1x7168 .f32) (harg6 : arg6.IsWhole) (arg7 : Memref sig .tc .vmem S768x512 .f32) (harg7 : arg7.IsWhole) (arg8 : Memref sig .tc .vmem S768x512 .bf16) (harg8 : arg8.IsWhole) (arg9 : Memref sig .tc .vmem S768x7168 .fp8e4m3) (harg9 : arg9.IsWhole) (arg10 : Memref sig .tc .vmem S768x128 .f32) (harg10 : arg10.IsWhole) (arg11 : Memref sig .tc .vmem S14x768x512 .f32) (harg11 : arg11.IsWhole) (arg12 : Memref sig .tc .vmem S768x128 .f32) (harg12 : arg12.IsWhole) (hc0 : ¬cond0_0 i) (hc1 : ¬cond0_1 i)
    (x0 : Vec F S768x5376 .fp8e4m3) (x1 : Vec F S768x128 .f32) (x2 : Vec F S5376x512 .fp8e4m3) (x3 : Vec F S1x512 .f32) (x4 : Vec F S768x512 .bf16) (x5 : Vec F S1x7168 .f32) (xs0 : Vec F S14x768x512 .f32) (xs1 : Vec F S768x128 .f32) :
    Σ' (L6 : List (View.Piece (Elt F) S768x512 .f32)), Σ' (L7 : List (View.Piece (Elt F) S768x512 .bf16)), Σ' (L8 : List (View.Piece (Elt F) S768x7168 .fp8e4m3)), Σ' (L9 : List (View.Piece (Elt F) S768x128 .f32)), Σ' (LS0 : List (View.Piece (Elt F) S14x768x512 .f32)), { LS1 : List (View.Piece (Elt F) S768x128 .f32) //
      ∀ (xi8 : Vec F S768x7168 .fp8e4m3) (xi9 : Vec F S768x128 .f32) (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xi8 ∗ owns (c : Thread nD τ) arg10 fullShare xi9 ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xi8 ∗ owns (c : Thread nD τ) arg10 fullShare xi9 ∗ (arg11.view.loc (c : Thread nD τ) ↦[arg11.view.set]{fullShare} arg11.view.writes (Elt F) (harg11.unread xs0) LS0) ∗ (∃ f, arg12.view.loc (c : Thread nD τ) ↦[arg12.view.set]{fullShare} arg12.view.writes (Elt F) f LS1)) -∗ K ⟨⟩))
          ⊢ wp frame (wpE (defs₀ (F := F)) Variants.none c none) E (cc0_oproj i arg1 harg1 arg2 harg2 arg3 harg3 arg4 harg4 arg5 harg5 arg6 harg6 arg7 harg7 arg8 harg8 arg9 harg9 arg10 harg10 arg11 harg11 arg12 harg12) K } := by
  refine ⟨?_,  ?_, [], [], ?_, ?_, fun xi8 xi9 E K => ?run⟩
  case run =>
    simp only [cc0_oproj_eq_skeleton]; unfold cc0_oproj_skel
    simp only [k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf8; obtain rfl := harg10.eq_unread hf9; obtain rfl := harg12.eq_unread hfs1; obtain rfl := harg11.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]
    · iexists _; isplitr; · ipureintro; exact harg9.read_unread _
      iexact H8
    isplitl [H9]
    · iexists _; isplitr; · ipureintro; exact harg10.read_unread _
      iexact H9
    isplitl [HS0]; · iexact HS0
    iexists _; iexact HS1

set_option maxHeartbeats 1000000 in
/-- What the body's stores leave AT THE LAST POINT, as lists of pieces, last first: in each output's buffer, in the scratch of all blocks
    (over its earlier contents `xs0`) and in the scratch of sums of squares; with the proof that the body, run on whole
    buffers holding the inputs' blocks, ends with those pieces written. The lists are the run's own finds. -/
noncomputable def kernelRun0_C (c : Dev nD) (i : grid0.Coords) (arg1 : Memref sig .tc .vmem S768x5376 .fp8e4m3) (harg1 : arg1.IsWhole) (arg2 : Memref sig .tc .vmem S768x128 .f32) (harg2 : arg2.IsWhole) (arg3 : Memref sig .tc .vmem S5376x512 .fp8e4m3) (harg3 : arg3.IsWhole) (arg4 : Memref sig .tc .vmem S1x512 .f32) (harg4 : arg4.IsWhole) (arg5 : Memref sig .tc .vmem S768x512 .bf16) (harg5 : arg5.IsWhole) (arg6 : Memref sig .tc .vmem S1x7168 .f32) (harg6 : arg6.IsWhole) (arg7 : Memref sig .tc .vmem S768x512 .f32) (harg7 : arg7.IsWhole) (arg8 : Memref sig .tc .vmem S768x512 .bf16) (harg8 : arg8.IsWhole) (arg9 : Memref sig .tc .vmem S768x7168 .fp8e4m3) (harg9 : arg9.IsWhole) (arg10 : Memref sig .tc .vmem S768x128 .f32) (harg10 : arg10.IsWhole) (arg11 : Memref sig .tc .vmem S14x768x512 .f32) (harg11 : arg11.IsWhole) (arg12 : Memref sig .tc .vmem S768x128 .f32) (harg12 : arg12.IsWhole) (hc0 : ¬cond0_0 i) (hc1 : cond0_1 i)
    (x0 : Vec F S768x5376 .fp8e4m3) (x1 : Vec F S768x128 .f32) (x2 : Vec F S5376x512 .fp8e4m3) (x3 : Vec F S1x512 .f32) (x4 : Vec F S768x512 .bf16) (x5 : Vec F S1x7168 .f32) (xs0 : Vec F S14x768x512 .f32) (xs1 : Vec F S768x128 .f32) :
    Σ' (L6 : List (View.Piece (Elt F) S768x512 .f32)), Σ' (L7 : List (View.Piece (Elt F) S768x512 .bf16)), Σ' (L8 : List (View.Piece (Elt F) S768x7168 .fp8e4m3)), Σ' (L9 : List (View.Piece (Elt F) S768x128 .f32)), Σ' (LS0 : List (View.Piece (Elt F) S14x768x512 .f32)), { LS1 : List (View.Piece (Elt F) S768x128 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (arg11.view.loc (c : Thread nD τ) ↦[arg11.view.set]{fullShare} arg11.view.writes (Elt F) (harg11.unread xs0) LS0) ∗ (∃ f, arg12.view.loc (c : Thread nD τ) ↦[arg12.view.set]{fullShare} arg12.view.writes (Elt F) f LS1)) -∗ K ⟨⟩))
          ⊢ wp frame (wpE (defs₀ (F := F)) Variants.none c none) E (cc0_oproj i arg1 harg1 arg2 harg2 arg3 harg3 arg4 harg4 arg5 harg5 arg6 harg6 arg7 harg7 arg8 harg8 arg9 harg9 arg10 harg10 arg11 harg11 arg12 harg12) K } := by
  refine ⟨?_, ?_,  ?_, ?_, ?_, ?_, fun E K => ?run⟩
  case run =>
    simp only [cc0_oproj_eq_skeleton]; unfold cc0_oproj_skel
    simp only [k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg12.eq_unread hfs1; obtain rfl := harg11.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    isplitl [HS0]; · iexact HS0
    iexists _; iexact HS1

end Cert.OprojIdeal.Gen

end
-- ==== Proof.OprojIdealFrame.lean ====
/-
  WHAT THE OUTPUT-PROJECTION KERNEL LEAVES AT EACH POINT, in closed form: the block of `x + attention·w_o`, the same in bf16, that
  block kept in the scratch of all fourteen, and the sums of squares raised by the block's; at the last point the pieces its loop
  over the rows writes. From these the proof data of the pipeline, the body's triple at every point, and the frame: every run ends
  with the arguments unchanged and the counters at zero, and the outputs at what the points left.
-/
module

public import proofs.«01_k».proof.Proof.OprojIdealRuns
public import Idealize.ShloMosaic.Lib.VecWindow
public import Idealize.ShloMosaic.Lib.Pipeline.Value
public import Idealize.ShloMosaic.Lib.Claim

@[expose] public section

set_option maxRecDepth 16384

noncomputable section

namespace Cert.OprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The values -/

theorem offs_zero : (![0, 0] : Fin 2 → ℕ) = fun _ => 0 := by funext a; fin_cases a <;> rfl

/-- One block of the sum: the attention codes times the block's weights, scaled, over the block of `x`. -/
def hval (x0 : Vec F S768x5376 .fp8e4m3) (x1 : Vec F S768x128 .f32) (x2 : Vec F S5376x512 .fp8e4m3) (x3 : Vec F S1x512 .f32)
    (x4 : Vec F S768x512 .bf16) : FVec F S768x512 .f32 :=
  k0_pay35 x0 x2 x4 (View.ld x1 (Rect.unit ![0, 0] ![768, 1] inb_S768x128_S768x1_0_0)) x3

/-- The same in bf16. -/
def hbval (x0 : Vec F S768x5376 .fp8e4m3) (x1 : Vec F S768x128 .f32) (x2 : Vec F S5376x512 .fp8e4m3) (x3 : Vec F S1x512 .f32)
    (x4 : Vec F S768x512 .bf16) : FVec F S768x512 .bf16 :=
  k0_pay36 x0 x2 x4 (View.ld x1 (Rect.unit ![0, 0] ![768, 1] inb_S768x128_S768x1_0_0)) x3

/-- The same as one slab of the scratch. -/
def slab (x0 : Vec F S768x5376 .fp8e4m3) (x1 : Vec F S768x128 .f32) (x2 : Vec F S5376x512 .fp8e4m3) (x3 : Vec F S1x512 .f32)
    (x4 : Vec F S768x512 .bf16) : FVec F S1x768x512 .f32 :=
  k0_pay37 x0 x2 x4 (View.ld x1 (Rect.unit ![0, 0] ![768, 1] inb_S768x128_S768x1_0_0)) x3

/-- The sums of squares on 128 lanes, raised by the block's. -/
def ssqval (x0 : Vec F S768x5376 .fp8e4m3) (x1 : Vec F S768x128 .f32) (x2 : Vec F S5376x512 .fp8e4m3) (x3 : Vec F S1x512 .f32)
    (x4 : Vec F S768x512 .bf16) (p : Vec F S768x128 .f32) : FVec F S768x128 .f32 :=
  k0_pay1 (k0_pay39 x0 x2 x4 (View.ld x1 (Rect.unit ![0, 0] ![768, 1] inb_S768x128_S768x1_0_0)) x3 p)

/-- The scratch of all blocks after the point at `i` has stored its own. -/
def putAt (i : grid0.Coords) (A : Vec F S14x768x512 .f32) (w : Vec F S1x768x512 .f32) : Vec F S14x768x512 .f32 :=
  VecWindow.put A ![(i 0).val, 0, 0] S1x768x512.size w

section Body

variable {c : Dev nD} {i : grid0.Coords} {arg1 : Memref sig .tc .vmem S768x5376 .fp8e4m3} {harg1 : arg1.IsWhole} {arg2 : Memref sig .tc .vmem S768x128 .f32} {harg2 : arg2.IsWhole} {arg3 : Memref sig .tc .vmem S5376x512 .fp8e4m3} {harg3 : arg3.IsWhole} {arg4 : Memref sig .tc .vmem S1x512 .f32} {harg4 : arg4.IsWhole} {arg5 : Memref sig .tc .vmem S768x512 .bf16} {harg5 : arg5.IsWhole} {arg6 : Memref sig .tc .vmem S1x7168 .f32} {harg6 : arg6.IsWhole} {arg7 : Memref sig .tc .vmem S768x512 .f32} {harg7 : arg7.IsWhole} {arg8 : Memref sig .tc .vmem S768x512 .bf16} {harg8 : arg8.IsWhole} {arg9 : Memref sig .tc .vmem S768x7168 .fp8e4m3} {harg9 : arg9.IsWhole} {arg10 : Memref sig .tc .vmem S768x128 .f32} {harg10 : arg10.IsWhole} {arg11 : Memref sig .tc .vmem S14x768x512 .f32} {harg11 : arg11.IsWhole} {arg12 : Memref sig .tc .vmem S768x128 .f32} {harg12 : arg12.IsWhole}
  {x0 : Vec F S768x5376 .fp8e4m3} {x1 : Vec F S768x128 .f32} {x2 : Vec F S5376x512 .fp8e4m3} {x3 : Vec F S1x512 .f32} {x4 : Vec F S768x512 .bf16} {x5 : Vec F S1x7168 .f32} {xs0 : Vec F S14x768x512 .f32}

theorem runA_6 (hc0 : cond0_0 i) (hc1 : ¬cond0_1 i) (v : View sig .tc .vmem S768x512 .f32) (f : v.ty.Contents (Elt F)) :
    v.read (Elt F) (v.writes (Elt F) f (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0).1) = hval x0 x1 x2 x3 x4 := by
  unfold kernelRun0_A
  dsimp only
  sl_unfold_words
  rw [View.read_writes_full]
  simp only [View.readAt_eq_ld, harg1.read_unread, harg2.read_unread, harg3.read_unread, harg4.read_unread, harg5.read_unread, harg12.read_unread, View.ld_unit_zero (S := S768x5376) offs_zero, View.ld_unit_zero (S := S5376x512) offs_zero, View.ld_unit_zero (S := S1x512) offs_zero, View.ld_unit_zero (S := S768x512) offs_zero, View.ld_unit_zero (S := S768x128) offs_zero]
  rfl

theorem runA_7 (hc0 : cond0_0 i) (hc1 : ¬cond0_1 i) (v : View sig .tc .vmem S768x512 .bf16) (f : v.ty.Contents (Elt F)) :
    v.read (Elt F) (v.writes (Elt F) f (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0).2.1) = hbval x0 x1 x2 x3 x4 := by
  unfold kernelRun0_A
  dsimp only
  sl_unfold_words
  rw [View.read_writes_full]
  simp only [View.readAt_eq_ld, harg1.read_unread, harg2.read_unread, harg3.read_unread, harg4.read_unread, harg5.read_unread, harg12.read_unread, View.ld_unit_zero (S := S768x5376) offs_zero, View.ld_unit_zero (S := S5376x512) offs_zero, View.ld_unit_zero (S := S1x512) offs_zero, View.ld_unit_zero (S := S768x512) offs_zero, View.ld_unit_zero (S := S768x128) offs_zero]
  rfl

theorem runA_s0 (hc0 : cond0_0 i) (hc1 : ¬cond0_1 i) :
    arg11.view.writes (Elt F) (harg11.unread xs0) (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0).2.2.2.2.1 = harg11.unread (putAt i xs0 (slab x0 x1 x2 x3 x4)) := by
  refine harg11.eq_unread ?_
  unfold kernelRun0_A
  dsimp only
  sl_unfold_words
  refine (View.read_writes_cons_put _ _ _ _ _ (k0_off1_eq i)).trans ?_
  rw [View.writes_nil, harg11.read_unread]
  simp only [View.readAt_eq_ld, harg1.read_unread, harg2.read_unread, harg3.read_unread, harg4.read_unread, harg5.read_unread, harg12.read_unread, View.ld_unit_zero (S := S768x5376) offs_zero, View.ld_unit_zero (S := S5376x512) offs_zero, View.ld_unit_zero (S := S1x512) offs_zero, View.ld_unit_zero (S := S768x512) offs_zero, View.ld_unit_zero (S := S768x128) offs_zero]
  rfl

theorem runA_s1 (hc0 : cond0_0 i) (hc1 : ¬cond0_1 i) (v : View sig .tc .vmem S768x128 .f32) (f : v.ty.Contents (Elt F)) :
    v.read (Elt F) (v.writes (Elt F) f (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0).2.2.2.2.2.1) = ssqval x0 x1 x2 x3 x4 (k0_pay38 (F := F)) := by
  unfold kernelRun0_A
  dsimp only
  sl_unfold_words
  rw [View.read_writes_full]
  rw [View.readCov_unit_zero (S := S768x128) _ offs_zero]
  simp only [View.readAt_eq_ld, harg1.read_unread, harg2.read_unread, harg3.read_unread, harg4.read_unread, harg5.read_unread, harg12.read_unread, View.ld_unit_zero (S := S768x5376) offs_zero, View.ld_unit_zero (S := S5376x512) offs_zero, View.ld_unit_zero (S := S1x512) offs_zero, View.ld_unit_zero (S := S768x512) offs_zero, View.ld_unit_zero (S := S768x128) offs_zero]
  rfl

theorem runB_6 (hc0 : ¬cond0_0 i) (hc1 : ¬cond0_1 i) (xs1 : Vec F S768x128 .f32) (v : View sig .tc .vmem S768x512 .f32) (f : v.ty.Contents (Elt F)) :
    v.read (Elt F) (v.writes (Elt F) f (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).1) = hval x0 x1 x2 x3 x4 := by
  unfold kernelRun0_B
  dsimp only
  sl_unfold_words
  rw [View.read_writes_full]
  simp only [View.readAt_eq_ld, harg1.read_unread, harg2.read_unread, harg3.read_unread, harg4.read_unread, harg5.read_unread, harg12.read_unread, View.ld_unit_zero (S := S768x5376) offs_zero, View.ld_unit_zero (S := S5376x512) offs_zero, View.ld_unit_zero (S := S1x512) offs_zero, View.ld_unit_zero (S := S768x512) offs_zero, View.ld_unit_zero (S := S768x128) offs_zero]
  rfl

theorem runB_7 (hc0 : ¬cond0_0 i) (hc1 : ¬cond0_1 i) (xs1 : Vec F S768x128 .f32) (v : View sig .tc .vmem S768x512 .bf16) (f : v.ty.Contents (Elt F)) :
    v.read (Elt F) (v.writes (Elt F) f (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1) = hbval x0 x1 x2 x3 x4 := by
  unfold kernelRun0_B
  dsimp only
  sl_unfold_words
  rw [View.read_writes_full]
  simp only [View.readAt_eq_ld, harg1.read_unread, harg2.read_unread, harg3.read_unread, harg4.read_unread, harg5.read_unread, harg12.read_unread, View.ld_unit_zero (S := S768x5376) offs_zero, View.ld_unit_zero (S := S5376x512) offs_zero, View.ld_unit_zero (S := S1x512) offs_zero, View.ld_unit_zero (S := S768x512) offs_zero, View.ld_unit_zero (S := S768x128) offs_zero]
  rfl

theorem runB_s0 (hc0 : ¬cond0_0 i) (hc1 : ¬cond0_1 i) (xs1 : Vec F S768x128 .f32) :
    arg11.view.writes (Elt F) (harg11.unread xs0) (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1 = harg11.unread (putAt i xs0 (slab x0 x1 x2 x3 x4)) := by
  refine harg11.eq_unread ?_
  unfold kernelRun0_B
  dsimp only
  sl_unfold_words
  refine (View.read_writes_cons_put _ _ _ _ _ (k0_off1_eq i)).trans ?_
  rw [View.writes_nil, harg11.read_unread]
  simp only [View.readAt_eq_ld, harg1.read_unread, harg2.read_unread, harg3.read_unread, harg4.read_unread, harg5.read_unread, harg12.read_unread, View.ld_unit_zero (S := S768x5376) offs_zero, View.ld_unit_zero (S := S5376x512) offs_zero, View.ld_unit_zero (S := S1x512) offs_zero, View.ld_unit_zero (S := S768x512) offs_zero, View.ld_unit_zero (S := S768x128) offs_zero]
  rfl

theorem runB_s1 (hc0 : ¬cond0_0 i) (hc1 : ¬cond0_1 i) (xs1 : Vec F S768x128 .f32) (v : View sig .tc .vmem S768x128 .f32) (f : v.ty.Contents (Elt F)) :
    v.read (Elt F) (v.writes (Elt F) f (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.2.1) = ssqval x0 x1 x2 x3 x4 xs1 := by
  unfold kernelRun0_B
  dsimp only
  sl_unfold_words
  rw [View.read_writes_full]

  simp only [View.readAt_eq_ld, harg1.read_unread, harg2.read_unread, harg3.read_unread, harg4.read_unread, harg5.read_unread, harg12.read_unread, View.ld_unit_zero (S := S768x5376) offs_zero, View.ld_unit_zero (S := S5376x512) offs_zero, View.ld_unit_zero (S := S1x512) offs_zero, View.ld_unit_zero (S := S768x512) offs_zero, View.ld_unit_zero (S := S768x128) offs_zero]
  rfl

theorem runC_6 (hc0 : ¬cond0_0 i) (hc1 : cond0_1 i) (xs1 : Vec F S768x128 .f32) (v : View sig .tc .vmem S768x512 .f32) (f : v.ty.Contents (Elt F)) :
    v.read (Elt F) (v.writes (Elt F) f (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).1) = hval x0 x1 x2 x3 x4 := by
  unfold kernelRun0_C
  dsimp only
  sl_unfold_words
  rw [View.read_writes_full]
  simp only [View.readAt_eq_ld, harg1.read_unread, harg2.read_unread, harg3.read_unread, harg4.read_unread, harg5.read_unread, harg12.read_unread, View.ld_unit_zero (S := S768x5376) offs_zero, View.ld_unit_zero (S := S5376x512) offs_zero, View.ld_unit_zero (S := S1x512) offs_zero, View.ld_unit_zero (S := S768x512) offs_zero, View.ld_unit_zero (S := S768x128) offs_zero]
  rfl

theorem runC_7 (hc0 : ¬cond0_0 i) (hc1 : cond0_1 i) (xs1 : Vec F S768x128 .f32) (v : View sig .tc .vmem S768x512 .bf16) (f : v.ty.Contents (Elt F)) :
    v.read (Elt F) (v.writes (Elt F) f (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1) = hbval x0 x1 x2 x3 x4 := by
  unfold kernelRun0_C
  dsimp only
  sl_unfold_words
  rw [View.read_writes_full]
  simp only [View.readAt_eq_ld, harg1.read_unread, harg2.read_unread, harg3.read_unread, harg4.read_unread, harg5.read_unread, harg12.read_unread, View.ld_unit_zero (S := S768x5376) offs_zero, View.ld_unit_zero (S := S5376x512) offs_zero, View.ld_unit_zero (S := S1x512) offs_zero, View.ld_unit_zero (S := S768x512) offs_zero, View.ld_unit_zero (S := S768x128) offs_zero]
  rfl

theorem runC_s0 (hc0 : ¬cond0_0 i) (hc1 : cond0_1 i) (xs1 : Vec F S768x128 .f32) :
    arg11.view.writes (Elt F) (harg11.unread xs0) (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1 = harg11.unread (putAt i xs0 (slab x0 x1 x2 x3 x4)) := by
  refine harg11.eq_unread ?_
  unfold kernelRun0_C
  dsimp only
  sl_unfold_words
  refine (View.read_writes_cons_put _ _ _ _ _ (k0_off1_eq i)).trans ?_
  rw [View.writes_nil, harg11.read_unread]
  simp only [View.readAt_eq_ld, harg1.read_unread, harg2.read_unread, harg3.read_unread, harg4.read_unread, harg5.read_unread, harg12.read_unread, View.ld_unit_zero (S := S768x5376) offs_zero, View.ld_unit_zero (S := S5376x512) offs_zero, View.ld_unit_zero (S := S1x512) offs_zero, View.ld_unit_zero (S := S768x512) offs_zero, View.ld_unit_zero (S := S768x128) offs_zero]
  rfl

theorem runC_s1 (hc0 : ¬cond0_0 i) (hc1 : cond0_1 i) (xs1 : Vec F S768x128 .f32) (v : View sig .tc .vmem S768x128 .f32) (f : v.ty.Contents (Elt F)) :
    v.read (Elt F) (v.writes (Elt F) f (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.2.1) = ssqval x0 x1 x2 x3 x4 xs1 := by
  unfold kernelRun0_C
  dsimp only
  sl_unfold_words
  rw [View.read_writes_full]

  simp only [View.readAt_eq_ld, harg1.read_unread, harg2.read_unread, harg3.read_unread, harg4.read_unread, harg5.read_unread, harg12.read_unread, View.ld_unit_zero (S := S768x5376) offs_zero, View.ld_unit_zero (S := S5376x512) offs_zero, View.ld_unit_zero (S := S1x512) offs_zero, View.ld_unit_zero (S := S768x512) offs_zero, View.ld_unit_zero (S := S768x128) offs_zero]
  rfl

/-- The pieces the last point's loop writes into output 8: the scratches it reads hold all blocks and all sums. -/
theorem runC_8 (hc0 : ¬cond0_0 i) (hc1 : cond0_1 i) (xs1 : Vec F S768x128 .f32) :
    (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1
      = (pb_k0_t1 (F := F) Variants.none c none i arg1 harg1 arg2 harg2 arg3 harg3 arg4 harg4 arg5 harg5 arg6 harg6 arg7 harg7 arg8 harg8 arg9 harg9 arg10 harg10 arg11 harg11 arg12 harg12 hc1 (harg6.unread x5) (harg11.unread (putAt i xs0 (slab x0 x1 x2 x3 x4))) (harg12.unread (Val := Elt F) (ssqval x0 x1 x2 x3 x4 xs1)) k0_t1_loop.trips).1 := by
  have e : arg12.view.writes (Elt F) arg12.view.junk (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.2.1 = harg12.unread (ssqval x0 x1 x2 x3 x4 xs1) :=
    harg12.eq_unread (runC_s1 hc0 hc1 xs1 _ _)
  have e0 : arg11.view.writes (Elt F) (harg11.unread xs0) (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1 = harg11.unread (putAt i xs0 (slab x0 x1 x2 x3 x4)) :=
    runC_s0 hc0 hc1 xs1
  exact congrArg₂ (fun X Y => (pb_k0_t1 (F := F) Variants.none c none i arg1 harg1 arg2 harg2 arg3 harg3 arg4 harg4 arg5 harg5 arg6 harg6 arg7 harg7 arg8 harg8 arg9 harg9 arg10 harg10 arg11 harg11 arg12 harg12 hc1 (harg6.unread x5) X Y k0_t1_loop.trips).1) e0 e

/-- The pieces the last point's loop writes into output 9: the scratches it reads hold all blocks and all sums. -/
theorem runC_9 (hc0 : ¬cond0_0 i) (hc1 : cond0_1 i) (xs1 : Vec F S768x128 .f32) :
    (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1
      = (pb_k0_t1 (F := F) Variants.none c none i arg1 harg1 arg2 harg2 arg3 harg3 arg4 harg4 arg5 harg5 arg6 harg6 arg7 harg7 arg8 harg8 arg9 harg9 arg10 harg10 arg11 harg11 arg12 harg12 hc1 (harg6.unread x5) (harg11.unread (putAt i xs0 (slab x0 x1 x2 x3 x4))) (harg12.unread (Val := Elt F) (ssqval x0 x1 x2 x3 x4 xs1)) k0_t1_loop.trips).2 := by
  have e : arg12.view.writes (Elt F) arg12.view.junk (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.2.1 = harg12.unread (ssqval x0 x1 x2 x3 x4 xs1) :=
    harg12.eq_unread (runC_s1 hc0 hc1 xs1 _ _)
  have e0 : arg11.view.writes (Elt F) (harg11.unread xs0) (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1 = harg11.unread (putAt i xs0 (slab x0 x1 x2 x3 x4)) :=
    runC_s0 hc0 hc1 xs1
  exact congrArg₂ (fun X Y => (pb_k0_t1 (F := F) Variants.none c none i arg1 harg1 arg2 harg2 arg3 harg3 arg4 harg4 arg5 harg5 arg6 harg6 arg7 harg7 arg8 harg8 arg9 harg9 arg10 harg10 arg11 harg11 arg12 harg12 hc1 (harg6.unread x5) X Y k0_t1_loop.trips).2) e0 e

/-- The pieces the loop writes into output 8 cover it. -/
theorem loop_cover8 (hc1 : cond0_1 i) (X6 : BufTy.Contents (Elt F) arg6.view.ty) (X11 : BufTy.Contents (Elt F) arg11.view.ty)
    (X12 : BufTy.Contents (Elt F) arg12.view.ty) (y : S768x7168.Idx) :
    ∃ pc ∈ (pb_k0_t1 (F := F) Variants.none c none i arg1 harg1 arg2 harg2 arg3 harg3 arg4 harg4 arg5 harg5 arg6 harg6 arg7 harg7 arg8 harg8 arg9 harg9 arg10 harg10 arg11 harg11 arg12 harg12 hc1 X6 X11 X12 k0_t1_loop.trips).1, y ∈ pc.1.set :=
  View.cover_of_tiledL (pb_k0_t1 (F := F) Variants.none c none i arg1 harg1 arg2 harg2 arg3 harg3 arg4 harg4 arg5 harg5 arg6 harg6 arg7 harg7 arg8 harg8 arg9 harg9 arg10 harg10 arg11 harg11 arg12 harg12 hc1 X6 X11 X12 k0_t1_loop.trips).1 S64x512.size (by sl_kernel_rfl) y

/-- The pieces the loop writes into output 9 cover it. -/
theorem loop_cover9 (hc1 : cond0_1 i) (X6 : BufTy.Contents (Elt F) arg6.view.ty) (X11 : BufTy.Contents (Elt F) arg11.view.ty)
    (X12 : BufTy.Contents (Elt F) arg12.view.ty) (y : S768x128.Idx) :
    ∃ pc ∈ (pb_k0_t1 (F := F) Variants.none c none i arg1 harg1 arg2 harg2 arg3 harg3 arg4 harg4 arg5 harg5 arg6 harg6 arg7 harg7 arg8 harg8 arg9 harg9 arg10 harg10 arg11 harg11 arg12 harg12 hc1 X6 X11 X12 k0_t1_loop.trips).2, y ∈ pc.1.set :=
  View.cover_of_tiledL (pb_k0_t1 (F := F) Variants.none c none i arg1 harg1 arg2 harg2 arg3 harg3 arg4 harg4 arg5 harg5 arg6 harg6 arg7 harg7 arg8 harg8 arg9 harg9 arg10 harg10 arg11 harg11 arg12 harg12 hc1 X6 X11 X12 k0_t1_loop.trips).2 S64x128.size (by sl_kernel_rfl) y

end Body

variable (m : (ℓ : Loc nD τ sig) → Buf (Elt F) ℓ) (ρ : Dev nD → PrngReg)

/-! ## What the buffers hold, point by point -/

/-- The block of the sum point `t` makes. -/
abbrev hAt (c : Dev nD) (t : Fin cfg0.N) : FVec F S768x512 .f32 := hval (iblk m c 0 t) (iblk m c 1 t) (iblk m c 2 t) (iblk m c 3 t) (iblk m c 4 t)
/-- The same in bf16. -/
abbrev hbAt (c : Dev nD) (t : Fin cfg0.N) : FVec F S768x512 .bf16 := hbval (iblk m c 0 t) (iblk m c 1 t) (iblk m c 2 t) (iblk m c 3 t) (iblk m c 4 t)
/-- The same as a slab of the scratch. -/
abbrev slabAt (c : Dev nD) (t : Fin cfg0.N) : FVec F S1x768x512 .f32 := slab (iblk m c 0 t) (iblk m c 1 t) (iblk m c 2 t) (iblk m c 3 t) (iblk m c 4 t)

/-- The sums of squares after point `n`: cleared at the first, raised at every one. -/
def ssqAt (c : Dev nD) : (n : ℕ) → n < cfg0.N → Vec F S768x128 .f32
  | 0, h => ssqval (iblk m c 0 ⟨0, h⟩) (iblk m c 1 ⟨0, h⟩) (iblk m c 2 ⟨0, h⟩) (iblk m c 3 ⟨0, h⟩) (iblk m c 4 ⟨0, h⟩) (k0_pay38 (F := F))
  | n + 1, h => ssqval (iblk m c 0 ⟨n + 1, h⟩) (iblk m c 1 ⟨n + 1, h⟩) (iblk m c 2 ⟨n + 1, h⟩) (iblk m c 3 ⟨n + 1, h⟩) (iblk m c 4 ⟨n + 1, h⟩) (ssqAt c n (Nat.lt_of_succ_lt h))

/-- The scratch once every point has stored its slab. -/
def blocks (c : Dev nD) : Vec F S14x768x512 .f32 := fun y => slabAt m c ⟨(y 0).val, (y 0).isLt⟩ (fun a => ⟨![0, (y 1).val, (y 2).val] a, by
  fin_cases a
  · exact Nat.one_pos
  · exact (y 1).isLt
  · exact (y 2).isLt⟩)

/-- The slabs of the points up to `n` are in. -/
def Filled (c : Dev nD) (n : ℕ) (A : Vec F S14x768x512 .f32) : Prop := ∀ y, (y 0).val ≤ n → A y = blocks m c y

theorem coords_val (t : Fin cfg0.N) : (grid0.coords t 0).val = t.val := by
  have ht : t.val < 14 := Nat.lt_of_lt_of_eq t.isLt N_0
  have e0 : (grid0.coords t 0).val = t.val / 1 % 14 := Pipeline.Grid.coords_val t 0 (by decide) rfl
  omega

theorem putAt_same (c : Dev nD) (t : Fin cfg0.N) (A : Vec F S14x768x512 .f32) (y : S14x768x512.Idx) (h : (y 0).val = t.val) :
    putAt (grid0.coords t) A (slabAt m c t) y = blocks m c y := by
  obtain rfl : t = ⟨(y 0).val, (y 0).isLt⟩ := Fin.ext h.symm
  unfold putAt VecWindow.put
  have hy : ∀ a : Fin 3, (![(grid0.coords (⟨(y 0).val, (y 0).isLt⟩ : Fin cfg0.N) 0).val, 0, 0] : Fin 3 → ℕ) a ≤ (y a).val
      ∧ (y a).val < (![(grid0.coords (⟨(y 0).val, (y 0).isLt⟩ : Fin cfg0.N) 0).val, 0, 0] : Fin 3 → ℕ) a + S1x768x512.size a := by
    rw [coords_val]
    intro a; fin_cases a
    · exact ⟨le_refl _, Nat.lt_succ_self _⟩
    · exact ⟨Nat.zero_le _, by rw [show ((![(y 0).val, 0, 0] : Fin 3 → ℕ) ⟨1, by decide⟩) = 0 from rfl, Nat.zero_add]; exact (y 1).isLt⟩
    · exact ⟨Nat.zero_le _, by rw [show ((![(y 0).val, 0, 0] : Fin 3 → ℕ) ⟨2, by decide⟩) = 0 from rfl, Nat.zero_add]; exact (y 2).isLt⟩
  refine (dif_pos hy).trans ?_
  unfold blocks
  refine congrArg _ (funext fun a => Fin.ext ?_)
  rw [Rect.unitLocal_val]
  have e := coords_val (⟨(y 0).val, (y 0).isLt⟩ : Fin cfg0.N)
  fin_cases a
  · show (y 0).val - (grid0.coords (⟨(y 0).val, (y 0).isLt⟩ : Fin cfg0.N) 0).val = 0
    rw [e]; exact Nat.sub_self _
  · rfl
  · rfl

theorem putAt_other (c : Dev nD) (t : Fin cfg0.N) (A : Vec F S14x768x512 .f32) (w : Vec F S1x768x512 .f32) (y : S14x768x512.Idx) (h : (y 0).val ≠ t.val) :
    putAt (grid0.coords t) A w y = A y := by
  unfold putAt VecWindow.put
  refine dif_neg fun hy => h ?_
  have := hy 0
  have e := coords_val t
  have e1 : (![(grid0.coords t 0).val, 0, 0] : Fin 3 → ℕ) 0 = (grid0.coords t 0).val := rfl
  have e2 : S1x768x512.size 0 = 1 := rfl
  omega

theorem filled_first (c : Dev nD) (t : Fin cfg0.N) (h : t.val = 0) (A : Vec F S14x768x512 .f32) :
    Filled m c t.val (putAt (grid0.coords t) A (slabAt m c t)) := fun y hy => putAt_same m c t A y (by omega)

theorem filled_next (c : Dev nD) (t : Fin cfg0.N) (A : Vec F S14x768x512 .f32) (hA : Filled m c (t.val - 1) A) :
    Filled m c t.val (putAt (grid0.coords t) A (slabAt m c t)) := fun y hy => by
  by_cases e : (y 0).val = t.val
  · exact putAt_same m c t A y e
  · rw [putAt_other c t A _ y e]; exact hA y (by omega)

theorem filled_all (c : Dev nD) (n : ℕ) (h : n = 13) (A : Vec F S14x768x512 .f32) (hA : Filled m c n A) : A = blocks m c :=
  funext fun y => hA y (by have : (y 0).val < 14 := (y 0).isLt; omega)

theorem ssqAt_next (c : Dev nD) (t : Fin cfg0.N) (h : t.val ≠ 0) :
    ssqAt m c t.val t.isLt = ssqval (iblk m c 0 t) (iblk m c 1 t) (iblk m c 2 t) (iblk m c 3 t) (iblk m c 4 t) (ssqAt m c (t.val - 1) (by omega)) := by
  obtain ⟨n, hn⟩ := t
  cases n with
  | zero => exact absurd rfl h
  | succ n => rfl

theorem ssqAt_first (c : Dev nD) (t : Fin cfg0.N) (h : t.val = 0) : ssqAt m c t.val t.isLt = ssqval (iblk m c 0 t) (iblk m c 1 t) (iblk m c 2 t) (iblk m c 3 t) (iblk m c 4 t) (k0_pay38 (F := F)) := by
  obtain ⟨n, hn⟩ := t
  obtain rfl : n = 0 := h
  rfl

/-- The pieces the last point's loop writes, into the codes and into the scales. -/
abbrev loopAt (c : Dev nD) (t : Fin cfg0.N) (hc1 : cond0_1 (grid0.coords t)) :
    List (View.Piece (Elt F) S768x7168 .fp8e4m3) × List (View.Piece (Elt F) S768x128 .f32) :=
  (pb_k0_t1 (F := F) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) hc1 ((hs0_5 t).unread (iblk m c 5 t)) (Memref.IsWhole.unread (m := scM0_0) (Val := Elt F) (Memref.isWhole_whole _) (blocks m c)) (Memref.IsWhole.unread (m := scM0_1) (Val := Elt F) (Memref.isWhole_whole _) (ssqAt m c t.val t.isLt)) k0_t1_loop.trips)

/-- The codes after the body at point `t`: what the loop leaves at the last point; at the others nothing consults it. -/
def codesAt (c : Dev nD) (t : Fin cfg0.N) : Vec F S768x7168 .fp8e4m3 :=
  if h : cond0_1 (grid0.coords t) then VO0_8.read (Elt F) (VO0_8.writes (Elt F) VO0_8.junk (loopAt m c t h).1)
  else VO0_8.read (Elt F) VO0_8.junk

/-- The scales after the body at point `t`, likewise. -/
def scalesAt (c : Dev nD) (t : Fin cfg0.N) : Vec F S768x128 .f32 :=
  if h : cond0_1 (grid0.coords t) then VO0_9.read (Elt F) (VO0_9.writes (Elt F) VO0_9.junk (loopAt m c t h).2)
  else VO0_9.read (Elt F) VO0_9.junk

/-- The invariant before position `n`: at first every scratch at anything; afterwards the slabs of the points before are in,
    and the sums of squares are those the point before left. -/
def PhiS (c : Dev nD) : (n : ℕ) → n ≤ cfg0.N → sProp (MT nD τ sig Unit (Elt F) ℕ (UR sig nD τ) ℕ)
  | 0, _ => Pipeline.ΦA spec0 c
  | n + 1, hn => iprop(iprop((∃ A, owns (c : Thread nD τ) scM0_0 fullShare A ∗ ⌜Filled m c n A⌝) ∗ owns (c : Thread nD τ) scM0_1 fullShare (ssqAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ A, owns (c : Thread nD τ) scM0_0 fullShare A ∗ ⌜Filled m c n A⌝) ∗ owns (c : Thread nD τ) scM0_1 fullShare (ssqAt m c n hn)) ∗ (∃ r, prngReg c r)) := rfl

theorem PhiS_pos (c : Dev nD) (n : ℕ) (h : n ≤ cfg0.N) (hz : n ≠ 0) :
    PhiS m c n h = iprop(iprop((∃ A, owns (c : Thread nD τ) scM0_0 fullShare A ∗ ⌜Filled m c (n - 1) A⌝) ∗ owns (c : Thread nD τ) scM0_1 fullShare (ssqAt m c (n - 1) (by omega))) ∗ (∃ r, prngReg c r)) := by
  cases n with
  | zero => exact absurd rfl hz
  | succ n => rfl

/-! ## The pipeline's proof data -/

/-- The arrays as the region finds them; after the body at point `t` each input's buffer at its block and the outputs' at the
    values above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hAt m c t
    | ⟨7, _⟩ => hbAt m c t
    | ⟨8, _⟩ => codesAt m c t
    | ⟨9, _⟩ => scalesAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = hAt m c t := by dsimp only [dats]
theorem after0_7 (c : Dev nD) (t : Fin cfg0.N) : (dats m 0 c).after 7 t = hbAt m c t := by dsimp only [dats]
theorem after0_8 (c : Dev nD) (t : Fin cfg0.N) : (dats m 0 c).after 8 t = codesAt m c t := by dsimp only [dats]
theorem after0_9 (c : Dev nD) (t : Fin cfg0.N) : (dats m 0 c).after 9 t = scalesAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem leaves0_0 (c : Dev nD) (t : Fin cfg0.N) : (dats m 0 c).leavesExact 0 t = owns (c : Thread nD τ) (ms0_0 t) fullShare (iblk m c 0 t) := by
  rw [← after0_0]
theorem leaves0_1 (c : Dev nD) (t : Fin cfg0.N) : (dats m 0 c).leavesExact 1 t = owns (c : Thread nD τ) (ms0_1 t) fullShare (iblk m c 1 t) := by
  rw [← after0_1]
theorem leaves0_2 (c : Dev nD) (t : Fin cfg0.N) : (dats m 0 c).leavesExact 2 t = owns (c : Thread nD τ) (ms0_2 t) fullShare (iblk m c 2 t) := by
  rw [← after0_2]
theorem leaves0_3 (c : Dev nD) (t : Fin cfg0.N) : (dats m 0 c).leavesExact 3 t = owns (c : Thread nD τ) (ms0_3 t) fullShare (iblk m c 3 t) := by
  rw [← after0_3]
theorem leaves0_4 (c : Dev nD) (t : Fin cfg0.N) : (dats m 0 c).leavesExact 4 t = owns (c : Thread nD τ) (ms0_4 t) fullShare (iblk m c 4 t) := by
  rw [← after0_4]
theorem leaves0_5 (c : Dev nD) (t : Fin cfg0.N) : (dats m 0 c).leavesExact 5 t = owns (c : Thread nD τ) (ms0_5 t) fullShare (iblk m c 5 t) := by
  rw [← after0_5]
theorem leaves0_6 (c : Dev nD) (t : Fin cfg0.N) : (dats m 0 c).leavesExact 6 t = owns (c : Thread nD τ) (ms0_6 t) fullShare (hAt m c t) := by
  rw [← after0_6]
theorem leaves0_7 (c : Dev nD) (t : Fin cfg0.N) : (dats m 0 c).leavesExact 7 t = owns (c : Thread nD τ) (ms0_7 t) fullShare (hbAt m c t) := by
  rw [← after0_7]
theorem leaves0_8_C (c : Dev nD) (t : Fin cfg0.N) (h0 : ¬cond0_0 (grid0.coords t)) (h1 : cond0_1 (grid0.coords t)) :
    (dats m 0 c).leavesExact 8 t = owns (c : Thread nD τ) (ms0_8 t) fullShare (codesAt m c t) := by
  rw [← after0_8]; unfold Dat.leavesExact; rw [liveAt0_8_C t h0 h1]
theorem leaves0_9_C (c : Dev nD) (t : Fin cfg0.N) (h0 : ¬cond0_0 (grid0.coords t)) (h1 : cond0_1 (grid0.coords t)) :
    (dats m 0 c).leavesExact 9 t = owns (c : Thread nD τ) (ms0_9 t) fullShare (scalesAt m c t) := by
  rw [← after0_9]; unfold Dat.leavesExact; rw [liveAt0_9_C t h0 h1]

/-! ## The body at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- At the last point the pieces of output 8 read as the codes named above. -/
theorem codes_read (c : Dev nD) (t : Fin cfg0.N) (h0 : ¬t.val % 14 = 0) (h1 : t.val % 14 = 13) (A0 : Vec F S14x768x512 .f32)
    (hA : Filled m c (t.val - 1) A0) (v : View sig .tc .vmem S768x7168 .fp8e4m3) (f : v.ty.Contents (Elt F)) :
    v.read (Elt F) (v.writes (Elt F) f (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) A0 (ssqAt m c (t.val - 1) (by omega))).2.2.1) = codesAt m c t := by
  have hN : t.val < 14 := lt_of_lt_of_eq t.isLt (show cfg0.N = 14 from N_0)
  unfold codesAt
  rw [dif_pos ((hcond0_1 t).mpr h1), runC_8, filled_all m c t.val (by omega) _ (filled_next m c t A0 hA), ← ssqAt_next m c t (by omega)]
  exact View.read_writes_of_cover _ _ _ _ _ (loop_cover8 _ _ _ _)

/-- At the last point the pieces of output 9 read as the scales named above. -/
theorem scales_read (c : Dev nD) (t : Fin cfg0.N) (h0 : ¬t.val % 14 = 0) (h1 : t.val % 14 = 13) (A0 : Vec F S14x768x512 .f32)
    (hA : Filled m c (t.val - 1) A0) (v : View sig .tc .vmem S768x128 .f32) (f : v.ty.Contents (Elt F)) :
    v.read (Elt F) (v.writes (Elt F) f (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) A0 (ssqAt m c (t.val - 1) (by omega))).2.2.2.1) = scalesAt m c t := by
  have hN : t.val < 14 := lt_of_lt_of_eq t.isLt (show cfg0.N = 14 from N_0)
  unfold scalesAt
  rw [dif_pos ((hcond0_1 t).mpr h1), runC_9, filled_all m c t.val (by omega) _ (filled_next m c t A0 hA), ← ssqAt_next m c t (by omega)]
  exact View.read_writes_of_cover _ _ _ _ _ (loop_cover9 _ _ _ _)

set_option maxHeartbeats 4000000 in
/-- The body's triple at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 14 := lt_of_lt_of_eq t.isLt (show cfg0.N = 14 from N_0)
  rw [leaves0_0, leaves0_1, leaves0_2, leaves0_3, leaves0_4, leaves0_5, leaves0_6, leaves0_7]
  by_cases h0 : t.val % 14 = 0
  · have h1 : ¬t.val % 14 = 13 := by omega
    rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
    rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
    have hz : t.val = 0 := by omega
    rw [PhiS_castSucc m c t, PhiS_zero m c _ _ hz, PhiA0_eq, ssqAt_first m c t hz]
    iintro ⟨⟨⟨⟨%A0, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) A0).2.2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    isplitl [H9]; · iexact H9
    isplitl [HS0]; · iexact HS0
    isplitl [HS1]; · iexact HS1
    iintro ⟨H0, H1, H2, H3, H4, H5, ⟨%e6, H6⟩, ⟨%e7, H7⟩, H8, H9, HS0, ⟨%es1, HS1⟩⟩
    isplitl [HS0 HS1 Hg]
    · isplitl [HS0 HS1]
      · isplitl [HS0]
        · iexists _; isplitl [HS0]
          · unfold owns; iexists _; isplitr
            swap; · iexact HS0
            ipureintro; exact (congrArg _ (runA_s0 _ _)).trans (Memref.IsWhole.read_unread _ _)
          ipureintro; exact filled_first m c t hz A0
        unfold owns; iexists _; isplitr
        swap; · iexact HS1
        ipureintro; exact (runA_s1 _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact runA_6 _ _ _ _
    isplitl [H7]
    · unfold owns; iexists _; isplitr
      swap; · iexact H7
      ipureintro; exact runA_7 _ _ _ _
    isplitl [H8]; · iexists _; iexact H8
    iexists _; iexact H9
  by_cases h1 : t.val % 14 = 13
  · skip
    rw [leaves0_8_C m c t (fun h => h0 ((hcond0_0 t).mp h)) ((hcond0_1 t).mpr h1), leaves0_9_C m c t (fun h => h0 ((hcond0_0 t).mp h)) ((hcond0_1 t).mpr h1)]
    have hz : t.val ≠ 0 := by omega
    rw [PhiS_castSucc m c t, PhiS_pos m c _ _ hz]
    iintro ⟨⟨⟨⟨%A0, HS0, %hA⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_C c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) A0 _).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, ⟨%e6, H6⟩, ⟨%e7, H7⟩, ⟨%e8, H8⟩, ⟨%e9, H9⟩, HS0, ⟨%es1, HS1⟩⟩
    isplitl [HS0 HS1 Hg]
    · isplitl [HS0 HS1]
      · isplitl [HS0]
        · iexists _; isplitl [HS0]
          · unfold owns; iexists _; isplitr
            swap; · iexact HS0
            ipureintro; exact (congrArg _ (runC_s0 _ _ _)).trans (Memref.IsWhole.read_unread _ _)
          ipureintro; exact filled_next m c t A0 hA
        unfold owns; iexists _; isplitr
        swap; · iexact HS1
        ipureintro; exact ((runC_s1 _ _ _ _ _).trans (ssqAt_next m c t hz).symm)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact runC_6 _ _ _ _ _
    isplitl [H7]
    · unfold owns; iexists _; isplitr
      swap; · iexact H7
      ipureintro; exact runC_7 _ _ _ _ _
    isplitl [H8]
    · unfold owns; iexists _; isplitr
      swap; · iexact H8
      ipureintro; exact codes_read m c t h0 h1 A0 hA _ _
    unfold owns; iexists _; isplitr
    swap; · iexact H9
    ipureintro; exact scales_read m c t h0 h1 A0 hA _ _
  · skip
    rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
    rw [Dat.leavesExact_idle (dats m 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
    have hz : t.val ≠ 0 := by omega
    rw [PhiS_castSucc m c t, PhiS_pos m c _ _ hz]
    rw [ssqAt_next m c t hz]
    iintro ⟨⟨⟨⟨%A0, HS0, %hA⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) A0 _).2.2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    isplitl [H9]; · iexact H9
    isplitl [HS0]; · iexact HS0
    isplitl [HS1]; · iexact HS1
    iintro ⟨H0, H1, H2, H3, H4, H5, ⟨%e6, H6⟩, ⟨%e7, H7⟩, H8, H9, HS0, ⟨%es1, HS1⟩⟩
    isplitl [HS0 HS1 Hg]
    · isplitl [HS0 HS1]
      · isplitl [HS0]
        · iexists _; isplitl [HS0]
          · unfold owns; iexists _; isplitr
            swap; · iexact HS0
            ipureintro; exact (congrArg _ (runB_s0 _ _ _)).trans (Memref.IsWhole.read_unread _ _)
          ipureintro; exact filled_next m c t A0 hA
        unfold owns; iexists _; isplitr
        swap; · iexact HS1
        ipureintro; exact (runB_s1 _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact runB_6 _ _ _ _ _
    isplitl [H7]
    · unfold owns; iexists _; isplitr
      swap; · iexact H7
      ipureintro; exact runB_7 _ _ _ _ _
    isplitl [H8]; · iexists _; iexact H8
    iexists _; iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨⟨%A0, HS0, -⟩, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 14 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: every run ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.OprojIdeal.Gen

end
-- ==== Proof.OprojTrip.lean ====
/-
  THE NORMALISATION'S LOOP. At the last block of the o-projection call the kernel walks the 768 rows in twelve strips of 64.
  For a strip it finds each row's inverse root mean square from the sums of squares, normalises the fourteen blocks of the
  sum while it folds their magnitudes, finds the row's power-of-two scale, and normalises the blocks once more as it stores
  their codes. `codes_eq` and `scales_eq'` say that the pieces the loop writes are the codes and the scales of the rows as
  whole-array functions of the sum's blocks, the sums of squares and the weights.
-/
module

public import proofs.«01_k».proof.Proof.Common
public import proofs.«01_k».proof.Proof.RmsNorm
public import proofs.«01_k».proof.Proof.QuantIdx
public import proofs.«01_k».proof.Proof.OprojIdealFrame
public import Idealize.ShloMosaic.Lib.Pipeline.ReadBack
public import Idealize.ShloMosaic.Lib.Pipeline.Value

@[expose] public section

noncomputable section

open Idealize.ShloMosaic Idealize.ShloMosaic.TcCoe Idealize.SL.Sem Idealize.ShloMosaic.ValueIdx
open scoped BigOperators

namespace Cert.OprojIdeal.RefValue

open Cert.OprojIdeal Cert.OprojIdeal.Gen
open Cert.Layer hiding offs_zero

/-! ## One strip, on vectors -/

/-- A block of a strip, normalised. -/
def nrm (v : FVec Ideal S64x1 .f32) (a : Vec Ideal S1x64x512 .f32) (g : Vec Ideal S1x512 .f32) : FVec Ideal S64x512 .f32 :=
  mulf (mulf (shapeCast S64x512 a shapeCasts_S1x64x512_S64x512) (broadcastTo S64x512 v broadcasts_S64x1_S64x512))
    (broadcastTo S64x512 (shapeCast S1x512 g shapeCasts_S1x512_S1x512) broadcasts_S1x512_S64x512)

/-- The magnitudes of a strip's blocks, folded by maximum. -/
def chain (v : FVec Ideal S64x1 .f32) (a : Fin 14 → Vec Ideal S1x64x512 .f32) (g : Fin 14 → Vec Ideal S1x512 .f32) : FVec Ideal S64x512 .f32 :=
  maximumf (maximumf (maximumf (maximumf (maximumf (maximumf (maximumf (maximumf (maximumf (maximumf (maximumf (maximumf (maximumf (maximumf (broadcast S64x512 (Scalar.ofBits .f32 0x00000000#32 : Ideal .f32)) (absf (nrm v (a 0) (g 0)))) (absf (nrm v (a 1) (g 1)))) (absf (nrm v (a 2) (g 2)))) (absf (nrm v (a 3) (g 3)))) (absf (nrm v (a 4) (g 4)))) (absf (nrm v (a 5) (g 5)))) (absf (nrm v (a 6) (g 6)))) (absf (nrm v (a 7) (g 7)))) (absf (nrm v (a 8) (g 8)))) (absf (nrm v (a 9) (g 9)))) (absf (nrm v (a 10) (g 10)))) (absf (nrm v (a 11) (g 11)))) (absf (nrm v (a 12) (g 12)))) (absf (nrm v (a 13) (g 13)))

/-- The rows' quotients on every lane. -/
def quotients (v : FVec Ideal S64x1 .f32) (a : Fin 14 → Vec Ideal S1x64x512 .f32) (g : Fin 14 → Vec Ideal S1x512 .f32) : FVec Ideal S64x128 .f32 :=
  mulf (broadcastTo S64x128 (shapeCast S64x1 (shapeCast S64x1
    (multiReduction .maximumf [1] S64 (chain v a g) 0xFF800000#32 reduces_S64x512_S64 (.inl rfl) rfl) shapeCasts_S64_S64x1) shapeCasts_S64x1_S64x1) broadcasts_S64x1_S64x128)
    (broadcast S64x128 (Scalar.ofBits .f32 0x3B124925#32 : Ideal .f32))

theorem quotients_eq (L : Vec Ideal S64x128 .f32) (a : Fin 14 → Vec Ideal S1x64x512 .f32) (g : Fin 14 → Vec Ideal S1x512 .f32) :
    k0_pay10 (k0_pay3 L) (k0_pay8 (k0_pay3 L) (k0_pay6 (k0_pay3 L) (k0_pay4 L (a 0) (g 0) (a 1) (g 1)) (k0_pay5 L (a 2)) (g 2) (a 3) (g 3) (a 4) (g 4) (a 5) (g 5)) (k0_pay7 (k0_pay3 L) (a 6)) (g 6) (a 7) (g 7) (a 8) (g 8) (a 9) (g 9)) (k0_pay9 (k0_pay3 L) (a 10)) (g 10) (a 11) (g 11) (a 12) (g 12) (a 13) (g 13)
      = quotients (k0_pay3 L) a g := rfl

theorem nrm_apply (v : FVec Ideal S64x1 .f32) (a : Vec Ideal S1x64x512 .f32) (g : Vec Ideal S1x512 .f32) (r : Fin 64) (q : Fin 512) :
    nrm v a g (ix2 r q) = a (ix3 0 r q) * v (ix2 r 0) * g (ix2 0 q) := by
  have e1 : shapeCast S64x512 a shapeCasts_S1x64x512_S64x512 (ix2 r q) = a (ix3 0 r q) := by
    refine shapeCast_apply a _ _ _ ?_
    rw [Shape.rowMajor_val_three, Shape.rowMajor_val_two]
    show (0 * 64 + r.val) * 512 + q.val = r.val * 512 + q.val
    omega
  show shapeCast S64x512 a shapeCasts_S1x64x512_S64x512 (ix2 r q) * broadcastTo S64x512 v broadcasts_S64x1_S64x512 (ix2 r q)
    * broadcastTo S64x512 (shapeCast S1x512 g shapeCasts_S1x512_S1x512) broadcasts_S1x512_S64x512 (ix2 r q) = _
  rw [e1, bcast_row, bcast_col, shapeCast_self]

theorem rms_apply (L : Vec Ideal S64x128 .f32) (r : Fin 64) (z : Fin 1) : k0_pay3 L (ix2 r z) = rms (∑ l : Fin 128, L (ix2 r l)) := by
  have el : ∀ l : Fin 128, reduces_S64x128_S64.lift (ix1 r) l = ix2 r l := fun l => Shape.idx_ext₂ rfl rfl
  have e : multiReduction (F := Ideal) (φ := .f32) .add [1] S64 L 0x00000000#32 reduces_S64x128_S64 (.inl rfl) rfl (ix1 r) = ∑ l : Fin 128, L (ix2 r l) := by
    refine (Ideal.multiReduction_add_single L 0x00000000#32 reduces_S64x128_S64 (.inl rfl) rfl (ix1 r)).trans ?_
    exact Finset.sum_congr rfl fun l _ => congrArg L (el l)
  exact congrArg rms ((colCast_apply (M := 64) _ shapeCasts_S64_S64x1 r z).trans e)

theorem chain_le (v : FVec Ideal S64x1 .f32) (a : Fin 14 → Vec Ideal S1x64x512 .f32) (g : Fin 14 → Vec Ideal S1x512 .f32) (i : S64x512.Idx) (b : EReal) :
    chain v a g i ≤ b ↔ ∀ j, mag (nrm v (a j) (g j) i) ≤ b := by
  have z : (broadcast S64x512 (Scalar.ofBits .f32 0x00000000#32 : Ideal .f32)) i = (0 : EReal) := ofBits_zero
  have step : ∀ (p x : FVec Ideal S64x512 .f32), maximumf p (absf x) i ≤ b ↔ p i ≤ b ∧ mag (x i) ≤ b := fun p x => max_le_iff
  unfold chain
  simp only [step, z]
  constructor
  · rintro ⟨⟨⟨⟨⟨⟨⟨⟨⟨⟨⟨⟨⟨⟨_, h0⟩, h1⟩, h2⟩, h3⟩, h4⟩, h5⟩, h6⟩, h7⟩, h8⟩, h9⟩, h10⟩, h11⟩, h12⟩, h13⟩ j
    fin_cases j <;> assumption
  · intro h
    exact ⟨⟨⟨⟨⟨⟨⟨⟨⟨⟨⟨⟨⟨⟨(mag_nonneg _).trans (h 0), h 0⟩, h 1⟩, h 2⟩, h 3⟩, h 4⟩, h 5⟩, h 6⟩, h 7⟩, h 8⟩, h 9⟩, h 10⟩, h 11⟩, h 12⟩, h 13⟩

theorem quotients_apply (v : FVec Ideal S64x1 .f32) (a : Fin 14 → Vec Ideal S1x64x512 .f32) (g : Fin 14 → Vec Ideal S1x512 .f32)
    (r : Fin 64) (l : Fin 128) (M : EReal) (h : ∀ b, M ≤ b ↔ ∀ j q, mag (nrm v (a j) (g j) (ix2 r q)) ≤ b) :
    quotients v a g (ix2 r l) = quot M := by
  refine congrArg quot (eq_of_forall_ge_iff fun b => ?_)
  refine (rowMax_le _ _ _ _ _ r l b).trans (Iff.trans ?_ (h b).symm)
  exact ⟨fun t j q => (chain_le v a g _ b).1 (t q) j, fun t q => (chain_le v a g _ b).2 fun j => t j q⟩

theorem scale_apply (q : FVec Ideal S64x128 .f32) (i : S64x128.Idx) :
    k0_pay15 q (k0_pay11 q) (k0_pay12 q) k0_pay13 i = kscale (q i) := rfl

theorem inv_apply (q : FVec Ideal S64x128 .f32) (i : S64x128.Idx) :
    k0_pay17 (F := Ideal) (k0_pay16 q (k0_pay11 q) (k0_pay12 q) k0_pay13) i = kinv (q i) := rfl

theorem code_apply (v : FVec Ideal S64x1 .f32) (s : FVec Ideal S64x128 .f32) (a : Vec Ideal S1x64x512 .f32) (g : Vec Ideal S1x512 .f32)
    (r : Fin 64) (q : Fin 512) : k0_pay2 v s a g (ix2 r q) = clip (nrm v a g (ix2 r q) * s (ix2 r 0)) := by
  unfold k0_pay2
  refine congrArg clip (congrArg (nrm v a g (ix2 r q) * ·) ?_)
  rw [bcast_row]
  exact lane0_apply (M := 64) (N := 127) _ _ r 0

/-! ## One strip, on whole arrays -/

/-- The normalised sum from its blocks, the sums of squares on lanes and the weights. -/
def nrmAt (A : S14x768x512.Idx → EReal) (Q : S768x128.Idx → EReal) (g : S1x7168.Idx → EReal) : S768x7168.Idx → EReal := fun y =>
  A (ix3 (⟨(y 1).val / 512, by have : (y 1).val < 7168 := (y 1).isLt; omega⟩ : Fin 14) (y 0) (⟨(y 1).val % 512, by omega⟩ : Fin 512))
    * rms (∑ l : Fin 128, Q (ix2 (y 0) l)) * g (ix2 0 (y 1))

/-- The codes. -/
abbrev GC (A : S14x768x512.Idx → EReal) (Q : S768x128.Idx → EReal) (g : S1x7168.Idx → EReal) : S768x7168.Idx → Elt Ideal .fp8e4m3 :=
  fun y => clip (nrmAt A Q g y * kinv (quot (amaxAt (M := 768) (N := 7168) (nrmAt A Q g) (y 0))))

/-- The scales, on every lane. -/
abbrev GS (A : S14x768x512.Idx → EReal) (Q : S768x128.Idx → EReal) (g : S1x7168.Idx → EReal) : S768x128.Idx → Elt Ideal .f32 :=
  fun y => kscale (quot (amaxAt (M := 768) (N := 7168) (nrmAt A Q g) (y 0)))

theorem lt12 (k : Fin k0_t1_loop.trips) : k.val < 12 := k.isLt.trans_le k0_t1_abs.2.1

/-- Row `r` of strip `k`. -/
abbrev row (k : Fin k0_t1_loop.trips) (r : Fin 64) : Fin 768 := ⟨64 * k.val + r.val, by have := lt12 k; have := r.isLt; omega⟩

/-- Column `q` of block `j`. -/
abbrev col (j : Fin 14) (q : Fin 512) : Fin 7168 := ⟨512 * j.val + q.val, by have := j.isLt; have := q.isLt; omega⟩

/-- Block `j` of strip `k`. -/
def aK (A : S14x768x512.Idx → EReal) (k : Fin k0_t1_loop.trips) (j : Fin 14) : Vec Ideal S1x64x512 .f32 :=
  fun y => A (ix3 j (row k (y 1)) (y 2))

/-- The weights of block `j`. -/
def gK (g : S1x7168.Idx → EReal) (j : Fin 14) : Vec Ideal S1x512 .f32 := fun y => g (ix2 0 (col j (y 1)))

/-- The sums of squares of strip `k`. -/
def LK (Q : S768x128.Idx → EReal) (k : Fin k0_t1_loop.trips) : Vec Ideal S64x128 .f32 := fun y => Q (ix2 (row k (y 0)) (y 1))

section Strip

variable (A : S14x768x512.Idx → EReal) (Q : S768x128.Idx → EReal) (g : S1x7168.Idx → EReal) (k : Fin k0_t1_loop.trips)

theorem nrm_strip (j : Fin 14) (r : Fin 64) (q : Fin 512) :
    nrm (k0_pay3 (LK Q k)) (aK A k j) (gK g j) (ix2 r q) = nrmAt A Q g (ix2 (row k r) (col j q)) := by
  rw [nrm_apply, rms_apply]
  have h1 : (512 * j.val + q.val) / 512 = j.val := by have := q.isLt; omega
  have h2 : (512 * j.val + q.val) % 512 = q.val := by have := q.isLt; omega
  have e : ∀ (x : Fin 14) (y : Fin 512), x = j → y = q → A (ix3 j (row k r) q) = A (ix3 x (row k r) y) := by rintro _ _ rfl rfl; rfl
  exact congrArg (· * rms (∑ l : Fin 128, Q (ix2 (row k r) l)) * g (ix2 0 (col j q))) (e _ _ (Fin.ext h1) (Fin.ext h2))

theorem quot_strip (r : Fin 64) (l : Fin 128) :
    quotients (k0_pay3 (LK Q k)) (aK A k) (gK g) (ix2 r l) = quot (amaxAt (M := 768) (N := 7168) (nrmAt A Q g) (row k r)) := by
  refine quotients_apply _ _ _ r l _ fun b => (amaxAt_le _ _ b).trans ⟨fun t j q => ?_, fun t p => ?_⟩
  · rw [nrm_strip]; exact t _
  · have hp := p.isLt
    have h := t (⟨p.val / 512, by omega⟩ : Fin 14) (⟨p.val % 512, by omega⟩ : Fin 512)
    rw [nrm_strip] at h
    have e : col (⟨p.val / 512, by omega⟩ : Fin 14) (⟨p.val % 512, by omega⟩ : Fin 512) = p :=
      Fin.ext (by show 512 * (p.val / 512) + p.val % 512 = p.val; omega)
    rwa [e] at h

theorem code_piece (j : Fin 14) {off : Fin 2 → ℕ} {inb} (h : off = ![64 * k.val, 512 * j.val]) (x : S64x512.Idx) :
    k0_pay2 (k0_pay3 (LK Q k)) (k0_pay17 (F := Ideal) (k0_pay16 (quotients (k0_pay3 (LK Q k)) (aK A k) (gK g))
      (k0_pay11 (quotients (k0_pay3 (LK Q k)) (aK A k) (gK g))) (k0_pay12 (quotients (k0_pay3 (LK Q k)) (aK A k) (gK g))) k0_pay13))
      (aK A k j) (gK g j) x = GC A Q g ((Rect.unit (s := S768x7168) off ![64, 512] inb).emb x) := by
  subst h
  obtain ⟨r, q, rfl⟩ : ∃ (r : Fin 64) (q : Fin 512), x = ix2 r q := ⟨x 0, x 1, eq_ix2 x⟩
  rw [code_apply, inv_apply, quot_strip, nrm_strip]
  have e : (Rect.unit (s := S768x7168) ![64 * k.val, 512 * j.val] ![64, 512] inb).emb (ix2 r q) = (ix2 (row k r) (col j q) : S768x7168.Idx) :=
    Shape.idx_ext₂ (by show 64 * k.val + 1 * r.val = 64 * k.val + r.val; omega) (by show 512 * j.val + 1 * q.val = 512 * j.val + q.val; omega)
  exact (congrArg (GC A Q g) e).symm

theorem scale_piece {off : Fin 2 → ℕ} {inb} (h : off = ![64 * k.val, 0]) (x : S64x128.Idx) :
    k0_pay15 (quotients (k0_pay3 (LK Q k)) (aK A k) (gK g)) (k0_pay11 (quotients (k0_pay3 (LK Q k)) (aK A k) (gK g)))
      (k0_pay12 (quotients (k0_pay3 (LK Q k)) (aK A k) (gK g))) k0_pay13 x = GS A Q g ((Rect.unit (s := S768x128) off ![64, 128] inb).emb x) := by
  subst h
  obtain ⟨r, l, rfl⟩ : ∃ (r : Fin 64) (l : Fin 128), x = ix2 r l := ⟨x 0, x 1, eq_ix2 x⟩
  rw [scale_apply, quot_strip]
  have e : (Rect.unit (s := S768x128) ![64 * k.val, 0] ![64, 128] inb).emb (ix2 r l) = (ix2 (row k r) l : S768x128.Idx) :=
    Shape.idx_ext₂ (by show 64 * k.val + 1 * r.val = 64 * k.val + r.val; omega) (by show 0 + 1 * l.val = l.val; omega)
  exact (congrArg (GS A Q g) e).symm

end Strip

/-! ## The loop's pieces -/

section Loop

variable {c : Dev nD} {i : grid0.Coords} {arg1 : Memref sig .tc .vmem S768x5376 .fp8e4m3} {harg1 : arg1.IsWhole}   {arg2 : Memref sig .tc .vmem S768x128 .f32} {harg2 : arg2.IsWhole}   {arg3 : Memref sig .tc .vmem S5376x512 .fp8e4m3} {harg3 : arg3.IsWhole}   {arg4 : Memref sig .tc .vmem S1x512 .f32} {harg4 : arg4.IsWhole}   {arg5 : Memref sig .tc .vmem S768x512 .bf16} {harg5 : arg5.IsWhole}   {arg6 : Memref sig .tc .vmem S1x7168 .f32} {harg6 : arg6.IsWhole}   {arg7 : Memref sig .tc .vmem S768x512 .f32} {harg7 : arg7.IsWhole}   {arg8 : Memref sig .tc .vmem S768x512 .bf16} {harg8 : arg8.IsWhole}   {arg9 : Memref sig .tc .vmem S768x7168 .fp8e4m3} {harg9 : arg9.IsWhole}   {arg10 : Memref sig .tc .vmem S768x128 .f32} {harg10 : arg10.IsWhole}   {arg11 : Memref sig .tc .vmem S14x768x512 .f32} {harg11 : arg11.IsWhole}   {arg12 : Memref sig .tc .vmem S768x128 .f32} {harg12 : arg12.IsWhole}
variable (A : S14x768x512.Idx → EReal) (Q : S768x128.Idx → EReal) (g : S1x7168.Idx → EReal) (h2 : k0_cond2 i = 1#1)

theorem load_rows (k : Fin k0_t1_loop.trips) (j : Fin 14) {off : Fin 3 → ℕ} {inb} (h : off = ![j.val, 64 * k.val, 0]) :
    View.readAt (Elt Ideal) arg11.view (Rect.unit (s := S14x768x512) off ![1, 64, 512] inb).toLoadRect (harg11.unread (Val := Elt Ideal) A) = aK A k j := by
  subst h
  rw [View.readAt_eq_ld, harg11.read_unread]
  funext y
  refine congrArg A (funext fun a => Fin.ext ?_)
  match a with
  | ⟨0, _⟩ => show j.val + 1 * (y 0).val = j.val; have : (y 0).val < 1 := (y 0).isLt; omega
  | ⟨1, _⟩ => show 64 * k.val + 1 * (y 1).val = 64 * k.val + (y 1).val; omega
  | ⟨2, _⟩ => show 0 + 1 * (y 2).val = (y 2).val; omega

theorem load_cols (j : Fin 14) {off : Fin 2 → ℕ} {inb} (h : off = ![0, 512 * j.val]) :
    View.readAt (Elt Ideal) arg6.view (Rect.unit (s := S1x7168) off ![1, 512] inb).toLoadRect (harg6.unread (Val := Elt Ideal) g) = gK g j := by
  subst h
  rw [View.readAt_eq_ld, harg6.read_unread]
  funext y
  refine congrArg g (Shape.idx_ext₂ ?_ ?_)
  · show 0 + 1 * (y 0).val = 0; have : (y 0).val < 1 := (y 0).isLt; omega
  · show 512 * j.val + 1 * (y 1).val = 512 * j.val + (y 1).val; omega

theorem load_lanes (k : Fin k0_t1_loop.trips) {off : Fin 2 → ℕ} {inb} (h : off = ![64 * k.val, 0]) :
    View.readAt (Elt Ideal) arg12.view (Rect.unit (s := S768x128) off ![64, 128] inb).toLoadRect (harg12.unread (Val := Elt Ideal) Q) = LK Q k := by
  subst h
  rw [View.readAt_eq_ld, harg12.read_unread]
  funext y
  refine congrArg Q (Shape.idx_ext₂ ?_ ?_)
  · show 64 * k.val + 1 * (y 0).val = 64 * k.val + (y 0).val; omega
  · show 0 + 1 * (y 1).val = (y 1).val; omega

theorem trip_codes (k : Fin k0_t1_loop.trips) : View.PiecesOf (Val := Elt Ideal) (GC A Q g) (trip_k0_t1 (F := Ideal) Variants.none c none i arg1 harg1 arg2 harg2 arg3 harg3 arg4 harg4 arg5 harg5 arg6 harg6 arg7 harg7 arg8 harg8 arg9 harg9 arg10 harg10 arg11 harg11 arg12 harg12 h2 (harg6.unread (Val := Elt Ideal) g) (harg11.unread (Val := Elt Ideal) A) (harg12.unread (Val := Elt Ideal) Q) k).1 := by
  unfold trip_k0_t1; dsimp only
  refine ⟨?_, ?_, ?_, ?_, ?_, ?_, ?_, ?_, ?_, ?_, ?_, ?_, ?_, ?_, trivial⟩
  · intro x; dsimp only
    simp only [trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_8, trip_k0_t1.sl.r_9, trip_k0_t1.sl.r_7, trip_k0_t1.sl.r_5, trip_k0_t1.sl.r_6, trip_k0_t1.sl.r_3, trip_k0_t1.sl.r_4, trip_k0_t1.sl.r_1, trip_k0_t1.sl.r_2, trip_k0_t1.sl.r]
    simp only [load_rows A k 0 (k0_off3_eq k), load_rows A k 1 (k0_off4_eq k), load_rows A k 2 (k0_off5_eq k), load_rows A k 3 (k0_off6_eq k), load_rows A k 4 (k0_off7_eq k), load_rows A k 5 (k0_off8_eq k), load_rows A k 6 (k0_off9_eq k), load_rows A k 7 (k0_off10_eq k), load_rows A k 8 (k0_off11_eq k), load_rows A k 9 (k0_off12_eq k), load_rows A k 10 (k0_off13_eq k), load_rows A k 11 (k0_off14_eq k), load_rows A k 12 (k0_off15_eq k), load_rows A k 13 (k0_off16_eq k), load_cols (off := ![0, 0]) g 0 rfl, load_cols (off := ![0, 512]) g 1 rfl, load_cols (off := ![0, 1024]) g 2 rfl, load_cols (off := ![0, 1536]) g 3 rfl, load_cols (off := ![0, 2048]) g 4 rfl, load_cols (off := ![0, 2560]) g 5 rfl, load_cols (off := ![0, 3072]) g 6 rfl, load_cols (off := ![0, 3584]) g 7 rfl, load_cols (off := ![0, 4096]) g 8 rfl, load_cols (off := ![0, 4608]) g 9 rfl, load_cols (off := ![0, 5120]) g 10 rfl, load_cols (off := ![0, 5632]) g 11 rfl, load_cols (off := ![0, 6144]) g 12 rfl, load_cols (off := ![0, 6656]) g 13 rfl, load_lanes Q k (k0_off2_eq k)]
    simp only [quotients_eq (LK Q k) (aK A k) (gK g)]
    exact code_piece A Q g k 13 (k0_off30_eq k) x
  · intro x; dsimp only
    simp only [trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_8, trip_k0_t1.sl.r_9, trip_k0_t1.sl.r_7, trip_k0_t1.sl.r_5, trip_k0_t1.sl.r_6, trip_k0_t1.sl.r_3, trip_k0_t1.sl.r_4, trip_k0_t1.sl.r_1, trip_k0_t1.sl.r_2, trip_k0_t1.sl.r]
    simp only [load_rows A k 0 (k0_off3_eq k), load_rows A k 1 (k0_off4_eq k), load_rows A k 2 (k0_off5_eq k), load_rows A k 3 (k0_off6_eq k), load_rows A k 4 (k0_off7_eq k), load_rows A k 5 (k0_off8_eq k), load_rows A k 6 (k0_off9_eq k), load_rows A k 7 (k0_off10_eq k), load_rows A k 8 (k0_off11_eq k), load_rows A k 9 (k0_off12_eq k), load_rows A k 10 (k0_off13_eq k), load_rows A k 11 (k0_off14_eq k), load_rows A k 12 (k0_off15_eq k), load_rows A k 13 (k0_off16_eq k), load_cols (off := ![0, 0]) g 0 rfl, load_cols (off := ![0, 512]) g 1 rfl, load_cols (off := ![0, 1024]) g 2 rfl, load_cols (off := ![0, 1536]) g 3 rfl, load_cols (off := ![0, 2048]) g 4 rfl, load_cols (off := ![0, 2560]) g 5 rfl, load_cols (off := ![0, 3072]) g 6 rfl, load_cols (off := ![0, 3584]) g 7 rfl, load_cols (off := ![0, 4096]) g 8 rfl, load_cols (off := ![0, 4608]) g 9 rfl, load_cols (off := ![0, 5120]) g 10 rfl, load_cols (off := ![0, 5632]) g 11 rfl, load_cols (off := ![0, 6144]) g 12 rfl, load_cols (off := ![0, 6656]) g 13 rfl, load_lanes Q k (k0_off2_eq k)]
    simp only [quotients_eq (LK Q k) (aK A k) (gK g)]
    exact code_piece A Q g k 12 (k0_off29_eq k) x
  · intro x; dsimp only
    simp only [trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_8, trip_k0_t1.sl.r_9, trip_k0_t1.sl.r_7, trip_k0_t1.sl.r_5, trip_k0_t1.sl.r_6, trip_k0_t1.sl.r_3, trip_k0_t1.sl.r_4, trip_k0_t1.sl.r_1, trip_k0_t1.sl.r_2, trip_k0_t1.sl.r]
    simp only [load_rows A k 0 (k0_off3_eq k), load_rows A k 1 (k0_off4_eq k), load_rows A k 2 (k0_off5_eq k), load_rows A k 3 (k0_off6_eq k), load_rows A k 4 (k0_off7_eq k), load_rows A k 5 (k0_off8_eq k), load_rows A k 6 (k0_off9_eq k), load_rows A k 7 (k0_off10_eq k), load_rows A k 8 (k0_off11_eq k), load_rows A k 9 (k0_off12_eq k), load_rows A k 10 (k0_off13_eq k), load_rows A k 11 (k0_off14_eq k), load_rows A k 12 (k0_off15_eq k), load_rows A k 13 (k0_off16_eq k), load_cols (off := ![0, 0]) g 0 rfl, load_cols (off := ![0, 512]) g 1 rfl, load_cols (off := ![0, 1024]) g 2 rfl, load_cols (off := ![0, 1536]) g 3 rfl, load_cols (off := ![0, 2048]) g 4 rfl, load_cols (off := ![0, 2560]) g 5 rfl, load_cols (off := ![0, 3072]) g 6 rfl, load_cols (off := ![0, 3584]) g 7 rfl, load_cols (off := ![0, 4096]) g 8 rfl, load_cols (off := ![0, 4608]) g 9 rfl, load_cols (off := ![0, 5120]) g 10 rfl, load_cols (off := ![0, 5632]) g 11 rfl, load_cols (off := ![0, 6144]) g 12 rfl, load_cols (off := ![0, 6656]) g 13 rfl, load_lanes Q k (k0_off2_eq k)]
    simp only [quotients_eq (LK Q k) (aK A k) (gK g)]
    exact code_piece A Q g k 11 (k0_off28_eq k) x
  · intro x; dsimp only
    simp only [trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_8, trip_k0_t1.sl.r_9, trip_k0_t1.sl.r_7, trip_k0_t1.sl.r_5, trip_k0_t1.sl.r_6, trip_k0_t1.sl.r_3, trip_k0_t1.sl.r_4, trip_k0_t1.sl.r_1, trip_k0_t1.sl.r_2, trip_k0_t1.sl.r]
    simp only [load_rows A k 0 (k0_off3_eq k), load_rows A k 1 (k0_off4_eq k), load_rows A k 2 (k0_off5_eq k), load_rows A k 3 (k0_off6_eq k), load_rows A k 4 (k0_off7_eq k), load_rows A k 5 (k0_off8_eq k), load_rows A k 6 (k0_off9_eq k), load_rows A k 7 (k0_off10_eq k), load_rows A k 8 (k0_off11_eq k), load_rows A k 9 (k0_off12_eq k), load_rows A k 10 (k0_off13_eq k), load_rows A k 11 (k0_off14_eq k), load_rows A k 12 (k0_off15_eq k), load_rows A k 13 (k0_off16_eq k), load_cols (off := ![0, 0]) g 0 rfl, load_cols (off := ![0, 512]) g 1 rfl, load_cols (off := ![0, 1024]) g 2 rfl, load_cols (off := ![0, 1536]) g 3 rfl, load_cols (off := ![0, 2048]) g 4 rfl, load_cols (off := ![0, 2560]) g 5 rfl, load_cols (off := ![0, 3072]) g 6 rfl, load_cols (off := ![0, 3584]) g 7 rfl, load_cols (off := ![0, 4096]) g 8 rfl, load_cols (off := ![0, 4608]) g 9 rfl, load_cols (off := ![0, 5120]) g 10 rfl, load_cols (off := ![0, 5632]) g 11 rfl, load_cols (off := ![0, 6144]) g 12 rfl, load_cols (off := ![0, 6656]) g 13 rfl, load_lanes Q k (k0_off2_eq k)]
    simp only [quotients_eq (LK Q k) (aK A k) (gK g)]
    exact code_piece A Q g k 10 (k0_off27_eq k) x
  · intro x; dsimp only
    simp only [trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_8, trip_k0_t1.sl.r_9, trip_k0_t1.sl.r_7, trip_k0_t1.sl.r_5, trip_k0_t1.sl.r_6, trip_k0_t1.sl.r_3, trip_k0_t1.sl.r_4, trip_k0_t1.sl.r_1, trip_k0_t1.sl.r_2, trip_k0_t1.sl.r]
    simp only [load_rows A k 0 (k0_off3_eq k), load_rows A k 1 (k0_off4_eq k), load_rows A k 2 (k0_off5_eq k), load_rows A k 3 (k0_off6_eq k), load_rows A k 4 (k0_off7_eq k), load_rows A k 5 (k0_off8_eq k), load_rows A k 6 (k0_off9_eq k), load_rows A k 7 (k0_off10_eq k), load_rows A k 8 (k0_off11_eq k), load_rows A k 9 (k0_off12_eq k), load_rows A k 10 (k0_off13_eq k), load_rows A k 11 (k0_off14_eq k), load_rows A k 12 (k0_off15_eq k), load_rows A k 13 (k0_off16_eq k), load_cols (off := ![0, 0]) g 0 rfl, load_cols (off := ![0, 512]) g 1 rfl, load_cols (off := ![0, 1024]) g 2 rfl, load_cols (off := ![0, 1536]) g 3 rfl, load_cols (off := ![0, 2048]) g 4 rfl, load_cols (off := ![0, 2560]) g 5 rfl, load_cols (off := ![0, 3072]) g 6 rfl, load_cols (off := ![0, 3584]) g 7 rfl, load_cols (off := ![0, 4096]) g 8 rfl, load_cols (off := ![0, 4608]) g 9 rfl, load_cols (off := ![0, 5120]) g 10 rfl, load_cols (off := ![0, 5632]) g 11 rfl, load_cols (off := ![0, 6144]) g 12 rfl, load_cols (off := ![0, 6656]) g 13 rfl, load_lanes Q k (k0_off2_eq k)]
    simp only [quotients_eq (LK Q k) (aK A k) (gK g)]
    exact code_piece A Q g k 9 (k0_off26_eq k) x
  · intro x; dsimp only
    simp only [trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_8, trip_k0_t1.sl.r_9, trip_k0_t1.sl.r_7, trip_k0_t1.sl.r_5, trip_k0_t1.sl.r_6, trip_k0_t1.sl.r_3, trip_k0_t1.sl.r_4, trip_k0_t1.sl.r_1, trip_k0_t1.sl.r_2, trip_k0_t1.sl.r]
    simp only [load_rows A k 0 (k0_off3_eq k), load_rows A k 1 (k0_off4_eq k), load_rows A k 2 (k0_off5_eq k), load_rows A k 3 (k0_off6_eq k), load_rows A k 4 (k0_off7_eq k), load_rows A k 5 (k0_off8_eq k), load_rows A k 6 (k0_off9_eq k), load_rows A k 7 (k0_off10_eq k), load_rows A k 8 (k0_off11_eq k), load_rows A k 9 (k0_off12_eq k), load_rows A k 10 (k0_off13_eq k), load_rows A k 11 (k0_off14_eq k), load_rows A k 12 (k0_off15_eq k), load_rows A k 13 (k0_off16_eq k), load_cols (off := ![0, 0]) g 0 rfl, load_cols (off := ![0, 512]) g 1 rfl, load_cols (off := ![0, 1024]) g 2 rfl, load_cols (off := ![0, 1536]) g 3 rfl, load_cols (off := ![0, 2048]) g 4 rfl, load_cols (off := ![0, 2560]) g 5 rfl, load_cols (off := ![0, 3072]) g 6 rfl, load_cols (off := ![0, 3584]) g 7 rfl, load_cols (off := ![0, 4096]) g 8 rfl, load_cols (off := ![0, 4608]) g 9 rfl, load_cols (off := ![0, 5120]) g 10 rfl, load_cols (off := ![0, 5632]) g 11 rfl, load_cols (off := ![0, 6144]) g 12 rfl, load_cols (off := ![0, 6656]) g 13 rfl, load_lanes Q k (k0_off2_eq k)]
    simp only [quotients_eq (LK Q k) (aK A k) (gK g)]
    exact code_piece A Q g k 8 (k0_off25_eq k) x
  · intro x; dsimp only
    simp only [trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_8, trip_k0_t1.sl.r_9, trip_k0_t1.sl.r_7, trip_k0_t1.sl.r_5, trip_k0_t1.sl.r_6, trip_k0_t1.sl.r_3, trip_k0_t1.sl.r_4, trip_k0_t1.sl.r_1, trip_k0_t1.sl.r_2, trip_k0_t1.sl.r]
    simp only [load_rows A k 0 (k0_off3_eq k), load_rows A k 1 (k0_off4_eq k), load_rows A k 2 (k0_off5_eq k), load_rows A k 3 (k0_off6_eq k), load_rows A k 4 (k0_off7_eq k), load_rows A k 5 (k0_off8_eq k), load_rows A k 6 (k0_off9_eq k), load_rows A k 7 (k0_off10_eq k), load_rows A k 8 (k0_off11_eq k), load_rows A k 9 (k0_off12_eq k), load_rows A k 10 (k0_off13_eq k), load_rows A k 11 (k0_off14_eq k), load_rows A k 12 (k0_off15_eq k), load_rows A k 13 (k0_off16_eq k), load_cols (off := ![0, 0]) g 0 rfl, load_cols (off := ![0, 512]) g 1 rfl, load_cols (off := ![0, 1024]) g 2 rfl, load_cols (off := ![0, 1536]) g 3 rfl, load_cols (off := ![0, 2048]) g 4 rfl, load_cols (off := ![0, 2560]) g 5 rfl, load_cols (off := ![0, 3072]) g 6 rfl, load_cols (off := ![0, 3584]) g 7 rfl, load_cols (off := ![0, 4096]) g 8 rfl, load_cols (off := ![0, 4608]) g 9 rfl, load_cols (off := ![0, 5120]) g 10 rfl, load_cols (off := ![0, 5632]) g 11 rfl, load_cols (off := ![0, 6144]) g 12 rfl, load_cols (off := ![0, 6656]) g 13 rfl, load_lanes Q k (k0_off2_eq k)]
    simp only [quotients_eq (LK Q k) (aK A k) (gK g)]
    exact code_piece A Q g k 7 (k0_off24_eq k) x
  · intro x; dsimp only
    simp only [trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_8, trip_k0_t1.sl.r_9, trip_k0_t1.sl.r_7, trip_k0_t1.sl.r_5, trip_k0_t1.sl.r_6, trip_k0_t1.sl.r_3, trip_k0_t1.sl.r_4, trip_k0_t1.sl.r_1, trip_k0_t1.sl.r_2, trip_k0_t1.sl.r]
    simp only [load_rows A k 0 (k0_off3_eq k), load_rows A k 1 (k0_off4_eq k), load_rows A k 2 (k0_off5_eq k), load_rows A k 3 (k0_off6_eq k), load_rows A k 4 (k0_off7_eq k), load_rows A k 5 (k0_off8_eq k), load_rows A k 6 (k0_off9_eq k), load_rows A k 7 (k0_off10_eq k), load_rows A k 8 (k0_off11_eq k), load_rows A k 9 (k0_off12_eq k), load_rows A k 10 (k0_off13_eq k), load_rows A k 11 (k0_off14_eq k), load_rows A k 12 (k0_off15_eq k), load_rows A k 13 (k0_off16_eq k), load_cols (off := ![0, 0]) g 0 rfl, load_cols (off := ![0, 512]) g 1 rfl, load_cols (off := ![0, 1024]) g 2 rfl, load_cols (off := ![0, 1536]) g 3 rfl, load_cols (off := ![0, 2048]) g 4 rfl, load_cols (off := ![0, 2560]) g 5 rfl, load_cols (off := ![0, 3072]) g 6 rfl, load_cols (off := ![0, 3584]) g 7 rfl, load_cols (off := ![0, 4096]) g 8 rfl, load_cols (off := ![0, 4608]) g 9 rfl, load_cols (off := ![0, 5120]) g 10 rfl, load_cols (off := ![0, 5632]) g 11 rfl, load_cols (off := ![0, 6144]) g 12 rfl, load_cols (off := ![0, 6656]) g 13 rfl, load_lanes Q k (k0_off2_eq k)]
    simp only [quotients_eq (LK Q k) (aK A k) (gK g)]
    exact code_piece A Q g k 6 (k0_off23_eq k) x
  · intro x; dsimp only
    simp only [trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_8, trip_k0_t1.sl.r_9, trip_k0_t1.sl.r_7, trip_k0_t1.sl.r_5, trip_k0_t1.sl.r_6, trip_k0_t1.sl.r_3, trip_k0_t1.sl.r_4, trip_k0_t1.sl.r_1, trip_k0_t1.sl.r_2, trip_k0_t1.sl.r]
    simp only [load_rows A k 0 (k0_off3_eq k), load_rows A k 1 (k0_off4_eq k), load_rows A k 2 (k0_off5_eq k), load_rows A k 3 (k0_off6_eq k), load_rows A k 4 (k0_off7_eq k), load_rows A k 5 (k0_off8_eq k), load_rows A k 6 (k0_off9_eq k), load_rows A k 7 (k0_off10_eq k), load_rows A k 8 (k0_off11_eq k), load_rows A k 9 (k0_off12_eq k), load_rows A k 10 (k0_off13_eq k), load_rows A k 11 (k0_off14_eq k), load_rows A k 12 (k0_off15_eq k), load_rows A k 13 (k0_off16_eq k), load_cols (off := ![0, 0]) g 0 rfl, load_cols (off := ![0, 512]) g 1 rfl, load_cols (off := ![0, 1024]) g 2 rfl, load_cols (off := ![0, 1536]) g 3 rfl, load_cols (off := ![0, 2048]) g 4 rfl, load_cols (off := ![0, 2560]) g 5 rfl, load_cols (off := ![0, 3072]) g 6 rfl, load_cols (off := ![0, 3584]) g 7 rfl, load_cols (off := ![0, 4096]) g 8 rfl, load_cols (off := ![0, 4608]) g 9 rfl, load_cols (off := ![0, 5120]) g 10 rfl, load_cols (off := ![0, 5632]) g 11 rfl, load_cols (off := ![0, 6144]) g 12 rfl, load_cols (off := ![0, 6656]) g 13 rfl, load_lanes Q k (k0_off2_eq k)]
    simp only [quotients_eq (LK Q k) (aK A k) (gK g)]
    exact code_piece A Q g k 5 (k0_off22_eq k) x
  · intro x; dsimp only
    simp only [trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_8, trip_k0_t1.sl.r_9, trip_k0_t1.sl.r_7, trip_k0_t1.sl.r_5, trip_k0_t1.sl.r_6, trip_k0_t1.sl.r_3, trip_k0_t1.sl.r_4, trip_k0_t1.sl.r_1, trip_k0_t1.sl.r_2, trip_k0_t1.sl.r]
    simp only [load_rows A k 0 (k0_off3_eq k), load_rows A k 1 (k0_off4_eq k), load_rows A k 2 (k0_off5_eq k), load_rows A k 3 (k0_off6_eq k), load_rows A k 4 (k0_off7_eq k), load_rows A k 5 (k0_off8_eq k), load_rows A k 6 (k0_off9_eq k), load_rows A k 7 (k0_off10_eq k), load_rows A k 8 (k0_off11_eq k), load_rows A k 9 (k0_off12_eq k), load_rows A k 10 (k0_off13_eq k), load_rows A k 11 (k0_off14_eq k), load_rows A k 12 (k0_off15_eq k), load_rows A k 13 (k0_off16_eq k), load_cols (off := ![0, 0]) g 0 rfl, load_cols (off := ![0, 512]) g 1 rfl, load_cols (off := ![0, 1024]) g 2 rfl, load_cols (off := ![0, 1536]) g 3 rfl, load_cols (off := ![0, 2048]) g 4 rfl, load_cols (off := ![0, 2560]) g 5 rfl, load_cols (off := ![0, 3072]) g 6 rfl, load_cols (off := ![0, 3584]) g 7 rfl, load_cols (off := ![0, 4096]) g 8 rfl, load_cols (off := ![0, 4608]) g 9 rfl, load_cols (off := ![0, 5120]) g 10 rfl, load_cols (off := ![0, 5632]) g 11 rfl, load_cols (off := ![0, 6144]) g 12 rfl, load_cols (off := ![0, 6656]) g 13 rfl, load_lanes Q k (k0_off2_eq k)]
    simp only [quotients_eq (LK Q k) (aK A k) (gK g)]
    exact code_piece A Q g k 4 (k0_off21_eq k) x
  · intro x; dsimp only
    simp only [trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_8, trip_k0_t1.sl.r_9, trip_k0_t1.sl.r_7, trip_k0_t1.sl.r_5, trip_k0_t1.sl.r_6, trip_k0_t1.sl.r_3, trip_k0_t1.sl.r_4, trip_k0_t1.sl.r_1, trip_k0_t1.sl.r_2, trip_k0_t1.sl.r]
    simp only [load_rows A k 0 (k0_off3_eq k), load_rows A k 1 (k0_off4_eq k), load_rows A k 2 (k0_off5_eq k), load_rows A k 3 (k0_off6_eq k), load_rows A k 4 (k0_off7_eq k), load_rows A k 5 (k0_off8_eq k), load_rows A k 6 (k0_off9_eq k), load_rows A k 7 (k0_off10_eq k), load_rows A k 8 (k0_off11_eq k), load_rows A k 9 (k0_off12_eq k), load_rows A k 10 (k0_off13_eq k), load_rows A k 11 (k0_off14_eq k), load_rows A k 12 (k0_off15_eq k), load_rows A k 13 (k0_off16_eq k), load_cols (off := ![0, 0]) g 0 rfl, load_cols (off := ![0, 512]) g 1 rfl, load_cols (off := ![0, 1024]) g 2 rfl, load_cols (off := ![0, 1536]) g 3 rfl, load_cols (off := ![0, 2048]) g 4 rfl, load_cols (off := ![0, 2560]) g 5 rfl, load_cols (off := ![0, 3072]) g 6 rfl, load_cols (off := ![0, 3584]) g 7 rfl, load_cols (off := ![0, 4096]) g 8 rfl, load_cols (off := ![0, 4608]) g 9 rfl, load_cols (off := ![0, 5120]) g 10 rfl, load_cols (off := ![0, 5632]) g 11 rfl, load_cols (off := ![0, 6144]) g 12 rfl, load_cols (off := ![0, 6656]) g 13 rfl, load_lanes Q k (k0_off2_eq k)]
    simp only [quotients_eq (LK Q k) (aK A k) (gK g)]
    exact code_piece A Q g k 3 (k0_off20_eq k) x
  · intro x; dsimp only
    simp only [trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_8, trip_k0_t1.sl.r_9, trip_k0_t1.sl.r_7, trip_k0_t1.sl.r_5, trip_k0_t1.sl.r_6, trip_k0_t1.sl.r_3, trip_k0_t1.sl.r_4, trip_k0_t1.sl.r_1, trip_k0_t1.sl.r_2, trip_k0_t1.sl.r]
    simp only [load_rows A k 0 (k0_off3_eq k), load_rows A k 1 (k0_off4_eq k), load_rows A k 2 (k0_off5_eq k), load_rows A k 3 (k0_off6_eq k), load_rows A k 4 (k0_off7_eq k), load_rows A k 5 (k0_off8_eq k), load_rows A k 6 (k0_off9_eq k), load_rows A k 7 (k0_off10_eq k), load_rows A k 8 (k0_off11_eq k), load_rows A k 9 (k0_off12_eq k), load_rows A k 10 (k0_off13_eq k), load_rows A k 11 (k0_off14_eq k), load_rows A k 12 (k0_off15_eq k), load_rows A k 13 (k0_off16_eq k), load_cols (off := ![0, 0]) g 0 rfl, load_cols (off := ![0, 512]) g 1 rfl, load_cols (off := ![0, 1024]) g 2 rfl, load_cols (off := ![0, 1536]) g 3 rfl, load_cols (off := ![0, 2048]) g 4 rfl, load_cols (off := ![0, 2560]) g 5 rfl, load_cols (off := ![0, 3072]) g 6 rfl, load_cols (off := ![0, 3584]) g 7 rfl, load_cols (off := ![0, 4096]) g 8 rfl, load_cols (off := ![0, 4608]) g 9 rfl, load_cols (off := ![0, 5120]) g 10 rfl, load_cols (off := ![0, 5632]) g 11 rfl, load_cols (off := ![0, 6144]) g 12 rfl, load_cols (off := ![0, 6656]) g 13 rfl, load_lanes Q k (k0_off2_eq k)]
    simp only [quotients_eq (LK Q k) (aK A k) (gK g)]
    exact code_piece A Q g k 2 (k0_off19_eq k) x
  · intro x; dsimp only
    simp only [trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_8, trip_k0_t1.sl.r_9, trip_k0_t1.sl.r_7, trip_k0_t1.sl.r_5, trip_k0_t1.sl.r_6, trip_k0_t1.sl.r_3, trip_k0_t1.sl.r_4, trip_k0_t1.sl.r_1, trip_k0_t1.sl.r_2, trip_k0_t1.sl.r]
    simp only [load_rows A k 0 (k0_off3_eq k), load_rows A k 1 (k0_off4_eq k), load_rows A k 2 (k0_off5_eq k), load_rows A k 3 (k0_off6_eq k), load_rows A k 4 (k0_off7_eq k), load_rows A k 5 (k0_off8_eq k), load_rows A k 6 (k0_off9_eq k), load_rows A k 7 (k0_off10_eq k), load_rows A k 8 (k0_off11_eq k), load_rows A k 9 (k0_off12_eq k), load_rows A k 10 (k0_off13_eq k), load_rows A k 11 (k0_off14_eq k), load_rows A k 12 (k0_off15_eq k), load_rows A k 13 (k0_off16_eq k), load_cols (off := ![0, 0]) g 0 rfl, load_cols (off := ![0, 512]) g 1 rfl, load_cols (off := ![0, 1024]) g 2 rfl, load_cols (off := ![0, 1536]) g 3 rfl, load_cols (off := ![0, 2048]) g 4 rfl, load_cols (off := ![0, 2560]) g 5 rfl, load_cols (off := ![0, 3072]) g 6 rfl, load_cols (off := ![0, 3584]) g 7 rfl, load_cols (off := ![0, 4096]) g 8 rfl, load_cols (off := ![0, 4608]) g 9 rfl, load_cols (off := ![0, 5120]) g 10 rfl, load_cols (off := ![0, 5632]) g 11 rfl, load_cols (off := ![0, 6144]) g 12 rfl, load_cols (off := ![0, 6656]) g 13 rfl, load_lanes Q k (k0_off2_eq k)]
    simp only [quotients_eq (LK Q k) (aK A k) (gK g)]
    exact code_piece A Q g k 1 (k0_off18_eq k) x
  · intro x; dsimp only
    simp only [trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_8, trip_k0_t1.sl.r_9, trip_k0_t1.sl.r_7, trip_k0_t1.sl.r_5, trip_k0_t1.sl.r_6, trip_k0_t1.sl.r_3, trip_k0_t1.sl.r_4, trip_k0_t1.sl.r_1, trip_k0_t1.sl.r_2, trip_k0_t1.sl.r]
    simp only [load_rows A k 0 (k0_off3_eq k), load_rows A k 1 (k0_off4_eq k), load_rows A k 2 (k0_off5_eq k), load_rows A k 3 (k0_off6_eq k), load_rows A k 4 (k0_off7_eq k), load_rows A k 5 (k0_off8_eq k), load_rows A k 6 (k0_off9_eq k), load_rows A k 7 (k0_off10_eq k), load_rows A k 8 (k0_off11_eq k), load_rows A k 9 (k0_off12_eq k), load_rows A k 10 (k0_off13_eq k), load_rows A k 11 (k0_off14_eq k), load_rows A k 12 (k0_off15_eq k), load_rows A k 13 (k0_off16_eq k), load_cols (off := ![0, 0]) g 0 rfl, load_cols (off := ![0, 512]) g 1 rfl, load_cols (off := ![0, 1024]) g 2 rfl, load_cols (off := ![0, 1536]) g 3 rfl, load_cols (off := ![0, 2048]) g 4 rfl, load_cols (off := ![0, 2560]) g 5 rfl, load_cols (off := ![0, 3072]) g 6 rfl, load_cols (off := ![0, 3584]) g 7 rfl, load_cols (off := ![0, 4096]) g 8 rfl, load_cols (off := ![0, 4608]) g 9 rfl, load_cols (off := ![0, 5120]) g 10 rfl, load_cols (off := ![0, 5632]) g 11 rfl, load_cols (off := ![0, 6144]) g 12 rfl, load_cols (off := ![0, 6656]) g 13 rfl, load_lanes Q k (k0_off2_eq k)]
    simp only [quotients_eq (LK Q k) (aK A k) (gK g)]
    exact code_piece A Q g k 0 (k0_off17_eq k) x

theorem trip_scales (k : Fin k0_t1_loop.trips) : View.PiecesOf (Val := Elt Ideal) (GS A Q g) (trip_k0_t1 (F := Ideal) Variants.none c none i arg1 harg1 arg2 harg2 arg3 harg3 arg4 harg4 arg5 harg5 arg6 harg6 arg7 harg7 arg8 harg8 arg9 harg9 arg10 harg10 arg11 harg11 arg12 harg12 h2 (harg6.unread (Val := Elt Ideal) g) (harg11.unread (Val := Elt Ideal) A) (harg12.unread (Val := Elt Ideal) Q) k).2.1 := by
  unfold trip_k0_t1; dsimp only
  refine ⟨?_, trivial⟩
  intro x
  dsimp only
  simp only [trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_8, trip_k0_t1.sl.r_9, trip_k0_t1.sl.r_7, trip_k0_t1.sl.r_5, trip_k0_t1.sl.r_6, trip_k0_t1.sl.r_3, trip_k0_t1.sl.r_4, trip_k0_t1.sl.r_1, trip_k0_t1.sl.r_2, trip_k0_t1.sl.r]
  simp only [load_rows A k 0 (k0_off3_eq k), load_rows A k 1 (k0_off4_eq k), load_rows A k 2 (k0_off5_eq k), load_rows A k 3 (k0_off6_eq k), load_rows A k 4 (k0_off7_eq k), load_rows A k 5 (k0_off8_eq k), load_rows A k 6 (k0_off9_eq k), load_rows A k 7 (k0_off10_eq k), load_rows A k 8 (k0_off11_eq k), load_rows A k 9 (k0_off12_eq k), load_rows A k 10 (k0_off13_eq k), load_rows A k 11 (k0_off14_eq k), load_rows A k 12 (k0_off15_eq k), load_rows A k 13 (k0_off16_eq k), load_cols (off := ![0, 0]) g 0 rfl, load_cols (off := ![0, 512]) g 1 rfl, load_cols (off := ![0, 1024]) g 2 rfl, load_cols (off := ![0, 1536]) g 3 rfl, load_cols (off := ![0, 2048]) g 4 rfl, load_cols (off := ![0, 2560]) g 5 rfl, load_cols (off := ![0, 3072]) g 6 rfl, load_cols (off := ![0, 3584]) g 7 rfl, load_cols (off := ![0, 4096]) g 8 rfl, load_cols (off := ![0, 4608]) g 9 rfl, load_cols (off := ![0, 5120]) g 10 rfl, load_cols (off := ![0, 5632]) g 11 rfl, load_cols (off := ![0, 6144]) g 12 rfl, load_cols (off := ![0, 6656]) g 13 rfl, load_lanes Q k (k0_off2_eq k)]
  simp only [quotients_eq (LK Q k) (aK A k) (gK g)]
  exact scale_piece A Q g k (k0_off2_eq k) x

theorem loop_pieces : ∀ n, n ≤ k0_t1_loop.trips →
    (∀ p ∈ (pb_k0_t1 (F := Ideal) Variants.none c none i arg1 harg1 arg2 harg2 arg3 harg3 arg4 harg4 arg5 harg5 arg6 harg6 arg7 harg7 arg8 harg8 arg9 harg9 arg10 harg10 arg11 harg11 arg12 harg12 h2 (harg6.unread (Val := Elt Ideal) g) (harg11.unread (Val := Elt Ideal) A) (harg12.unread (Val := Elt Ideal) Q) n).1, ∀ x : p.1.shape.Idx, p.2 x = GC A Q g (p.1.emb x))
      ∧ (∀ p ∈ (pb_k0_t1 (F := Ideal) Variants.none c none i arg1 harg1 arg2 harg2 arg3 harg3 arg4 harg4 arg5 harg5 arg6 harg6 arg7 harg7 arg8 harg8 arg9 harg9 arg10 harg10 arg11 harg11 arg12 harg12 h2 (harg6.unread (Val := Elt Ideal) g) (harg11.unread (Val := Elt Ideal) A) (harg12.unread (Val := Elt Ideal) Q) n).2, ∀ x : p.1.shape.Idx, p.2 x = GS A Q g (p.1.emb x))
  | 0, _ => ⟨fun p hp => absurd hp (List.not_mem_nil), fun p hp => absurd hp (List.not_mem_nil)⟩
  | n + 1, hn => by
    have ih := loop_pieces n (Nat.le_of_succ_le hn)
    have e := pb_k0_t1_succ (F := Ideal) Variants.none c none i arg1 harg1 arg2 harg2 arg3 harg3 arg4 harg4 arg5 harg5 arg6 harg6 arg7 harg7 arg8 harg8 arg9 harg9 arg10 harg10 arg11 harg11 arg12 harg12 h2 (harg6.unread (Val := Elt Ideal) g) (harg11.unread (Val := Elt Ideal) A) (harg12.unread (Val := Elt Ideal) Q) ⟨n, hn⟩
    dsimp only at e
    rw [e]
    refine ⟨fun p hp => ?_, fun p hp => ?_⟩
    · rcases List.mem_append.1 hp with h | h
      · exact View.PiecesOf.mem (trip_codes A Q g h2 ⟨n, hn⟩) p h
      · exact ih.1 p h
    · rcases List.mem_append.1 hp with h | h
      · exact View.PiecesOf.mem (trip_scales A Q g h2 ⟨n, hn⟩) p h
      · exact ih.2 p h

/-- The codes the loop leaves. -/
theorem codes_eq (v : View sig .tc .vmem S768x7168 .fp8e4m3) (f : v.ty.Contents (Elt Ideal)) :
    v.read (Elt Ideal) (v.writes (Elt Ideal) f (pb_k0_t1 (F := Ideal) Variants.none c none i arg1 harg1 arg2 harg2 arg3 harg3 arg4 harg4 arg5 harg5 arg6 harg6 arg7 harg7 arg8 harg8 arg9 harg9 arg10 harg10 arg11 harg11 arg12 harg12 h2 (harg6.unread (Val := Elt Ideal) g) (harg11.unread (Val := Elt Ideal) A) (harg12.unread (Val := Elt Ideal) Q) k0_t1_loop.trips).1) = GC A Q g := by
  rw [View.read_writes_eq_canon _ _ _ (loop_cover8 (F := Ideal) h2 _ _ _)]
  exact funext fun y => View.canon_apply_of_pieces (GC A Q g) _ (loop_pieces A Q g h2 _ le_rfl).1 y (loop_cover8 (F := Ideal) h2 _ _ _ y)

/-- The scales the loop leaves. -/
theorem scales_eq' (v : View sig .tc .vmem S768x128 .f32) (f : v.ty.Contents (Elt Ideal)) :
    v.read (Elt Ideal) (v.writes (Elt Ideal) f (pb_k0_t1 (F := Ideal) Variants.none c none i arg1 harg1 arg2 harg2 arg3 harg3 arg4 harg4 arg5 harg5 arg6 harg6 arg7 harg7 arg8 harg8 arg9 harg9 arg10 harg10 arg11 harg11 arg12 harg12 h2 (harg6.unread (Val := Elt Ideal) g) (harg11.unread (Val := Elt Ideal) A) (harg12.unread (Val := Elt Ideal) Q) k0_t1_loop.trips).2) = GS A Q g := by
  rw [View.read_writes_eq_canon _ _ _ (loop_cover9 (F := Ideal) h2 _ _ _)]
  exact funext fun y => View.canon_apply_of_pieces (GS A Q g) _ (loop_pieces A Q g h2 _ le_rfl).2 y (loop_cover9 (F := Ideal) h2 _ _ _ y)

end Loop

end Cert.OprojIdeal.RefValue

end
-- ==== Proof.OprojSum.lean ====
/-
  THE OUTPUT PROJECTION CALL, WHOLE. At each of the fourteen blocks of 512 columns the kernel multiplies the attention codes
  by the block of the weight, scales the product, adds the residual, stores the sum in f32, in bf16 and in the scratch, and
  adds its squares onto 128 lanes. At the last block it normalises every row and quantises it. `final6` to `final9` give the
  four arrays as functions of the arguments.
-/
module

public import proofs.«01_k».proof.Proof.OprojTrip
public import Idealize.ShloMosaic.Lib.StableHlo.Run

@[expose] public section

noncomputable section

open Idealize.ShloMosaic Idealize.ShloMosaic.TcCoe Idealize.SL.Sem Idealize.ShloMosaic.ValueIdx
open Idealize.ShloMosaic.Pipeline (Dat)

namespace Cert.OprojIdeal.RefValue

open Cert.OprojIdeal Cert.OprojIdeal.Gen
open Cert.Layer hiding offs_zero

variable (m : (ℓ : Loc nD τ sig) → Buf (Elt Ideal) ℓ)

/-- The residual with the projection added. -/
abbrev S (c : Dev nD) : S768x7168.Idx → EReal :=
  sumAt (m ((c : Thread nD τ).loc main_arg0)) (m ((c : Thread nD τ).loc main_arg1)) (m ((c : Thread nD τ).loc main_arg2))
    (m ((c : Thread nD τ).loc main_arg3)) (m ((c : Thread nD τ).loc main_arg4))

/-- Its normalised rows. -/
abbrev Nm (c : Dev nD) : S768x7168.Idx → EReal := normAt (S m c) (m ((c : Thread nD τ).loc main_arg5))

abbrev G6 (c : Dev nD) : Buf (Elt Ideal) ((c : Thread nD τ).loc main_v4_0) := S m c
abbrev G7 (c : Dev nD) : Buf (Elt Ideal) ((c : Thread nD τ).loc main_v4_1) := S m c
/-- The codes. -/
abbrev G8 (c : Dev nD) : Buf (Elt Ideal) ((c : Thread nD τ).loc main_v4_2) :=
  fun i : S768x7168.Idx => clip (Nm m c i * kinv (quot (amaxAt (Nm m c) (i 0))))
/-- The scales, on every lane. -/
abbrev G9 (c : Dev nD) : Buf (Elt Ideal) ((c : Thread nD τ).loc main_v4_3) :=
  fun i : S768x128.Idx => kscale (quot (amaxAt (Nm m c) (i 0)))

theorem lt14 (t : Fin cfg0.N) : t.val < 14 := t.isLt

/-- Column `q` of block `t` as a column of the whole array. -/
abbrev tcol (t : Fin cfg0.N) (q : Fin 512) : Fin 7168 := ⟨t.val * 512 + q.val, by have := lt14 t; have := q.isLt; omega⟩

/-- Where each window's block sits at a point. -/
theorem idx_facts : ∀ t : Fin cfg0.N, (win0_0.index t 0 = 0 ∧ win0_0.index t 1 = 0) ∧ (win0_1.index t 0 = 0 ∧ win0_1.index t 1 = 0) ∧ (win0_2.index t 0 = 0 ∧ win0_2.index t 1 = t.val) ∧ (win0_3.index t 0 = 0 ∧ win0_3.index t 1 = t.val) ∧ (win0_4.index t 0 = 0 ∧ win0_4.index t 1 = t.val) ∧ (win0_5.index t 0 = 0 ∧ win0_5.index t 1 = 0) ∧ (win0_6.index t 0 = 0 ∧ win0_6.index t 1 = t.val) ∧ (win0_7.index t 0 = 0 ∧ win0_7.index t 1 = t.val) ∧ (win0_8.index t 0 = 0 ∧ win0_8.index t 1 = 0) ∧ (win0_9.index t 0 = 0 ∧ win0_9.index t 1 = 0) :=
  (by decide +kernel : ∀ t : Fin grid0.N, (win0_0.index t 0 = 0 ∧ win0_0.index t 1 = 0) ∧ (win0_1.index t 0 = 0 ∧ win0_1.index t 1 = 0) ∧ (win0_2.index t 0 = 0 ∧ win0_2.index t 1 = t.val) ∧ (win0_3.index t 0 = 0 ∧ win0_3.index t 1 = t.val) ∧ (win0_4.index t 0 = 0 ∧ win0_4.index t 1 = t.val) ∧ (win0_5.index t 0 = 0 ∧ win0_5.index t 1 = 0) ∧ (win0_6.index t 0 = 0 ∧ win0_6.index t 1 = t.val) ∧ (win0_7.index t 0 = 0 ∧ win0_7.index t 1 = t.val) ∧ (win0_8.index t 0 = 0 ∧ win0_8.index t 1 = 0) ∧ (win0_9.index t 0 = 0 ∧ win0_9.index t 1 = 0))

theorem V_rows (c : Dev nD) (r : Fin 768) (l : Fin 128) :
    V m c main_v1 (ix2 r l) = m ((c : Thread nD τ).loc main_arg1) (ix1 r) := by
  have h : V m c main_v1 = broadcastInDim S768x128 ![0, 1] bcast_S768x1_S768x128_0_1
      (broadcastInDim S768x1 ![0] bcast_S768_S768x1_0 (m ((c : Thread nD τ).loc main_arg1))) := by
    unfold V; after_results
  rw [h, lanesOf_apply, colOf_apply]

theorem V_cols (c : Dev nD) (z : Fin 1) (q : Fin 7168) :
    V m c main_v2 (ix2 z q) = m ((c : Thread nD τ).loc main_arg3) (ix1 q) := by
  have h : V m c main_v2 = shapeCast S1x7168 (m ((c : Thread nD τ).loc main_arg3)) shapeCasts_S7168_S1x7168 := by
    unfold V; after_results; rfl
  rw [h, rowOf_apply]

theorem V_gain (c : Dev nD) (z : Fin 1) (q : Fin 7168) :
    V m c main_v3 (ix2 z q) = m ((c : Thread nD τ).loc main_arg5) (ix1 q) := by
  have h : V m c main_v3 = shapeCast S1x7168 (m ((c : Thread nD τ).loc main_arg5)) shapeCasts_S7168_S1x7168 := by
    unfold V; after_results; rfl
  rw [h, rowOf_apply]

theorem blk0 (c : Dev nD) (t : Fin cfg0.N) (r : Fin 768) (k : Fin 5376) :
    iblk m c 0 t (ix2 r k) = m ((c : Thread nD τ).loc main_arg0) (ix2 r k) := by
  show V m c main_arg0 ((win0_0.rect t).emb (ix2 r k)) = _
  rw [V_main_arg0]
  refine congrArg _ (Shape.idx_ext₂ ?_ ?_)
  · exact win0_0.rect_emb_val_of_index_zero t 0 (idx_facts t).1.1 _
  · exact win0_0.rect_emb_val_of_index_zero t 1 (idx_facts t).1.2 _

theorem blk1 (c : Dev nD) (t : Fin cfg0.N) (r : Fin 768) (k : Fin 128) :
    iblk m c 1 t (ix2 r k) = m ((c : Thread nD τ).loc main_arg1) (ix1 r) := by
  show V m c main_v1 ((win0_1.rect t).emb (ix2 r k)) = _
  rw [← V_rows m c r k]
  refine congrArg _ (Shape.idx_ext₂ ?_ ?_)
  · exact win0_1.rect_emb_val_of_index_zero t 0 (idx_facts t).2.1.1 _
  · exact win0_1.rect_emb_val_of_index_zero t 1 (idx_facts t).2.1.2 _

theorem blk2 (c : Dev nD) (t : Fin cfg0.N) (r : Fin 5376) (k : Fin 512) :
    iblk m c 2 t (ix2 r k) = m ((c : Thread nD τ).loc main_arg2) (ix2 r (tcol t k)) := by
  show V m c main_arg2 ((win0_2.rect t).emb (ix2 r k)) = _
  rw [V_main_arg2]
  refine congrArg _ (Shape.idx_ext₂ ?_ ?_)
  · exact win0_2.rect_emb_val_of_index_zero t 0 (idx_facts t).2.2.1.1 _
  · refine (win0_2.rect_emb_val t _ 1).trans ?_
    rw [(idx_facts t).2.2.1.2]; rfl

theorem blk3 (c : Dev nD) (t : Fin cfg0.N) (r : Fin 1) (k : Fin 512) :
    iblk m c 3 t (ix2 r k) = m ((c : Thread nD τ).loc main_arg3) (ix1 (tcol t k)) := by
  show V m c main_v2 ((win0_3.rect t).emb (ix2 r k)) = _
  rw [← V_cols m c r (tcol t k)]
  refine congrArg _ (Shape.idx_ext₂ ?_ ?_)
  · exact win0_3.rect_emb_val_of_index_zero t 0 (idx_facts t).2.2.2.1.1 _
  · refine (win0_3.rect_emb_val t _ 1).trans ?_
    rw [(idx_facts t).2.2.2.1.2]; rfl

theorem blk4 (c : Dev nD) (t : Fin cfg0.N) (r : Fin 768) (k : Fin 512) :
    iblk m c 4 t (ix2 r k) = m ((c : Thread nD τ).loc main_arg4) (ix2 r (tcol t k)) := by
  show V m c main_arg4 ((win0_4.rect t).emb (ix2 r k)) = _
  rw [V_main_arg4]
  refine congrArg _ (Shape.idx_ext₂ ?_ ?_)
  · exact win0_4.rect_emb_val_of_index_zero t 0 (idx_facts t).2.2.2.2.1.1 _
  · refine (win0_4.rect_emb_val t _ 1).trans ?_
    rw [(idx_facts t).2.2.2.2.1.2]; rfl

theorem blk5 (c : Dev nD) (t : Fin cfg0.N) (r : Fin 1) (k : Fin 7168) :
    iblk m c 5 t (ix2 r k) = m ((c : Thread nD τ).loc main_arg5) (ix1 k) := by
  show V m c main_v3 ((win0_5.rect t).emb (ix2 r k)) = _
  rw [← V_gain m c r k]
  refine congrArg _ (Shape.idx_ext₂ ?_ ?_)
  · exact win0_5.rect_emb_val_of_index_zero t 0 (idx_facts t).2.2.2.2.2.1.1 _
  · exact win0_5.rect_emb_val_of_index_zero t 1 (idx_facts t).2.2.2.2.2.1.2 _

theorem emb6 (t : Fin cfg0.N) (r : Fin 768) (q : Fin 512) : (win0_6.rect t).emb (ix2 r q) = (ix2 r (tcol t q) : S768x7168.Idx) := by
  refine Shape.idx_ext₂ ?_ ?_
  · exact win0_6.rect_emb_val_of_index_zero t 0 (idx_facts t).2.2.2.2.2.2.1.1 _
  · refine (win0_6.rect_emb_val t _ 1).trans ?_
    rw [(idx_facts t).2.2.2.2.2.2.1.2]; rfl

theorem emb7 (t : Fin cfg0.N) (r : Fin 768) (q : Fin 512) : (win0_7.rect t).emb (ix2 r q) = (ix2 r (tcol t q) : S768x7168.Idx) := by
  refine Shape.idx_ext₂ ?_ ?_
  · exact win0_7.rect_emb_val_of_index_zero t 0 (idx_facts t).2.2.2.2.2.2.2.1.1 _
  · refine (win0_7.rect_emb_val t _ 1).trans ?_
    rw [(idx_facts t).2.2.2.2.2.2.2.1.2]; rfl

theorem emb8 (t : Fin cfg0.N) (r : Fin 768) (q : Fin 7168) : (win0_8.rect t).emb (ix2 r q) = (ix2 r q : S768x7168.Idx) := by
  refine Shape.idx_ext₂ ?_ ?_
  · exact win0_8.rect_emb_val_of_index_zero t 0 (idx_facts t).2.2.2.2.2.2.2.2.1.1 _
  · exact win0_8.rect_emb_val_of_index_zero t 1 (idx_facts t).2.2.2.2.2.2.2.2.1.2 _

theorem emb9 (t : Fin cfg0.N) (r : Fin 768) (q : Fin 128) : (win0_9.rect t).emb (ix2 r q) = (ix2 r q : S768x128.Idx) := by
  refine Shape.idx_ext₂ ?_ ?_
  · exact win0_9.rect_emb_val_of_index_zero t 0 (idx_facts t).2.2.2.2.2.2.2.2.2.1 _
  · exact win0_9.rect_emb_val_of_index_zero t 1 (idx_facts t).2.2.2.2.2.2.2.2.2.2 _

/-! ## The sum -/

section Body

variable (x0 : Vec Ideal S768x5376 .fp8e4m3) (x1 : Vec Ideal S768x128 .f32) (x2 : Vec Ideal S5376x512 .fp8e4m3)
  (x3 : Vec Ideal S1x512 .f32) (x4 : Vec Ideal S768x512 .bf16)

theorem hval_apply (r : Fin 768) (q : Fin 512) : hval x0 x1 x2 x3 x4 (ix2 r q)
    = x4 (ix2 r q) + proj x0 x2 (fun r => x1 (ix2 r 0)) (fun c => x3 (ix2 0 c)) r q := by
  unfold hval k0_pay35
  simp only [shapeCast_self]
  have e : ∀ r : Fin 768, View.ld x1 (Rect.unit ![0, 0] ![768, 1] inb_S768x128_S768x1_0_0) (ix2 r 0) = x1 (ix2 r 0) := fun r => by
    refine congrArg x1 (Shape.idx_ext₂ ?_ ?_)
    · show 0 + 1 * r.val = r.val; omega
    · rfl
  have p := (proj_apply (φ := .fp8e4m3) x0 x2 none (View.ld x1 (Rect.unit ![0, 0] ![768, 1] inb_S768x128_S768x1_0_0)) x3
      broadcasts_S768x1_S768x512 broadcasts_S1x512_S768x512 r q).trans
    (congrArg (fun sa => proj x0 x2 sa (fun c => x3 (ix2 0 c)) r q) (funext e))
  exact congrArg (x4 (ix2 r q) + ·) p

/-- A slice of a block's squares. -/
theorem slice_apply (v : FVec Ideal S768x512 .f32) (o : ℕ) (h : S768x512.Slices ![0, o] S768x128) (ho : o + 128 ≤ 512) (r : Fin 768)
    (l : Fin 128) : extractStridedSlice S768x128 ![0, o] v h (ix2 r l) = v (ix2 r ⟨o + l.val, by have := l.isLt; omega⟩) := by
  refine extractStridedSlice_apply _ v h _ _ fun a => ?_
  match a with
  | ⟨0, _⟩ => exact (Nat.zero_add _).symm
  | ⟨1, _⟩ => rfl

theorem ssqval_apply (p : Vec Ideal S768x128 .f32) (F : ℕ → EReal) (r : Fin 768)
    (hF : ∀ q : Fin 512, hval x0 x1 x2 x3 x4 (ix2 r q) * hval x0 x1 x2 x3 x4 (ix2 r q) = F q.val) (l : Fin 128) :
    ssqval x0 x1 x2 x3 x4 p (ix2 r l)
      = p (ix2 r l) + (((F (0 + l.val) + F (128 + l.val)) + F (256 + l.val)) + F (384 + l.val)) := by
  unfold ssqval k0_pay1 k0_pay39
  simp only [shapeCast_self]
  have s := fun (o : ℕ) (h : S768x512.Slices ![0, o] S768x128) (ho : o + 128 ≤ 512) =>
    (slice_apply (mulf (F := Ideal) (φ := .f32) (hval x0 x1 x2 x3 x4) (hval x0 x1 x2 x3 x4)) o h ho r l).trans
      (hF ⟨o + l.val, by have := l.isLt; omega⟩)
  exact congrArg (p (ix2 r l) + ·) (congrArg₂ (· + ·) (congrArg₂ (· + ·) (congrArg₂ (· + ·)
    (s 0 slices_S768x512_o0_0_S768x128 (by norm_num)) (s 128 slices_S768x512_o0_128_S768x128 (by norm_num)))
    (s 256 slices_S768x512_o0_256_S768x128 (by norm_num))) (s 384 slices_S768x512_o0_384_S768x128 (by norm_num)))

end Body

/-- Four runs of 128 make a run of 512. -/
theorem sum_512 (G : ℕ → EReal) : ∑ x ∈ Finset.range 512, G x
    = ((∑ l : Fin 128, G (0 + l.val) + ∑ l : Fin 128, G (128 + l.val)) + ∑ l : Fin 128, G (256 + l.val)) + ∑ l : Fin 128, G (384 + l.val) := by
  have s := fun o : ℕ => Finset.sum_range (n := 128) (fun x => G (o + x))
  have a := Finset.sum_range_add G 384 128
  have b := Finset.sum_range_add G 256 128
  have d := Finset.sum_range_add G 128 128
  have z : ∑ x ∈ Finset.range 128, G x = ∑ l : Fin 128, G (0 + l.val) := by
    rw [← s 0]; exact Finset.sum_congr rfl fun x _ => congrArg G (Nat.zero_add x).symm
  rw [s 384] at a
  rw [s 256] at b
  rw [s 128, z] at d
  exact a.trans (congrArg (· + _) (b.trans (congrArg (· + _) d)))

theorem hAt_apply (c : Dev nD) (t : Fin cfg0.N) (r : Fin 768) (q : Fin 512) : hAt m c t (ix2 r q) = S m c (ix2 r (tcol t q)) := by
  unfold hAt
  refine (hval_apply _ _ _ _ _ r q).trans ?_
  exact congrArg₂ (· + ·) (blk4 m c t r q)
    (proj_congr (fun k => blk0 m c t r k) (fun k => blk2 m c t k q) (blk1 m c t r 0) (blk3 m c t 0 q))

/-- A column's square, of one row; nothing past the last column. -/
def sq (c : Dev nD) (r : Fin 768) (x : ℕ) : EReal := if h : x < 7168 then S m c (ix2 r ⟨x, h⟩) * S m c (ix2 r ⟨x, h⟩) else 0

theorem sq_block (c : Dev nD) (t : Fin cfg0.N) (r : Fin 768) (q : Fin 512) :
    hAt m c t (ix2 r q) * hAt m c t (ix2 r q) = sq m c r (t.val * 512 + q.val) := by
  unfold sq
  rw [dif_pos (tcol t q).isLt, hAt_apply]

/-- The lanes' total after point `n`. -/
theorem ssq_total (c : Dev nD) (r : Fin 768) : ∀ (n : ℕ) (hn : n < cfg0.N),
    ∑ l : Fin 128, ssqAt m c n hn (ix2 r l) = ∑ x ∈ Finset.range ((n + 1) * 512), sq m c r x
  | 0, hn => by
    have e : ∀ l : Fin 128, ssqAt m c 0 hn (ix2 r l) = (0 : EReal) + _ := fun l =>
      (ssqval_apply _ _ _ _ _ _ (fun x => sq m c r (0 * 512 + x)) r (fun q => sq_block m c ⟨0, hn⟩ r q) l).trans
        (congrArg (· + _) ofBits_zero)
    rw [Finset.sum_congr rfl fun l _ => e l]
    simp only [zero_add, Finset.sum_add_distrib]
    have w := sum_512 (fun x => sq m c r (0 * 512 + x))
    simp only [Nat.zero_mul, Nat.zero_add] at w ⊢
    rw [Nat.one_mul]
    exact w.symm
  | n + 1, hn => by
    have e : ∀ l : Fin 128, ssqAt m c (n + 1) hn (ix2 r l) = ssqAt m c n (Nat.lt_of_succ_lt hn) (ix2 r l) + _ := fun l =>
      ssqval_apply _ _ _ _ _ _ (fun x => sq m c r ((n + 1) * 512 + x)) r (fun q => sq_block m c ⟨n + 1, hn⟩ r q) l
    rw [Finset.sum_congr rfl fun l _ => e l]
    simp only [Finset.sum_add_distrib]
    rw [ssq_total c r n (Nat.lt_of_succ_lt hn), Nat.add_mul (n + 1) 1 512, Nat.one_mul, Finset.sum_range_add]
    exact congrArg (_ + ·) (sum_512 (fun x => sq m c r ((n + 1) * 512 + x))).symm

theorem ssq_last (c : Dev nD) (t : Fin cfg0.N) (h : t.val % 14 = 13) (r : Fin 768) :
    ∑ l : Fin 128, ssqAt m c t.val t.isLt (ix2 r l) = sqAt (S m c) r := by
  have e : t.val = 13 := by have := lt14 t; omega
  rw [ssq_total, e]
  show ∑ x ∈ Finset.range 7168, sq m c r x = _
  rw [Finset.sum_range]
  refine Finset.sum_congr rfl fun p _ => ?_
  unfold sq
  rw [dif_pos p.isLt]

/-- The scratch of all blocks, read at an index. -/
theorem blocks_apply (c : Dev nD) (j : Fin 14) (r : Fin 768) (q : Fin 512) :
    blocks m c (ix3 j r q) = S m c (ix2 r ⟨j.val * 512 + q.val, by have := j.isLt; have := q.isLt; omega⟩) := by
  rw [← hAt_apply m c ⟨j.val, j.isLt⟩ r q]
  unfold blocks slabAt slab k0_pay37
  refine shapeCast_apply _ _ _ (ix2 r q) ?_
  rw [Shape.rowMajor_val_two, Shape.rowMajor_val_three]
  show r.val * 512 + q.val = (0 * 768 + r.val) * 512 + q.val
  omega

/-- What the last point normalises is the whole array's normalised rows. -/
theorem nrm_eq (c : Dev nD) (t : Fin cfg0.N) (h : t.val % 14 = 13) :
    nrmAt (blocks m c) (ssqAt m c t.val t.isLt) (iblk m c 5 t) = Nm m c := by
  funext y
  obtain ⟨r, p, rfl⟩ : ∃ (r : Fin 768) (p : Fin 7168), y = ix2 r p := ⟨y 0, y 1, eq_ix2 y⟩
  refine congrArg₂ (· * ·) (congrArg₂ (· * ·) ?_ (congrArg rms (ssq_last m c t h r))) (blk5 m c t 0 p)
  refine (blocks_apply m c ⟨p.val / 512, by have := p.isLt; omega⟩ r ⟨p.val % 512, Nat.mod_lt _ (by norm_num)⟩).trans ?_
  exact congrArg (S m c) (Shape.idx_ext₂ rfl (by show p.val / 512 * 512 + p.val % 512 = p.val; omega))

theorem codes_last (c : Dev nD) (t : Fin cfg0.N) (h : t.val % 14 = 13) : codesAt m c t = G8 m c := by
  unfold codesAt
  rw [dif_pos ((hcond0_1 t).mpr h)]
  unfold loopAt
  refine (codes_eq _ _ _ _ _ _).trans ?_
  unfold GC
  rw [nrm_eq m c t h]
  rfl

theorem scales_last (c : Dev nD) (t : Fin cfg0.N) (h : t.val % 14 = 13) : scalesAt m c t = G9 m c := by
  unfold scalesAt
  rw [dif_pos ((hcond0_1 t).mpr h)]
  unfold loopAt
  refine (scales_eq' _ _ _ _ _ _).trans ?_
  unfold GS
  rw [nrm_eq m c t h]
  rfl

/-! ## The four arrays after the run -/

theorem flushed6 (c : Dev nD) (t : Fin cfg0.N) :
    (dats m 0 c).flushed 6 t = (cfg0.win 6).cut (grid0.coords t) (hAt m c t) := by
  show (cfg0.win 6).cut (grid0.coords t) ((dats m 0 c).after 6 t) = _
  rw [after0_6]

theorem flushed6_eq (c : Dev nD) (t : Fin cfg0.N) :
    (dats m 0 c).flushed 6 t = (win0_6.blk t).view.read (Elt Ideal) (G6 m c) := by
  rw [flushed6]
  funext y
  obtain ⟨r, q, rfl⟩ : ∃ (r : Fin 768) (q : Fin 512), y = ix2 r q := ⟨y 0, y 1, eq_ix2 y⟩
  show hAt m c t (ix2 r q) = G6 m c ((win0_6.rect t).emb (ix2 r q))
  exact (hAt_apply m c t r q).trans (congrArg (G6 m c) (emb6 t r q)).symm

theorem cover6 (i : S768x7168.Idx) : ∃ t : Fin cfg0.N, (cfg0.win 6).flush t = true ∧ i ∈ ((cfg0.win 6).blk t).view.set := by
  obtain ⟨r, p, rfl⟩ : ∃ (r : Fin 768) (p : Fin 7168), i = ix2 r p := ⟨i 0, i 1, eq_ix2 i⟩
  have h1 : p.val < 7168 := p.isLt
  let t : Fin cfg0.N := ⟨p.val / 512, by show _ < 14; omega⟩
  refine ⟨t, flush0_6 t, ?_⟩
  show (ix2 r p : S768x7168.Idx) ∈ ((View.whole main_v4_0).slice (win0_6.rect t)).set
  rw [View.set_slice_whole]
  have e : (win0_6.rect t).emb (ix2 r (⟨p.val % 512, by omega⟩ : Fin 512)) = (ix2 r p : S768x7168.Idx) :=
    (emb6 t r _).trans (Shape.idx_ext₂ rfl (by show p.val / 512 * 512 + p.val % 512 = p.val; omega))
  rw [← e]
  exact (win0_6.rect t).idx_mem _

theorem final6 (c : Dev nD) : (dats m 0 c).arrAt 6 cfg0.N = G6 m c :=
  (dats m 0 c).arrAt_eq_of_cover 6 (G6 m c) (fun t _ => flushed6_eq m c t) cover6

theorem flushed7 (c : Dev nD) (t : Fin cfg0.N) :
    (dats m 0 c).flushed 7 t = (cfg0.win 7).cut (grid0.coords t) (hbAt m c t) := by
  show (cfg0.win 7).cut (grid0.coords t) ((dats m 0 c).after 7 t) = _
  rw [after0_7]

theorem flushed7_eq (c : Dev nD) (t : Fin cfg0.N) :
    (dats m 0 c).flushed 7 t = (win0_7.blk t).view.read (Elt Ideal) (G7 m c) := by
  rw [flushed7]
  funext y
  obtain ⟨r, q, rfl⟩ : ∃ (r : Fin 768) (q : Fin 512), y = ix2 r q := ⟨y 0, y 1, eq_ix2 y⟩
  show hAt m c t (ix2 r q) = G7 m c ((win0_7.rect t).emb (ix2 r q))
  exact (hAt_apply m c t r q).trans (congrArg (G7 m c) (emb7 t r q)).symm

theorem cover7 (i : S768x7168.Idx) : ∃ t : Fin cfg0.N, (cfg0.win 7).flush t = true ∧ i ∈ ((cfg0.win 7).blk t).view.set := by
  obtain ⟨r, p, rfl⟩ : ∃ (r : Fin 768) (p : Fin 7168), i = ix2 r p := ⟨i 0, i 1, eq_ix2 i⟩
  have h1 : p.val < 7168 := p.isLt
  let t : Fin cfg0.N := ⟨p.val / 512, by show _ < 14; omega⟩
  refine ⟨t, flush0_7 t, ?_⟩
  show (ix2 r p : S768x7168.Idx) ∈ ((View.whole main_v4_1).slice (win0_7.rect t)).set
  rw [View.set_slice_whole]
  have e : (win0_7.rect t).emb (ix2 r (⟨p.val % 512, by omega⟩ : Fin 512)) = (ix2 r p : S768x7168.Idx) :=
    (emb7 t r _).trans (Shape.idx_ext₂ rfl (by show p.val / 512 * 512 + p.val % 512 = p.val; omega))
  rw [← e]
  exact (win0_7.rect t).idx_mem _

theorem final7 (c : Dev nD) : (dats m 0 c).arrAt 7 cfg0.N = G7 m c :=
  (dats m 0 c).arrAt_eq_of_cover 7 (G7 m c) (fun t _ => flushed7_eq m c t) cover7

theorem flushed8 (c : Dev nD) (t : Fin cfg0.N) :
    (dats m 0 c).flushed 8 t = (cfg0.win 8).cut (grid0.coords t) (codesAt m c t) := by
  show (cfg0.win 8).cut (grid0.coords t) ((dats m 0 c).after 8 t) = _
  rw [after0_8]

theorem flushed8_eq (c : Dev nD) (t : Fin cfg0.N) (h : (cfg0.win 8).flush t = true) :
    (dats m 0 c).flushed 8 t = (win0_8.blk t).view.read (Elt Ideal) (G8 m c) := by
  rw [flushed8]
  rw [codes_last m c t ((flush0_8 t).mp h)]
  funext y
  obtain ⟨r, q, rfl⟩ : ∃ (r : Fin 768) (q : Fin 7168), y = ix2 r q := ⟨y 0, y 1, eq_ix2 y⟩
  show G8 m c (ix2 r q) = G8 m c ((win0_8.rect t).emb (ix2 r q))
  exact (congrArg (G8 m c) (emb8 t r q)).symm

theorem cover8 (i : S768x7168.Idx) : ∃ t : Fin cfg0.N, (cfg0.win 8).flush t = true ∧ i ∈ ((cfg0.win 8).blk t).view.set := by
  let t : Fin cfg0.N := ⟨13, by show 13 < 14; omega⟩
  refine ⟨t, (flush0_8 t).2 rfl, ?_⟩
  show i ∈ ((View.whole main_v4_2).slice (win0_8.rect t)).set
  rw [View.set_slice_whole]
  obtain ⟨r, q, rfl⟩ : ∃ (r : Fin 768) (q : Fin 7168), i = ix2 r q := ⟨i 0, i 1, eq_ix2 i⟩
  rw [← emb8 t r q]
  exact (win0_8.rect t).idx_mem _

theorem final8 (c : Dev nD) : (dats m 0 c).arrAt 8 cfg0.N = G8 m c :=
  (dats m 0 c).arrAt_eq_of_cover 8 (G8 m c) (fun t h => flushed8_eq m c t h) cover8

theorem flushed9 (c : Dev nD) (t : Fin cfg0.N) :
    (dats m 0 c).flushed 9 t = (cfg0.win 9).cut (grid0.coords t) (scalesAt m c t) := by
  show (cfg0.win 9).cut (grid0.coords t) ((dats m 0 c).after 9 t) = _
  rw [after0_9]

theorem flushed9_eq (c : Dev nD) (t : Fin cfg0.N) (h : (cfg0.win 9).flush t = true) :
    (dats m 0 c).flushed 9 t = (win0_9.blk t).view.read (Elt Ideal) (G9 m c) := by
  rw [flushed9]
  rw [scales_last m c t ((flush0_9 t).mp h)]
  funext y
  obtain ⟨r, q, rfl⟩ : ∃ (r : Fin 768) (q : Fin 128), y = ix2 r q := ⟨y 0, y 1, eq_ix2 y⟩
  show G9 m c (ix2 r q) = G9 m c ((win0_9.rect t).emb (ix2 r q))
  exact (congrArg (G9 m c) (emb9 t r q)).symm

theorem cover9 (i : S768x128.Idx) : ∃ t : Fin cfg0.N, (cfg0.win 9).flush t = true ∧ i ∈ ((cfg0.win 9).blk t).view.set := by
  let t : Fin cfg0.N := ⟨13, by show 13 < 14; omega⟩
  refine ⟨t, (flush0_9 t).2 rfl, ?_⟩
  show i ∈ ((View.whole main_v4_3).slice (win0_9.rect t)).set
  rw [View.set_slice_whole]
  obtain ⟨r, q, rfl⟩ : ∃ (r : Fin 768) (q : Fin 128), i = ix2 r q := ⟨i 0, i 1, eq_ix2 i⟩
  rw [← emb9 t r q]
  exact (win0_9.rect t).idx_mem _

theorem final9 (c : Dev nD) : (dats m 0 c).arrAt 9 cfg0.N = G9 m c :=
  (dats m 0 c).arrAt_eq_of_cover 9 (G9 m c) (fun t h => flushed9_eq m c t h) cover9

/-- The frame run with the four results' arrays named, the arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v4_0) = (dats m 0 c).arrAt 6 cfg0.N
      ∧ r.2.mem ((c : Thread nD τ).loc main_v4_1) = (dats m 0 c).arrAt 7 cfg0.N
      ∧ r.2.mem ((c : Thread nD τ).loc main_v4_2) = (dats m 0 c).arrAt 8 cfg0.N
      ∧ r.2.mem ((c : Thread nD τ).loc main_v4_3) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6,
      (h c).1 7,
      (h c).1 8,
      (h c).1 9,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Cert.OprojIdeal.RefValue

end
-- ==== Proof.HMid.lean ====
/-
  THE REFERENCE OF THE OUTPUT PROJECTION AND THE SECOND NORM. One region works on the whole arrays: the attention codes times
  the weight, scaled, added to the residual; the sum's rows normalised and weighted; each row's exponent read off its largest
  magnitude, and the row's codes and scale from it. `final6` to `final9` give the four arrays as functions of the arguments.
-/
module

public import proofs.«01_k».proof.Proof.Common
public import proofs.«01_k».proof.Proof.Quant
public import proofs.«01_k».proof.Proof.QuantIdx
public import proofs.«01_k».proof.Proof.RmsNorm
public import proofs.«01_k».proof.Proof.Gen.HMidIdeal.Frame
public import Idealize.ShloMosaic.Lib.Pipeline.Value
public import Idealize.ShloMosaic.Lib.StableHlo.Run

@[expose] public section

noncomputable section

open Idealize.ShloMosaic Idealize.ShloMosaic.TcCoe Idealize.SL.Sem Idealize.ShloMosaic.ValueIdx
open Idealize.ShloMosaic.Pipeline (Dat)

namespace Cert.Layer

variable {M N : ℕ}

/-- A row's factor, as the vector operations spell it. -/
theorem rmsCol_apply (h : FVec Ideal ⟨2, ![M, N]⟩ .f32) (hr : (⟨2, ![M, N]⟩ : Shape).Reduces [1] ⟨1, ![M]⟩)
    (hc : (⟨1, ![M]⟩ : Shape).ShapeCasts ⟨2, ![M, 1]⟩) (r : Fin M) :
    rsqrt (F := Ideal) (φ := .f32) (addf (mulf (shapeCast ⟨2, ![M, 1]⟩
        (multiReduction (F := Ideal) (φ := .f32) .add [1] ⟨1, ![M]⟩ (mulf h h) 0x00000000#32 hr (.inl rfl) rfl) hc)
        (broadcast ⟨2, ![M, 1]⟩ (Scalar.ofBits (F := Ideal) .f32 0x39124925#32)))
        (broadcast ⟨2, ![M, 1]⟩ (Scalar.ofBits (F := Ideal) .f32 0x3727C5AC#32))) (ix2 r 0) = rms (sqAt h r) := by
  have el : ∀ l : Fin N, hr.lift (ix1 r) l = ix2 r l := fun l => Shape.idx_ext₂ rfl rfl
  have e : multiReduction (F := Ideal) (φ := .f32) .add [1] ⟨1, ![M]⟩ (mulf h h) 0x00000000#32 hr (.inl rfl) rfl (ix1 r) = sqAt h r := by
    refine (Ideal.multiReduction_add_single (mulf (F := Ideal) (φ := .f32) h h) 0x00000000#32 hr (.inl rfl) rfl (ix1 r)).trans ?_
    exact Finset.sum_congr rfl fun l _ => congrArg (mulf (F := Ideal) (φ := .f32) h h) (el l)
  exact congrArg rms ((colCast_apply (M := M) _ hc r 0).trans e)

end Cert.Layer

namespace Cert.HMidIdeal.RefValue

open Cert.HMidIdeal Cert.HMidIdeal.Gen
open Cert.Layer

variable (m : (ℓ : Loc nD τ sig) → Buf (Elt Ideal) ℓ)

/-- The residual with the projection added. -/
abbrev S (c : Dev nD) : S768x7168.Idx → EReal :=
  sumAt (m ((c : Thread nD τ).loc main_arg0)) (m ((c : Thread nD τ).loc main_arg1)) (m ((c : Thread nD τ).loc main_arg2))
    (m ((c : Thread nD τ).loc main_arg3)) (m ((c : Thread nD τ).loc main_arg4))

/-- Its normalised rows. -/
abbrev Nm (c : Dev nD) : S768x7168.Idx → EReal := normAt (S m c) (m ((c : Thread nD τ).loc main_arg5))

/-- A row's exponent. -/
abbrev E (c : Dev nD) (r : Fin 768) : EReal := rexp (amaxAt (Nm m c) r) (quot (amaxAt (Nm m c) r))

abbrev G6 (c : Dev nD) : Buf (Elt Ideal) ((c : Thread nD τ).loc main_v3_0) := S m c
abbrev G7 (c : Dev nD) : Buf (Elt Ideal) ((c : Thread nD τ).loc main_v3_1) := S m c
/-- The codes. -/
abbrev G8 (c : Dev nD) : Buf (Elt Ideal) ((c : Thread nD τ).loc main_v3_2) :=
  fun i : S768x7168.Idx => clip (Nm m c i * Ideal.exp2 (0 - E m c (i 0)))
/-- The scales, on every lane. -/
abbrev G9 (c : Dev nD) : Buf (Elt Ideal) ((c : Thread nD τ).loc main_v3_3) :=
  fun i : S768x128.Idx => Ideal.exp2 (E m c (i 0))

section Body

variable (x : Vec Ideal S768x7168 .bf16) (a : Vec Ideal S768x5376 .fp8e4m3) (sa : Vec Ideal S768x1 .f32)
  (w : Vec Ideal S5376x7168 .fp8e4m3) (s g : Vec Ideal S1x7168 .f32)

theorem sum_apply (r : Fin 768) (p : Fin 7168) : k0_pay4 x a sa w s (ix2 r p)
    = x (ix2 r p) + proj a w (fun r => sa (ix2 r 0)) (fun c => s (ix2 0 c)) r p := by
  unfold k0_pay4
  simp only [shapeCast_self]
  exact congrArg (x (ix2 r p) + ·) (proj_apply (φ := .fp8e4m3) a w none sa s broadcasts_S768x1_S768x7168 broadcasts_S1x7168_S768x7168 r p)

theorem norm_apply (r : Fin 768) (p : Fin 7168) : k0_pay6 x a sa w s g (ix2 r p)
    = normAt (k0_pay4 x a sa w s) (fun i => g (ix2 0 (i 0))) (ix2 r p) := by
  unfold k0_pay6
  simp only [shapeCast_self]
  generalize k0_pay4 x a sa w s = h
  refine congrArg₂ (· * ·) (congrArg (h (ix2 r p) * ·) ?_) (bcast_col _ _ r p)
  rw [bcast_row]
  exact rmsCol_apply h reduces_S768x7168_S768 shapeCasts_S768_S768x1 r

theorem max_apply (r : Fin 768) : k0_pay7 x a sa w s g (ix2 r 0) = amaxAt (M := 768) (N := 7168) (k0_pay6 x a sa w s g) r := by
  unfold k0_pay7
  generalize k0_pay6 x a sa w s g = h
  refine (colCast_apply (M := 768) _ shapeCasts_S768_S768x1 r 0).trans ?_
  refine eq_of_forall_ge_iff fun b => ?_
  exact (redMax_le (M := 768) (N := 7168) (absf h) reduces_S768x7168_S768 r b).trans (amaxAt_le _ r b).symm

theorem exp_apply (v : FVec Ideal S768x1 .f32) (r : Fin 768) :
    k0_pay1 v k0_pay8 (Scalar.ofBits .f32 0x42FC0000#32) (ix2 r 0) = rexp (v (ix2 r 0)) (quot (v (ix2 r 0))) := by
  unfold k0_pay1
  exact rowExp_apply (M := 768) v _ _ _ _ _ r

theorem code_apply (v : FVec Ideal S768x1 .f32) (n : FVec Ideal S768x7168 .f32) (r : Fin 768) (q : Fin 7168) :
    k0_pay2 n v k0_pay8 (Scalar.ofBits .f32 0x42FC0000#32) (ix2 r q)
      = clip (n (ix2 r q) * Ideal.exp2 (0 - rexp (v (ix2 r 0)) (quot (v (ix2 r 0))))) := by
  unfold k0_pay2
  refine congrArg clip (congrArg (n (ix2 r q) * ·) ?_)
  rw [bcast_row, ← exp_apply v r]
  exact congrArg Ideal.exp2 (congrArg (· - k0_pay1 v k0_pay8 (Scalar.ofBits .f32 0x42FC0000#32) (ix2 r 0)) ofBits_zero)

theorem scale_apply (v : FVec Ideal S768x1 .f32) (r : Fin 768) (l : Fin 128) :
    k0_pay3 v k0_pay8 (Scalar.ofBits .f32 0x42FC0000#32) (ix2 r l) = Ideal.exp2 (rexp (v (ix2 r 0)) (quot (v (ix2 r 0)))) := by
  unfold k0_pay3
  rw [bcast_row, shapeCast_self, ← exp_apply v r]; rfl

end Body

/-! ## Blocks are whole arrays -/

theorem V_rows (c : Dev nD) (r : Fin 768) (l : Fin 1) :
    V m c main_v0 (ix2 r l) = m ((c : Thread nD τ).loc main_arg1) (ix1 r) := by
  have h : V m c main_v0 = broadcastInDim S768x1 ![0] bcast_S768_S768x1_0 (m ((c : Thread nD τ).loc main_arg1)) := by
    unfold V; after_results
  rw [h, colOf_apply]

theorem V_cols (c : Dev nD) (z : Fin 1) (q : Fin 7168) :
    V m c main_v1 (ix2 z q) = m ((c : Thread nD τ).loc main_arg3) (ix1 q) := by
  have h : V m c main_v1 = shapeCast S1x7168 (m ((c : Thread nD τ).loc main_arg3)) shapeCasts_S7168_S1x7168 := by
    unfold V; after_results; rfl
  rw [h, rowOf_apply]

theorem V_gain (c : Dev nD) (z : Fin 1) (q : Fin 7168) :
    V m c main_v2 (ix2 z q) = m ((c : Thread nD τ).loc main_arg5) (ix1 q) := by
  have h : V m c main_v2 = shapeCast S1x7168 (m ((c : Thread nD τ).loc main_arg5)) shapeCasts_S7168_S1x7168 := by
    unfold V; after_results; rfl
  rw [h, rowOf_apply]

/-- An index of a block is the same index of the array: every block is its whole array. -/
theorem emb_whole (w : Pipeline.Window sig grid0) (t : Fin grid0.N) (h : ∀ a, w.index t a = 0)
    (y : (w.xblock (grid0.coords t)).Idx) (a : Fin w.shape.rank) : ((w.rect t).emb y a : Nat) = y a :=
  w.rect_emb_val_of_index_zero t a (h a) y

theorem blk0 (c : Dev nD) (t : Fin cfg0.N) (r : Fin 768) (k : Fin 5376) :
    iblk m c 0 t (ix2 r k) = m ((c : Thread nD τ).loc main_arg0) (ix2 r k) := by
  show V m c main_arg0 ((win0_0.rect t).emb (ix2 r k)) = _
  rw [V_main_arg0]
  exact congrArg _ (Shape.idx_ext₂ (emb_whole win0_0 t (fun _ => rfl) _ 0) (emb_whole win0_0 t (fun _ => rfl) _ 1))

theorem blk1 (c : Dev nD) (t : Fin cfg0.N) (r : Fin 768) (k : Fin 1) :
    iblk m c 1 t (ix2 r k) = m ((c : Thread nD τ).loc main_arg1) (ix1 r) := by
  show V m c main_v0 ((win0_1.rect t).emb (ix2 r k)) = _
  rw [← V_rows m c r k]
  exact congrArg _ (Shape.idx_ext₂ (emb_whole win0_1 t (fun _ => rfl) _ 0) (emb_whole win0_1 t (fun _ => rfl) _ 1))

theorem blk2 (c : Dev nD) (t : Fin cfg0.N) (r : Fin 5376) (k : Fin 7168) :
    iblk m c 2 t (ix2 r k) = m ((c : Thread nD τ).loc main_arg2) (ix2 r k) := by
  show V m c main_arg2 ((win0_2.rect t).emb (ix2 r k)) = _
  rw [V_main_arg2]
  exact congrArg _ (Shape.idx_ext₂ (emb_whole win0_2 t (fun _ => rfl) _ 0) (emb_whole win0_2 t (fun _ => rfl) _ 1))

theorem blk3 (c : Dev nD) (t : Fin cfg0.N) (r : Fin 1) (k : Fin 7168) :
    iblk m c 3 t (ix2 r k) = m ((c : Thread nD τ).loc main_arg3) (ix1 k) := by
  show V m c main_v1 ((win0_3.rect t).emb (ix2 r k)) = _
  rw [← V_cols m c r k]
  exact congrArg _ (Shape.idx_ext₂ (emb_whole win0_3 t (fun _ => rfl) _ 0) (emb_whole win0_3 t (fun _ => rfl) _ 1))

theorem blk4 (c : Dev nD) (t : Fin cfg0.N) (r : Fin 768) (k : Fin 7168) :
    iblk m c 4 t (ix2 r k) = m ((c : Thread nD τ).loc main_arg4) (ix2 r k) := by
  show V m c main_arg4 ((win0_4.rect t).emb (ix2 r k)) = _
  rw [V_main_arg4]
  exact congrArg _ (Shape.idx_ext₂ (emb_whole win0_4 t (fun _ => rfl) _ 0) (emb_whole win0_4 t (fun _ => rfl) _ 1))

theorem blk5 (c : Dev nD) (t : Fin cfg0.N) (r : Fin 1) (k : Fin 7168) :
    iblk m c 5 t (ix2 r k) = m ((c : Thread nD τ).loc main_arg5) (ix1 k) := by
  show V m c main_v2 ((win0_5.rect t).emb (ix2 r k)) = _
  rw [← V_gain m c r k]
  exact congrArg _ (Shape.idx_ext₂ (emb_whole win0_5 t (fun _ => rfl) _ 0) (emb_whole win0_5 t (fun _ => rfl) _ 1))

theorem emb6 (t : Fin cfg0.N) (r : Fin 768) (q : Fin 7168) : (win0_6.rect t).emb (ix2 r q) = (ix2 r q : S768x7168.Idx) :=
  Shape.idx_ext₂ (emb_whole win0_6 t (fun _ => rfl) _ 0) (emb_whole win0_6 t (fun _ => rfl) _ 1)

theorem emb7 (t : Fin cfg0.N) (r : Fin 768) (q : Fin 7168) : (win0_7.rect t).emb (ix2 r q) = (ix2 r q : S768x7168.Idx) :=
  Shape.idx_ext₂ (emb_whole win0_7 t (fun _ => rfl) _ 0) (emb_whole win0_7 t (fun _ => rfl) _ 1)

theorem emb8 (t : Fin cfg0.N) (r : Fin 768) (q : Fin 7168) : (win0_8.rect t).emb (ix2 r q) = (ix2 r q : S768x7168.Idx) :=
  Shape.idx_ext₂ (emb_whole win0_8 t (fun _ => rfl) _ 0) (emb_whole win0_8 t (fun _ => rfl) _ 1)

theorem emb9 (t : Fin cfg0.N) (r : Fin 768) (q : Fin 128) : (win0_9.rect t).emb (ix2 r q) = (ix2 r q : S768x128.Idx) :=
  Shape.idx_ext₂ (emb_whole win0_9 t (fun _ => rfl) _ 0) (emb_whole win0_9 t (fun _ => rfl) _ 1)

/-- The sum at the one point, from the blocks. -/
theorem sum_eq (c : Dev nD) (t : Fin cfg0.N) :
    k0_pay4 (iblk m c 4 t) (iblk m c 0 t) (iblk m c 1 t) (iblk m c 2 t) (iblk m c 3 t) = S m c := by
  funext y
  obtain ⟨r, q, rfl⟩ : ∃ (r : Fin 768) (q : Fin 7168), y = ix2 r q := ⟨y 0, y 1, eq_ix2 y⟩
  refine (sum_apply _ _ _ _ _ r q).trans ?_
  exact congrArg₂ (· + ·) (blk4 m c t r q)
    (proj_congr (fun k => blk0 m c t r k) (fun k => blk2 m c t k q) (blk1 m c t r 0) (blk3 m c t 0 q))

/-- The normalised rows, from the blocks. -/
theorem norm_eq (c : Dev nD) (t : Fin cfg0.N) :
    k0_pay6 (iblk m c 4 t) (iblk m c 0 t) (iblk m c 1 t) (iblk m c 2 t) (iblk m c 3 t) (iblk m c 5 t) = Nm m c := by
  funext y
  obtain ⟨r, q, rfl⟩ : ∃ (r : Fin 768) (q : Fin 7168), y = ix2 r q := ⟨y 0, y 1, eq_ix2 y⟩
  refine (norm_apply _ _ _ _ _ _ r q).trans ?_
  rw [sum_eq]
  exact congrArg (S m c (ix2 r q) * rms (sqAt (S m c) r) * ·) (blk5 m c t 0 q)

/-- A row's largest magnitude, from the blocks. -/
theorem max_eq (c : Dev nD) (t : Fin cfg0.N) (r : Fin 768) :
    k0_pay7 (iblk m c 4 t) (iblk m c 0 t) (iblk m c 1 t) (iblk m c 2 t) (iblk m c 3 t) (iblk m c 5 t) (ix2 r 0) = amaxAt (Nm m c) r := by
  refine (max_apply _ _ _ _ _ _ r).trans ?_
  rw [norm_eq]

theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t) (iblk m c 5 t)) := by
  show (cfg0.win 6).cut (grid0.coords t) ((dats m 0 c).after 6 t) = _
  rw [after0_6]

theorem flushed6_eq (c : Dev nD) (t : Fin cfg0.N) :
    (dats m 0 c).flushed 6 t = (win0_6.blk t).view.read (Elt Ideal) (G6 m c) := by
  rw [flushed6]
  unfold out0_6
  rw [View.canon_unit_zero offs_zero]
  simp only [View.ld_unit_zero (S := S768x7168) offs_zero, View.ld_unit_zero (S := S768x5376) offs_zero, View.ld_unit_zero (S := S768x1) offs_zero, View.ld_unit_zero (S := S5376x7168) offs_zero, View.ld_unit_zero (S := S1x7168) offs_zero]
  funext y
  obtain ⟨r, q, rfl⟩ : ∃ (r : Fin 768) (q : Fin 7168), y = ix2 r q := ⟨y 0, y 1, eq_ix2 y⟩
  show k0_pay4 (iblk m c 4 t) (iblk m c 0 t) (iblk m c 1 t) (iblk m c 2 t) (iblk m c 3 t) (ix2 r q) = G6 m c ((win0_6.rect t).emb (ix2 r q))
  exact (congrFun (sum_eq m c t) (ix2 r q)).trans (congrArg (G6 m c) (emb6 t r q)).symm

theorem cover6 (i : S768x7168.Idx) : ∃ t : Fin cfg0.N, (cfg0.win 6).flush t = true ∧ i ∈ ((cfg0.win 6).blk t).view.set := by
  let t : Fin cfg0.N := ⟨0, by decide⟩
  refine ⟨t, by decide, ?_⟩
  show i ∈ ((View.whole main_v3_0).slice (win0_6.rect t)).set
  rw [View.set_slice_whole]
  obtain ⟨r, q, rfl⟩ : ∃ (r : Fin 768) (q : Fin 7168), i = ix2 r q := ⟨i 0, i 1, eq_ix2 i⟩
  rw [← emb6 t r q]
  exact (win0_6.rect t).idx_mem _

theorem final6 (c : Dev nD) : (dats m 0 c).arrAt 6 cfg0.N = G6 m c :=
  (dats m 0 c).arrAt_eq_of_cover 6 (G6 m c) (fun t _ => flushed6_eq m c t) cover6

theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t)) := by
  show (cfg0.win 7).cut (grid0.coords t) ((dats m 0 c).after 7 t) = _
  rw [after0_7]

theorem flushed7_eq (c : Dev nD) (t : Fin cfg0.N) :
    (dats m 0 c).flushed 7 t = (win0_7.blk t).view.read (Elt Ideal) (G7 m c) := by
  rw [flushed7]
  unfold out0_7
  rw [View.canon_unit_zero offs_zero]
  simp only [View.ld_unit_zero (S := S768x7168) offs_zero, View.ld_unit_zero (S := S768x5376) offs_zero, View.ld_unit_zero (S := S768x1) offs_zero, View.ld_unit_zero (S := S5376x7168) offs_zero, View.ld_unit_zero (S := S1x7168) offs_zero]
  funext y
  obtain ⟨r, q, rfl⟩ : ∃ (r : Fin 768) (q : Fin 7168), y = ix2 r q := ⟨y 0, y 1, eq_ix2 y⟩
  show k0_pay4 (iblk m c 4 t) (iblk m c 0 t) (iblk m c 1 t) (iblk m c 2 t) (iblk m c 3 t) (ix2 r q) = G7 m c ((win0_7.rect t).emb (ix2 r q))
  exact (congrFun (sum_eq m c t) (ix2 r q)).trans (congrArg (G7 m c) (emb7 t r q)).symm

theorem cover7 (i : S768x7168.Idx) : ∃ t : Fin cfg0.N, (cfg0.win 7).flush t = true ∧ i ∈ ((cfg0.win 7).blk t).view.set := by
  let t : Fin cfg0.N := ⟨0, by decide⟩
  refine ⟨t, by decide, ?_⟩
  show i ∈ ((View.whole main_v3_1).slice (win0_7.rect t)).set
  rw [View.set_slice_whole]
  obtain ⟨r, q, rfl⟩ : ∃ (r : Fin 768) (q : Fin 7168), i = ix2 r q := ⟨i 0, i 1, eq_ix2 i⟩
  rw [← emb7 t r q]
  exact (win0_7.rect t).idx_mem _

theorem final7 (c : Dev nD) : (dats m 0 c).arrAt 7 cfg0.N = G7 m c :=
  (dats m 0 c).arrAt_eq_of_cover 7 (G7 m c) (fun t _ => flushed7_eq m c t) cover7

theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t)) := by
  show (cfg0.win 8).cut (grid0.coords t) ((dats m 0 c).after 8 t) = _
  rw [after0_8]

theorem flushed8_eq (c : Dev nD) (t : Fin cfg0.N) :
    (dats m 0 c).flushed 8 t = (win0_8.blk t).view.read (Elt Ideal) (G8 m c) := by
  rw [flushed8]
  unfold out0_8 k0_pay9 k0_pay10
  rw [View.canon_unit_zero offs_zero]
  simp only [View.ld_unit_zero (S := S768x7168) offs_zero, View.ld_unit_zero (S := S768x5376) offs_zero, View.ld_unit_zero (S := S768x1) offs_zero, View.ld_unit_zero (S := S5376x7168) offs_zero, View.ld_unit_zero (S := S1x7168) offs_zero]
  funext y
  obtain ⟨r, q, rfl⟩ : ∃ (r : Fin 768) (q : Fin 7168), y = ix2 r q := ⟨y 0, y 1, eq_ix2 y⟩
  show k0_pay2 (k0_pay6 (iblk m c 4 t) (iblk m c 0 t) (iblk m c 1 t) (iblk m c 2 t) (iblk m c 3 t) (iblk m c 5 t)) (k0_pay7 (iblk m c 4 t) (iblk m c 0 t) (iblk m c 1 t) (iblk m c 2 t) (iblk m c 3 t) (iblk m c 5 t)) (k0_pay8 (F := Ideal)) (Scalar.ofBits (F := Ideal) .f32 0x42FC0000#32) (ix2 r q) = G8 m c ((win0_8.rect t).emb (ix2 r q))
  refine (code_apply _ _ r q).trans (Eq.trans ?_ (congrArg (G8 m c) (emb8 t r q)).symm)
  rw [max_eq, norm_eq]

theorem cover8 (i : S768x7168.Idx) : ∃ t : Fin cfg0.N, (cfg0.win 8).flush t = true ∧ i ∈ ((cfg0.win 8).blk t).view.set := by
  let t : Fin cfg0.N := ⟨0, by decide⟩
  refine ⟨t, by decide, ?_⟩
  show i ∈ ((View.whole main_v3_2).slice (win0_8.rect t)).set
  rw [View.set_slice_whole]
  obtain ⟨r, q, rfl⟩ : ∃ (r : Fin 768) (q : Fin 7168), i = ix2 r q := ⟨i 0, i 1, eq_ix2 i⟩
  rw [← emb8 t r q]
  exact (win0_8.rect t).idx_mem _

theorem final8 (c : Dev nD) : (dats m 0 c).arrAt 8 cfg0.N = G8 m c :=
  (dats m 0 c).arrAt_eq_of_cover 8 (G8 m c) (fun t _ => flushed8_eq m c t) cover8

theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t)) := by
  show (cfg0.win 9).cut (grid0.coords t) ((dats m 0 c).after 9 t) = _
  rw [after0_9]

/-- The stored scales, from the blocks. -/
theorem out9_eq (x0 : Vec Ideal S768x5376 .fp8e4m3) (x1 : Vec Ideal S768x1 .f32) (x2 : Vec Ideal S5376x7168 .fp8e4m3)
    (x3 : Vec Ideal S1x7168 .f32) (x4 : Vec Ideal S768x7168 .bf16) (x5 : Vec Ideal S1x7168 .f32) :
    out0_9 x0 x1 x2 x3 x4 x5 = k0_pay3 (F := Ideal) (k0_pay7 x4 x0 x1 x2 x3 x5) k0_pay8 (Scalar.ofBits .f32 0x42FC0000#32) := by
  unfold out0_9 k0_pay9 k0_pay10
  rw [View.canon_unit_zero offs_zero]
  simp only [View.ld_unit_zero (S := S768x7168) offs_zero, View.ld_unit_zero (S := S768x5376) offs_zero, View.ld_unit_zero (S := S768x1) offs_zero, View.ld_unit_zero (S := S5376x7168) offs_zero, View.ld_unit_zero (S := S1x7168) offs_zero]

theorem scales_whole (c : Dev nD) (t : Fin cfg0.N) : out0_9 (iblk m c 0 t) (iblk m c 1 t) (iblk m c 2 t) (iblk m c 3 t) (iblk m c 4 t) (iblk m c 5 t) = G9 m c := by
  rw [out9_eq]
  funext y
  obtain ⟨r, q, rfl⟩ : ∃ (r : Fin 768) (q : Fin 128), y = ix2 r q := ⟨y 0, y 1, eq_ix2 y⟩
  refine (scale_apply _ r q).trans ?_
  rw [max_eq]

/-- Window 9's one block is its whole array. -/
theorem cut9 (t : Fin cfg0.N) (G : S768x128.Idx → EReal) :
    (cfg0.win 9).cut (grid0.coords t) G = (win0_9.blk t).view.read (Elt Ideal) G := by
  funext y
  obtain ⟨r, q, rfl⟩ : ∃ (r : Fin 768) (q : Fin 128), y = ix2 r q := ⟨y 0, y 1, eq_ix2 y⟩
  exact (congrArg G (emb9 t r q)).symm

theorem flushed9_eq (c : Dev nD) (t : Fin cfg0.N) :
    (dats m 0 c).flushed 9 t = (win0_9.blk t).view.read (Elt Ideal) (G9 m c) := by
  rw [flushed9, scales_whole]
  exact cut9 t _

theorem cover9 (i : S768x128.Idx) : ∃ t : Fin cfg0.N, (cfg0.win 9).flush t = true ∧ i ∈ ((cfg0.win 9).blk t).view.set := by
  let t : Fin cfg0.N := ⟨0, by decide⟩
  refine ⟨t, by decide, ?_⟩
  show i ∈ ((View.whole main_v3_3).slice (win0_9.rect t)).set
  rw [View.set_slice_whole]
  obtain ⟨r, q, rfl⟩ : ∃ (r : Fin 768) (q : Fin 128), i = ix2 r q := ⟨i 0, i 1, eq_ix2 i⟩
  rw [← emb9 t r q]
  exact (win0_9.rect t).idx_mem _

theorem final9 (c : Dev nD) : (dats m 0 c).arrAt 9 cfg0.N = G9 m c :=
  (dats m 0 c).arrAt_eq_of_cover 9 (G9 m c) (fun t _ => flushed9_eq m c t) cover9

/-- The frame run with the four results' arrays named, the arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v3_0) = (dats m 0 c).arrAt 6 cfg0.N
      ∧ r.2.mem ((c : Thread nD τ).loc main_v3_1) = (dats m 0 c).arrAt 7 cfg0.N
      ∧ r.2.mem ((c : Thread nD τ).loc main_v3_2) = (dats m 0 c).arrAt 8 cfg0.N
      ∧ r.2.mem ((c : Thread nD τ).loc main_v3_3) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6,
      (h c).1 7,
      (h c).1 8,
      (h c).1 9,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Cert.HMidIdeal.RefValue

end
-- ==== Proof.GateUp.lean ====
/-
  THE GATE/UP CALL. The kernel walks the 18432 columns in thirty-six blocks of 512. At each block it multiplies the whole
  matrix of input codes by the block's columns of the two weights, scales both products, and stores silu(gate)·up in f32
  and in bf16. A third output of 128 lanes carries the largest magnitude met so far: cleared at the first block, raised at
  every block, and reduced over the lanes at the last. `final6`, `final7` and `final8` say that the three arrays after the
  run are `actAt`, the same, and each row's largest magnitude on every lane.
-/
module

public import proofs.«01_k».proof.Proof.SiluMax
public import proofs.«01_k».proof.Proof.Gen.GateUpIdeal.Value
public import Idealize.ShloMosaic.Lib.StableHlo.Run

@[expose] public section

noncomputable section

open Idealize.ShloMosaic Idealize.ShloMosaic.TcCoe Idealize.SL.Sem Idealize.ShloMosaic.ValueIdx
open Idealize.ShloMosaic.Pipeline (Dat)

namespace Cert.GateUpIdeal.RefValue

open Cert.GateUpIdeal Cert.GateUpIdeal.Gen Cert.Layer

/-! ## What the body leaves, at the first, a middle and the last block -/

/-- One block of the SiLU product, from the input codes, their row scales on every lane, and the block's columns of the two
    weights and of their scales. -/
abbrev act (x0 : Vec Ideal S768x7168 .fp8e4m3) (x1 : Vec Ideal S768x128 .f32) (x2 : Vec Ideal S7168x512 .fp8e4m3)
    (x3 : Vec Ideal S1x512 .f32) (x4 : Vec Ideal S7168x512 .fp8e4m3) (x5 : Vec Ideal S1x512 .f32) : FVec Ideal S768x512 .f32 :=
  k0_pay4 (View.ld x1 (Rect.unit ![0, 0] ![768, 1] inb_S768x128_S768x1_0_0)) x0 x2 x3 x0 x4 x5

/-- The magnitudes of a block folded onto 128 lanes by maximum. -/
def lanes (v : FVec Ideal S768x512 .f32) : FVec Ideal S768x128 .f32 :=
  maximumf (maximumf (maximumf (extractStridedSlice S768x128 ![0, 0] (absf v) slices_S768x512_o0_0_S768x128)
    (extractStridedSlice S768x128 ![0, 128] (absf v) slices_S768x512_o0_128_S768x128))
    (extractStridedSlice S768x128 ![0, 256] (absf v) slices_S768x512_o0_256_S768x128))
    (extractStridedSlice S768x128 ![0, 384] (absf v) slices_S768x512_o0_384_S768x128)

/-- The last step: each row's maximum over the lanes, on every lane. -/
abbrev rowMax (v : FVec Ideal S768x128 .f32) : FVec Ideal S768x128 .f32 := k0_pay3 v

section Body

variable (c : Dev nD) (i : grid0.Coords)
  (a1 : Memref sig .tc .vmem S768x7168 .fp8e4m3) (h1 : a1.IsWhole)
  (a2 : Memref sig .tc .vmem S768x128 .f32) (h2 : a2.IsWhole)
  (a3 : Memref sig .tc .vmem S7168x512 .fp8e4m3) (h3 : a3.IsWhole)
  (a4 : Memref sig .tc .vmem S1x512 .f32) (h4 : a4.IsWhole)
  (a5 : Memref sig .tc .vmem S7168x512 .fp8e4m3) (h5 : a5.IsWhole)
  (a6 : Memref sig .tc .vmem S1x512 .f32) (h6 : a6.IsWhole)
  (a7 : Memref sig .tc .vmem S768x512 .f32) (h7 : a7.IsWhole)
  (a8 : Memref sig .tc .vmem S768x512 .bf16) (h8 : a8.IsWhole)
  (a9 : Memref sig .tc .vmem S768x128 .f32) (h9 : a9.IsWhole)
  (x0 : Vec Ideal S768x7168 .fp8e4m3) (x1 : Vec Ideal S768x128 .f32) (x2 : Vec Ideal S7168x512 .fp8e4m3) (x3 : Vec Ideal S1x512 .f32) (x4 : Vec Ideal S7168x512 .fp8e4m3) (x5 : Vec Ideal S1x512 .f32) (xo : Vec Ideal S768x128 .f32)

theorem outA_6 (hc0 : cond0_0 i) (hc1 : ¬cond0_1 i) :
    out0_A_6 c i a1 h1 a2 h2 a3 h3 a4 h4 a5 h5 a6 h6 a7 h7 a8 h8 a9 h9 hc0 hc1 x0 x1 x2 x3 x4 x5 = act x0 x1 x2 x3 x4 x5 := by
  unfold out0_A_6
  rw [View.read_writes_eq_canon _ _ _ (cover0_A_6 c i a1 h1 a2 h2 a3 h3 a4 h4 a5 h5 a6 h6 a7 h7 a8 h8 a9 h9 hc0 hc1 x0 x1 x2 x3 x4 x5)]
  unfold kernelRun0_A
  dsimp only
  sl_unfold_words
  rw [View.canon_unit_zero offs_zero]
  simp only [View.readAt_eq_ld, h1.read_unread, h2.read_unread, h3.read_unread, h4.read_unread, h5.read_unread, h6.read_unread, h9.read_unread, View.ld_unit_zero (S := S768x7168) offs_zero, View.ld_unit_zero (S := S7168x512) offs_zero, View.ld_unit_zero (S := S1x512) offs_zero, View.ld_unit_zero (S := S768x128) offs_zero]

theorem outA_7 (hc0 : cond0_0 i) (hc1 : ¬cond0_1 i) :
    out0_A_7 c i a1 h1 a2 h2 a3 h3 a4 h4 a5 h5 a6 h6 a7 h7 a8 h8 a9 h9 hc0 hc1 x0 x1 x2 x3 x4 x5 = truncf .bf16 (act x0 x1 x2 x3 x4 x5) bitsLt_bf16_f32 := by
  unfold out0_A_7
  rw [View.read_writes_eq_canon _ _ _ (cover0_A_7 c i a1 h1 a2 h2 a3 h3 a4 h4 a5 h5 a6 h6 a7 h7 a8 h8 a9 h9 hc0 hc1 x0 x1 x2 x3 x4 x5)]
  unfold kernelRun0_A
  dsimp only
  sl_unfold_words
  rw [View.canon_unit_zero offs_zero]
  simp only [View.readAt_eq_ld, h1.read_unread, h2.read_unread, h3.read_unread, h4.read_unread, h5.read_unread, h6.read_unread, h9.read_unread, View.ld_unit_zero (S := S768x7168) offs_zero, View.ld_unit_zero (S := S7168x512) offs_zero, View.ld_unit_zero (S := S1x512) offs_zero, View.ld_unit_zero (S := S768x128) offs_zero]
  rfl

theorem outA_8 (hc0 : cond0_0 i) (hc1 : ¬cond0_1 i) :
    out0_A_8 c i a1 h1 a2 h2 a3 h3 a4 h4 a5 h5 a6 h6 a7 h7 a8 h8 a9 h9 hc0 hc1 x0 x1 x2 x3 x4 x5 = maximumf k0_pay1 (lanes (act x0 x1 x2 x3 x4 x5)) := by
  unfold out0_A_8
  rw [View.read_writes_eq_canon _ _ _ (cover0_A_8 c i a1 h1 a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S768x128) offs_zero, View.readCov_unit_zero (S := S768x128) _ offs_zero]
  simp only [View.readAt_eq_ld, h1.read_unread, h2.read_unread, h3.read_unread, h4.read_unread, h5.read_unread, h6.read_unread, h9.read_unread, View.ld_unit_zero (S := S768x7168) offs_zero, View.ld_unit_zero (S := S7168x512) offs_zero, View.ld_unit_zero (S := S1x512) offs_zero, View.ld_unit_zero (S := S768x128) offs_zero]
  unfold k0_pay2; rw [shapeCast_self]
  rfl

theorem outB_6 (hc0 : ¬cond0_0 i) (hc1 : ¬cond0_1 i) :
    out0_B_6 c i a1 h1 a2 h2 a3 h3 a4 h4 a5 h5 a6 h6 a7 h7 a8 h8 a9 h9 hc0 hc1 x0 x1 x2 x3 x4 x5 xo = act x0 x1 x2 x3 x4 x5 := by
  unfold out0_B_6
  rw [View.read_writes_eq_canon _ _ _ (cover0_B_6 c i a1 h1 a2 h2 a3 h3 a4 h4 a5 h5 a6 h6 a7 h7 a8 h8 a9 h9 hc0 hc1 x0 x1 x2 x3 x4 x5 xo)]
  unfold kernelRun0_B
  dsimp only
  sl_unfold_words
  rw [View.canon_unit_zero offs_zero]
  simp only [View.readAt_eq_ld, h1.read_unread, h2.read_unread, h3.read_unread, h4.read_unread, h5.read_unread, h6.read_unread, h9.read_unread, View.ld_unit_zero (S := S768x7168) offs_zero, View.ld_unit_zero (S := S7168x512) offs_zero, View.ld_unit_zero (S := S1x512) offs_zero, View.ld_unit_zero (S := S768x128) offs_zero]

theorem outB_7 (hc0 : ¬cond0_0 i) (hc1 : ¬cond0_1 i) :
    out0_B_7 c i a1 h1 a2 h2 a3 h3 a4 h4 a5 h5 a6 h6 a7 h7 a8 h8 a9 h9 hc0 hc1 x0 x1 x2 x3 x4 x5 xo = truncf .bf16 (act x0 x1 x2 x3 x4 x5) bitsLt_bf16_f32 := by
  unfold out0_B_7
  rw [View.read_writes_eq_canon _ _ _ (cover0_B_7 c i a1 h1 a2 h2 a3 h3 a4 h4 a5 h5 a6 h6 a7 h7 a8 h8 a9 h9 hc0 hc1 x0 x1 x2 x3 x4 x5 xo)]
  unfold kernelRun0_B
  dsimp only
  sl_unfold_words
  rw [View.canon_unit_zero offs_zero]
  simp only [View.readAt_eq_ld, h1.read_unread, h2.read_unread, h3.read_unread, h4.read_unread, h5.read_unread, h6.read_unread, h9.read_unread, View.ld_unit_zero (S := S768x7168) offs_zero, View.ld_unit_zero (S := S7168x512) offs_zero, View.ld_unit_zero (S := S1x512) offs_zero, View.ld_unit_zero (S := S768x128) offs_zero]
  rfl

theorem outB_8 (hc0 : ¬cond0_0 i) (hc1 : ¬cond0_1 i) :
    out0_B_8 c i a1 h1 a2 h2 a3 h3 a4 h4 a5 h5 a6 h6 a7 h7 a8 h8 a9 h9 hc0 hc1 x0 x1 x2 x3 x4 x5 xo = maximumf xo (lanes (act x0 x1 x2 x3 x4 x5)) := by
  unfold out0_B_8
  rw [View.read_writes_eq_canon _ _ _ (cover0_B_8 c i a1 h1 a2 h2 a3 h3 a4 h4 a5 h5 a6 h6 a7 h7 a8 h8 a9 h9 hc0 hc1 x0 x1 x2 x3 x4 x5 xo)]
  unfold kernelRun0_B
  dsimp only
  sl_unfold_words
  rw [View.canon_unit_zero offs_zero]
  simp only [View.readAt_eq_ld, h1.read_unread, h2.read_unread, h3.read_unread, h4.read_unread, h5.read_unread, h6.read_unread, h9.read_unread, View.ld_unit_zero (S := S768x7168) offs_zero, View.ld_unit_zero (S := S7168x512) offs_zero, View.ld_unit_zero (S := S1x512) offs_zero, View.ld_unit_zero (S := S768x128) offs_zero]
  unfold k0_pay2; rw [shapeCast_self]
  rfl

theorem outC_6 (hc0 : ¬cond0_0 i) (hc1 : cond0_1 i) :
    out0_C_6 c i a1 h1 a2 h2 a3 h3 a4 h4 a5 h5 a6 h6 a7 h7 a8 h8 a9 h9 hc0 hc1 x0 x1 x2 x3 x4 x5 xo = act x0 x1 x2 x3 x4 x5 := by
  unfold out0_C_6
  rw [View.read_writes_eq_canon _ _ _ (cover0_C_6 c i a1 h1 a2 h2 a3 h3 a4 h4 a5 h5 a6 h6 a7 h7 a8 h8 a9 h9 hc0 hc1 x0 x1 x2 x3 x4 x5 xo)]
  unfold kernelRun0_C
  dsimp only
  sl_unfold_words
  rw [View.canon_unit_zero offs_zero]
  simp only [View.readAt_eq_ld, h1.read_unread, h2.read_unread, h3.read_unread, h4.read_unread, h5.read_unread, h6.read_unread, h9.read_unread, View.ld_unit_zero (S := S768x7168) offs_zero, View.ld_unit_zero (S := S7168x512) offs_zero, View.ld_unit_zero (S := S1x512) offs_zero, View.ld_unit_zero (S := S768x128) offs_zero]

theorem outC_7 (hc0 : ¬cond0_0 i) (hc1 : cond0_1 i) :
    out0_C_7 c i a1 h1 a2 h2 a3 h3 a4 h4 a5 h5 a6 h6 a7 h7 a8 h8 a9 h9 hc0 hc1 x0 x1 x2 x3 x4 x5 xo = truncf .bf16 (act x0 x1 x2 x3 x4 x5) bitsLt_bf16_f32 := by
  unfold out0_C_7
  rw [View.read_writes_eq_canon _ _ _ (cover0_C_7 c i a1 h1 a2 h2 a3 h3 a4 h4 a5 h5 a6 h6 a7 h7 a8 h8 a9 h9 hc0 hc1 x0 x1 x2 x3 x4 x5 xo)]
  unfold kernelRun0_C
  dsimp only
  sl_unfold_words
  rw [View.canon_unit_zero offs_zero]
  simp only [View.readAt_eq_ld, h1.read_unread, h2.read_unread, h3.read_unread, h4.read_unread, h5.read_unread, h6.read_unread, h9.read_unread, View.ld_unit_zero (S := S768x7168) offs_zero, View.ld_unit_zero (S := S7168x512) offs_zero, View.ld_unit_zero (S := S1x512) offs_zero, View.ld_unit_zero (S := S768x128) offs_zero]
  rfl

theorem outC_8 (hc0 : ¬cond0_0 i) (hc1 : cond0_1 i) :
    out0_C_8 c i a1 h1 a2 h2 a3 h3 a4 h4 a5 h5 a6 h6 a7 h7 a8 h8 a9 h9 hc0 hc1 x0 x1 x2 x3 x4 x5 xo = rowMax (maximumf xo (lanes (act x0 x1 x2 x3 x4 x5))) := by
  unfold out0_C_8
  rw [View.read_writes_eq_canon _ _ _ (cover0_C_8 c i a1 h1 a2 h2 a3 h3 a4 h4 a5 h5 a6 h6 a7 h7 a8 h8 a9 h9 hc0 hc1 x0 x1 x2 x3 x4 x5 xo)]
  unfold kernelRun0_C
  dsimp only
  sl_unfold_words
  rw [View.canon_cons_unit_zero (S := S768x128) offs_zero, View.readCov_unit_zero (S := S768x128) _ offs_zero]
  simp only [View.readAt_eq_ld, h1.read_unread, h2.read_unread, h3.read_unread, h4.read_unread, h5.read_unread, h6.read_unread, h9.read_unread, View.ld_unit_zero (S := S768x7168) offs_zero, View.ld_unit_zero (S := S7168x512) offs_zero, View.ld_unit_zero (S := S1x512) offs_zero, View.ld_unit_zero (S := S768x128) offs_zero]
  unfold k0_pay2; rw [shapeCast_self]
  rfl

end Body

variable (m : (ℓ : Loc nD τ sig) → Buf (Elt Ideal) ℓ)

/-- The block of the SiLU product point `t` makes. -/
abbrev bact (c : Dev nD) (t : Fin cfg0.N) : FVec Ideal S768x512 .f32 :=
  act (iblk m c 0 t) (iblk m c 1 t) (iblk m c 2 t) (iblk m c 3 t) (iblk m c 4 t) (iblk m c 5 t)

theorem lt36 (t : Fin cfg0.N) : t.val < 36 := t.isLt

theorem outs6 (c : Dev nD) (t : Fin cfg0.N) : (outsAt0 m c t.val t.isLt).1 = bact m c t := by
  by_cases h0 : t.val % 36 = 0
  · rw [outsAt0_A m c t h0 (by omega)]; dsimp only; rw [outA_6]
  · by_cases h1 : t.val % 36 = 35
    · rw [outsAt0_C m c t h0 h1]; dsimp only; rw [outC_6]
    · rw [outsAt0_B m c t h0 h1]; dsimp only; rw [outB_6]

theorem outs7 (c : Dev nD) (t : Fin cfg0.N) : (outsAt0 m c t.val t.isLt).2.1 = truncf .bf16 (bact m c t) bitsLt_bf16_f32 := by
  by_cases h0 : t.val % 36 = 0
  · rw [outsAt0_A m c t h0 (by omega)]; dsimp only; rw [outA_7]
  · by_cases h1 : t.val % 36 = 35
    · rw [outsAt0_C m c t h0 h1]; dsimp only; rw [outC_7]
    · rw [outsAt0_B m c t h0 h1]; dsimp only; rw [outB_7]

/-! ## Blocks as parts of the whole arrays -/

/-- Where each window's block sits at a point: the input codes and row scales at the start, the columns of everything else at
    the point's number, the lanes of the maximum at the start. -/
theorem idx_facts : ∀ t : Fin cfg0.N, (win0_0.index t 0 = 0 ∧ win0_0.index t 1 = 0) ∧ (win0_1.index t 0 = 0 ∧ win0_1.index t 1 = 0)
    ∧ (win0_2.index t 0 = 0 ∧ win0_2.index t 1 = t.val) ∧ (win0_3.index t 0 = 0 ∧ win0_3.index t 1 = t.val)
    ∧ (win0_4.index t 0 = 0 ∧ win0_4.index t 1 = t.val) ∧ (win0_5.index t 0 = 0 ∧ win0_5.index t 1 = t.val)
    ∧ (win0_6.index t 0 = 0 ∧ win0_6.index t 1 = t.val) ∧ (win0_7.index t 0 = 0 ∧ win0_7.index t 1 = t.val)
    ∧ (win0_8.index t 0 = 0 ∧ win0_8.index t 1 = 0) :=
  (by decide +kernel : ∀ t : Fin grid0.N, (win0_0.index t 0 = 0 ∧ win0_0.index t 1 = 0) ∧ (win0_1.index t 0 = 0 ∧ win0_1.index t 1 = 0)
    ∧ (win0_2.index t 0 = 0 ∧ win0_2.index t 1 = t.val) ∧ (win0_3.index t 0 = 0 ∧ win0_3.index t 1 = t.val)
    ∧ (win0_4.index t 0 = 0 ∧ win0_4.index t 1 = t.val) ∧ (win0_5.index t 0 = 0 ∧ win0_5.index t 1 = t.val)
    ∧ (win0_6.index t 0 = 0 ∧ win0_6.index t 1 = t.val) ∧ (win0_7.index t 0 = 0 ∧ win0_7.index t 1 = t.val)
    ∧ (win0_8.index t 0 = 0 ∧ win0_8.index t 1 = 0))

/-- Column `q` of block `t` as a column of the whole array. -/
abbrev col (t : Fin cfg0.N) (q : Fin 512) : Fin 18432 := ⟨t.val * 512 + q.val, by have := lt36 t; have := q.isLt; omega⟩

/-- The row scales as the region finds them: each row's scale on every lane. -/
theorem V_rows (c : Dev nD) (r : Fin 768) (l : Fin 128) :
    V m c main_v1 (ix2 r l) = m ((c : Thread nD τ).loc main_arg1) (ix1 r) := by
  have h : V m c main_v1 = broadcastInDim S768x128 ![0, 1] bcast_S768x1_S768x128_0_1
      (broadcastInDim S768x1 ![0] bcast_S768_S768x1_0 (m ((c : Thread nD τ).loc main_arg1))) := by
    unfold V; after_results
  rw [h, lanesOf_apply, colOf_apply]

/-- The gate's column scales as the region finds them: one row. -/
theorem V_cols (c : Dev nD) (z : Fin 1) (q : Fin 18432) :
    V m c main_v2 (ix2 z q) = m ((c : Thread nD τ).loc main_arg3) (ix1 q) := by
  have h : V m c main_v2 = shapeCast S1x18432 (m ((c : Thread nD τ).loc main_arg3)) shapeCasts_S18432_S1x18432 := by
    unfold V; after_results; rfl
  rw [h, rowOf_apply]

/-- The up weight's column scales as the region finds them: one row. -/
theorem V_cols' (c : Dev nD) (z : Fin 1) (q : Fin 18432) :
    V m c main_v3 (ix2 z q) = m ((c : Thread nD τ).loc main_arg5) (ix1 q) := by
  have h : V m c main_v3 = shapeCast S1x18432 (m ((c : Thread nD τ).loc main_arg5)) shapeCasts_S18432_S1x18432 := by
    unfold V; after_results; rfl
  rw [h, rowOf_apply]

theorem blk0 (c : Dev nD) (t : Fin cfg0.N) (r : Fin 768) (k : Fin 7168) :
    iblk m c 0 t (ix2 r k) = m ((c : Thread nD τ).loc main_arg0) (ix2 r k) := by
  show V m c main_arg0 ((win0_0.rect t).emb (ix2 r k)) = _
  rw [V_main_arg0]
  refine congrArg _ (Shape.idx_ext₂ ?_ ?_)
  · exact win0_0.rect_emb_val_of_index_zero t 0 (idx_facts t).1.1 _
  · exact win0_0.rect_emb_val_of_index_zero t 1 (idx_facts t).1.2 _

theorem blk1 (c : Dev nD) (t : Fin cfg0.N) (r : Fin 768) (l : Fin 128) :
    iblk m c 1 t (ix2 r l) = m ((c : Thread nD τ).loc main_arg1) (ix1 r) := by
  show V m c main_v1 ((win0_1.rect t).emb (ix2 r l)) = _
  rw [← V_rows m c r l]
  refine congrArg _ (Shape.idx_ext₂ ?_ ?_)
  · exact win0_1.rect_emb_val_of_index_zero t 0 (idx_facts t).2.1.1 _
  · exact win0_1.rect_emb_val_of_index_zero t 1 (idx_facts t).2.1.2 _

theorem blk2 (c : Dev nD) (t : Fin cfg0.N) (k : Fin 7168) (q : Fin 512) :
    iblk m c 2 t (ix2 k q) = m ((c : Thread nD τ).loc main_arg2) (ix2 k (col t q)) := by
  show V m c main_arg2 ((win0_2.rect t).emb (ix2 k q)) = _
  rw [V_main_arg2]
  refine congrArg _ (Shape.idx_ext₂ ?_ ?_)
  · exact win0_2.rect_emb_val_of_index_zero t 0 (idx_facts t).2.2.1.1 _
  · refine (win0_2.rect_emb_val t _ 1).trans ?_
    rw [(idx_facts t).2.2.1.2]; rfl

theorem blk3 (c : Dev nD) (t : Fin cfg0.N) (z : Fin 1) (q : Fin 512) :
    iblk m c 3 t (ix2 z q) = m ((c : Thread nD τ).loc main_arg3) (ix1 (col t q)) := by
  show V m c main_v2 ((win0_3.rect t).emb (ix2 z q)) = _
  rw [← V_cols m c z (col t q)]
  refine congrArg _ (Shape.idx_ext₂ ?_ ?_)
  · exact win0_3.rect_emb_val_of_index_zero t 0 (idx_facts t).2.2.2.1.1 _
  · refine (win0_3.rect_emb_val t _ 1).trans ?_
    rw [(idx_facts t).2.2.2.1.2]; rfl

theorem blk4 (c : Dev nD) (t : Fin cfg0.N) (k : Fin 7168) (q : Fin 512) :
    iblk m c 4 t (ix2 k q) = m ((c : Thread nD τ).loc main_arg4) (ix2 k (col t q)) := by
  show V m c main_arg4 ((win0_4.rect t).emb (ix2 k q)) = _
  rw [V_main_arg4]
  refine congrArg _ (Shape.idx_ext₂ ?_ ?_)
  · exact win0_4.rect_emb_val_of_index_zero t 0 (idx_facts t).2.2.2.2.1.1 _
  · refine (win0_4.rect_emb_val t _ 1).trans ?_
    rw [(idx_facts t).2.2.2.2.1.2]; rfl

theorem blk5 (c : Dev nD) (t : Fin cfg0.N) (z : Fin 1) (q : Fin 512) :
    iblk m c 5 t (ix2 z q) = m ((c : Thread nD τ).loc main_arg5) (ix1 (col t q)) := by
  show V m c main_v3 ((win0_5.rect t).emb (ix2 z q)) = _
  rw [← V_cols' m c z (col t q)]
  refine congrArg _ (Shape.idx_ext₂ ?_ ?_)
  · exact win0_5.rect_emb_val_of_index_zero t 0 (idx_facts t).2.2.2.2.2.1.1 _
  · refine (win0_5.rect_emb_val t _ 1).trans ?_
    rw [(idx_facts t).2.2.2.2.2.1.2]; rfl

theorem emb6 (t : Fin cfg0.N) (r : Fin 768) (q : Fin 512) :
    (win0_6.rect t).emb (ix2 r q) = (ix2 r (col t q) : S768x18432.Idx) := by
  refine Shape.idx_ext₂ ?_ ?_
  · exact win0_6.rect_emb_val_of_index_zero t 0 (idx_facts t).2.2.2.2.2.2.1.1 _
  · refine (win0_6.rect_emb_val t _ 1).trans ?_
    rw [(idx_facts t).2.2.2.2.2.2.1.2]; rfl

theorem emb7 (t : Fin cfg0.N) (r : Fin 768) (q : Fin 512) :
    (win0_7.rect t).emb (ix2 r q) = (ix2 r (col t q) : S768x18432.Idx) := by
  refine Shape.idx_ext₂ ?_ ?_
  · exact win0_7.rect_emb_val_of_index_zero t 0 (idx_facts t).2.2.2.2.2.2.2.1.1 _
  · refine (win0_7.rect_emb_val t _ 1).trans ?_
    rw [(idx_facts t).2.2.2.2.2.2.2.1.2]; rfl

theorem emb8 (t : Fin cfg0.N) (r : Fin 768) (l : Fin 128) :
    (win0_8.rect t).emb (ix2 r l) = (ix2 r l : S768x128.Idx) := by
  refine Shape.idx_ext₂ ?_ ?_
  · exact win0_8.rect_emb_val_of_index_zero t 0 (idx_facts t).2.2.2.2.2.2.2.2.1 _
  · exact win0_8.rect_emb_val_of_index_zero t 1 (idx_facts t).2.2.2.2.2.2.2.2.2 _

/-! ## The SiLU product -/

/-- The SiLU product of the arguments. -/
abbrev A (c : Dev nD) : S768x18432.Idx → EReal :=
  actAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem act_apply (x0 : Vec Ideal S768x7168 .fp8e4m3) (x1 : Vec Ideal S768x128 .f32) (x2 : Vec Ideal S7168x512 .fp8e4m3)
    (x3 : Vec Ideal S1x512 .f32) (x4 : Vec Ideal S7168x512 .fp8e4m3) (x5 : Vec Ideal S1x512 .f32) (r : Fin 768) (q : Fin 512) :
    act x0 x1 x2 x3 x4 x5 (ix2 r q)
      = siluMul (proj x0 x2 (fun r => x1 (ix2 r 0)) (fun c => x3 (ix2 0 c)) r q)
          (proj x0 x4 (fun r => x1 (ix2 r 0)) (fun c => x5 (ix2 0 c)) r q) := by
  unfold act k0_pay4
  simp only [shapeCast_self]
  have e : ∀ r : Fin 768, View.ld x1 (Rect.unit ![0, 0] ![768, 1] inb_S768x128_S768x1_0_0) (ix2 r 0) = x1 (ix2 r 0) := fun r => by
    refine congrArg x1 (Shape.idx_ext₂ ?_ ?_)
    · show 0 + 1 * r.val = r.val; omega
    · rfl
  have p := fun (w : Vec Ideal S7168x512 .fp8e4m3) (s : Vec Ideal S1x512 .f32) =>
    (proj_apply (φ := .fp8e4m3) x0 w none (View.ld x1 (Rect.unit ![0, 0] ![768, 1] inb_S768x128_S768x1_0_0)) s
      broadcasts_S768x1_S768x512 broadcasts_S1x512_S768x512 r q).trans
    (congrArg (fun sa => proj x0 w sa (fun c => s (ix2 0 c)) r q) (funext e))
  exact silu_apply _ _ _ _ _ (p x2 x3) (p x4 x5)

theorem bact_apply (c : Dev nD) (t : Fin cfg0.N) (r : Fin 768) (q : Fin 512) : bact m c t (ix2 r q) = A m c (ix2 r (col t q)) :=
  (act_apply _ _ _ _ _ _ r q).trans (congrArg₂ siluMul
    (proj_congr (fun k => blk0 m c t r k) (fun k => blk2 m c t k q) (blk1 m c t r 0) (blk3 m c t 0 q))
    (proj_congr (fun k => blk0 m c t r k) (fun k => blk4 m c t k q) (blk1 m c t r 0) (blk5 m c t 0 q)))

/-- The f32 output as the function of the arguments. -/
abbrev G6 (c : Dev nD) : Buf (Elt Ideal) ((c : Thread nD τ).loc main_v4_0) := A m c
/-- The bf16 output. -/
abbrev G7 (c : Dev nD) : Buf (Elt Ideal) ((c : Thread nD τ).loc main_v4_1) := A m c
/-- The row maximum, on every lane. -/
abbrev G8 (c : Dev nD) : Buf (Elt Ideal) ((c : Thread nD τ).loc main_v4_2) := fun i => amaxAt (A m c) (i 0)

theorem flushed6_eq (c : Dev nD) (t : Fin cfg0.N) :
    (dats m 0 c).flushed 6 t = (win0_6.blk t).view.read (Elt Ideal) (G6 m c) := by
  rw [Value.flushed6, outs6]
  funext y
  obtain ⟨r, q, rfl⟩ : ∃ (r : Fin 768) (q : Fin 512), y = ix2 r q := ⟨y 0, y 1, eq_ix2 y⟩
  show bact m c t (ix2 r q) = G6 m c ((win0_6.rect t).emb (ix2 r q))
  exact (bact_apply m c t r q).trans (congrArg (A m c) (emb6 t r q)).symm

theorem flushed7_eq (c : Dev nD) (t : Fin cfg0.N) :
    (dats m 0 c).flushed 7 t = (win0_7.blk t).view.read (Elt Ideal) (G7 m c) := by
  rw [Value.flushed7, outs7]
  funext y
  obtain ⟨r, q, rfl⟩ : ∃ (r : Fin 768) (q : Fin 512), y = ix2 r q := ⟨y 0, y 1, eq_ix2 y⟩
  show bact m c t (ix2 r q) = G7 m c ((win0_7.rect t).emb (ix2 r q))
  exact (bact_apply m c t r q).trans (congrArg (A m c) (emb7 t r q)).symm

theorem cover6 (i : S768x18432.Idx) : ∃ t : Fin cfg0.N, (cfg0.win 6).flush t = true ∧ i ∈ ((cfg0.win 6).blk t).view.set := by
  obtain ⟨r, p, rfl⟩ : ∃ (r : Fin 768) (p : Fin 18432), i = ix2 r p := ⟨i 0, i 1, eq_ix2 i⟩
  have h1 : p.val < 18432 := p.isLt
  let t : Fin cfg0.N := ⟨p.val / 512, by show _ < 36; omega⟩
  refine ⟨t, flush0_6 t, ?_⟩
  show (ix2 r p : S768x18432.Idx) ∈ ((View.whole main_v4_0).slice (win0_6.rect t)).set
  rw [View.set_slice_whole]
  have e : (win0_6.rect t).emb (ix2 r (⟨p.val % 512, by omega⟩ : Fin 512)) = (ix2 r p : S768x18432.Idx) :=
    (emb6 t r _).trans (Shape.idx_ext₂ rfl (by show p.val / 512 * 512 + p.val % 512 = p.val; omega))
  rw [← e]
  exact (win0_6.rect t).idx_mem _

theorem cover7 (i : S768x18432.Idx) : ∃ t : Fin cfg0.N, (cfg0.win 7).flush t = true ∧ i ∈ ((cfg0.win 7).blk t).view.set := by
  obtain ⟨r, p, rfl⟩ : ∃ (r : Fin 768) (p : Fin 18432), i = ix2 r p := ⟨i 0, i 1, eq_ix2 i⟩
  have h1 : p.val < 18432 := p.isLt
  let t : Fin cfg0.N := ⟨p.val / 512, by show _ < 36; omega⟩
  refine ⟨t, flush0_7 t, ?_⟩
  show (ix2 r p : S768x18432.Idx) ∈ ((View.whole main_v4_1).slice (win0_7.rect t)).set
  rw [View.set_slice_whole]
  have e : (win0_7.rect t).emb (ix2 r (⟨p.val % 512, by omega⟩ : Fin 512)) = (ix2 r p : S768x18432.Idx) :=
    (emb7 t r _).trans (Shape.idx_ext₂ rfl (by show p.val / 512 * 512 + p.val % 512 = p.val; omega))
  rw [← e]
  exact (win0_7.rect t).idx_mem _

theorem final6 (c : Dev nD) : (dats m 0 c).arrAt 6 cfg0.N = G6 m c :=
  (dats m 0 c).arrAt_eq_of_cover 6 (G6 m c) (fun t _ => flushed6_eq m c t) cover6

theorem final7 (c : Dev nD) : (dats m 0 c).arrAt 7 cfg0.N = G7 m c :=
  (dats m 0 c).arrAt_eq_of_cover 7 (G7 m c) (fun t _ => flushed7_eq m c t) cover7

/-! ## The running maximum -/

/-- A block's contribution to lane `l`: below `b` exactly when every element of the block on that lane is. -/
theorem lanes_le (c : Dev nD) (t : Fin cfg0.N) (r : Fin 768) (l : Fin 128) (b : EReal) :
    lanes (bact m c t) (ix2 r l) ≤ b
      ↔ ∀ j : Fin 18432, t.val * 512 ≤ j.val → j.val < (t.val + 1) * 512 → j.val % 128 = l.val → mag (A m c (ix2 r j)) ≤ b := by
  have hl := l.isLt
  have ht := lt36 t
  have s : ∀ (o : ℕ) (ho : o + 128 ≤ 512) (hs : S768x512.Slices ![0, o] S768x128),
      extractStridedSlice S768x128 ![0, o] (absf (bact m c t)) hs (ix2 r l)
        = mag (A m c (ix2 r (⟨t.val * 512 + (o + l.val), by omega⟩ : Fin 18432))) := fun o ho hs => by
    rw [extractStridedSlice_apply ![0, o] (absf (bact m c t)) hs (ix2 r l) (ix2 r (⟨o + l.val, by omega⟩ : Fin 512))
      (fun a => by match a with
        | ⟨0, _⟩ => exact (Nat.zero_add _).symm
        | ⟨1, _⟩ => rfl)]
    exact congrArg mag (bact_apply m c t r _)
  unfold lanes
  rw [maximumf_apply, maximumf_apply, maximumf_apply, s 0 (by omega), s 128 (by omega), s 256 (by omega), s 384 (by omega),
    max_le_iff, max_le_iff, max_le_iff]
  constructor
  · rintro ⟨⟨⟨e0, e1⟩, e2⟩, e3⟩ j h1 h2 h3
    have : j.val = t.val * 512 + (0 + l.val) ∨ j.val = t.val * 512 + (128 + l.val) ∨ j.val = t.val * 512 + (256 + l.val)
        ∨ j.val = t.val * 512 + (384 + l.val) := by omega
    rcases this with h | h | h | h
    · rw [show j = ⟨t.val * 512 + (0 + l.val), by omega⟩ from Fin.ext h]; exact e0
    · rw [show j = ⟨t.val * 512 + (128 + l.val), by omega⟩ from Fin.ext h]; exact e1
    · rw [show j = ⟨t.val * 512 + (256 + l.val), by omega⟩ from Fin.ext h]; exact e2
    · rw [show j = ⟨t.val * 512 + (384 + l.val), by omega⟩ from Fin.ext h]; exact e3
  · intro h
    refine ⟨⟨⟨h _ ?_ ?_ ?_, h _ ?_ ?_ ?_⟩, h _ ?_ ?_ ?_⟩, h _ ?_ ?_ ?_⟩ <;> dsimp only <;> omega

theorem zero_apply (i : S768x128.Idx) : k0_pay1 (F := Ideal) i = 0 := by
  show Ideal.ofBits .f32 0x00000000#32 = 0
  exact Ideal.ofBits_zero_f32

/-- What holds of the accumulator before column `k`: lane `l` of row `r` is the largest of zero and the magnitudes met so far
    on that lane. -/
def Upto (c : Dev nD) (k : ℕ) (p : FVec Ideal S768x128 .f32) : Prop :=
  ∀ (r : Fin 768) (l : Fin 128) (b : EReal),
    p (ix2 r l) ≤ b ↔ 0 ≤ b ∧ ∀ j : Fin 18432, j.val < k → j.val % 128 = l.val → mag (A m c (ix2 r j)) ≤ b

theorem upto_zero (c : Dev nD) : Upto m c 0 (k0_pay1 (F := Ideal)) := fun r l b => by
  rw [zero_apply]
  exact ⟨fun h => ⟨h, fun j hj => absurd hj (Nat.not_lt_zero _)⟩, fun h => h.1⟩

/-- One block raises it from the block's first column to the next block's. -/
theorem upto_step (c : Dev nD) (t : Fin cfg0.N) (p : FVec Ideal S768x128 .f32) (k k' : ℕ) (hk : k = t.val * 512)
    (hk' : k' = (t.val + 1) * 512) (hp : Upto m c k p) : Upto m c k' (maximumf p (lanes (bact m c t))) := fun r l b => by
  subst hk hk'
  rw [maximumf_apply, max_le_iff]
  refine (and_congr (hp r l b) (lanes_le m c t r l b)).trans ?_
  constructor
  · rintro ⟨⟨hb, h1⟩, h2⟩
    refine ⟨hb, fun j hj hl => ?_⟩
    by_cases hc : j.val < t.val * 512
    · exact h1 j hc hl
    · exact h2 j (Nat.le_of_not_lt hc) hj hl
  · rintro ⟨hb, h⟩
    exact ⟨⟨hb, fun j hj hl => h j (by omega) hl⟩, fun j _ hj hl => h j hj hl⟩

theorem outs8_A (c : Dev nD) (t : Fin cfg0.N) (h0 : t.val % 36 = 0) :
    (outsAt0 m c t.val t.isLt).2.2 = maximumf k0_pay1 (lanes (bact m c t)) := by
  rw [outsAt0_A m c t h0 (by omega)]; dsimp only; rw [outA_8]

theorem outs8_B (c : Dev nD) (t : Fin cfg0.N) (h0 : ¬t.val % 36 = 0) (h1 : ¬t.val % 36 = 35) :
    (outsAt0 m c t.val t.isLt).2.2
      = maximumf (outsAt0 m c (t.val - 1) (Nat.lt_of_le_of_lt (Nat.sub_le _ _) t.isLt)).2.2 (lanes (bact m c t)) := by
  rw [outsAt0_B m c t h0 h1]; dsimp only; rw [outB_8]

theorem outs8_C (c : Dev nD) (t : Fin cfg0.N) (h0 : ¬t.val % 36 = 0) (h1 : t.val % 36 = 35) :
    (outsAt0 m c t.val t.isLt).2.2
      = rowMax (maximumf (outsAt0 m c (t.val - 1) (Nat.lt_of_le_of_lt (Nat.sub_le _ _) t.isLt)).2.2 (lanes (bact m c t))) := by
  rw [outsAt0_C m c t h0 h1]; dsimp only; rw [outC_8]

/-- Before the last block. -/
theorem acc_upto (c : Dev nD) : ∀ (n : ℕ) (hn : n < cfg0.N), n < 35 → Upto m c ((n + 1) * 512) (outsAt0 m c n hn).2.2
  | 0, hn, _ => by
    rw [show (outsAt0 m c 0 hn).2.2 = _ from outs8_A m c ⟨0, hn⟩ rfl]
    exact upto_step m c ⟨0, hn⟩ _ 0 _ (Nat.zero_mul _).symm rfl (upto_zero m c)
  | n + 1, hn, hlt => by
    rw [show (outsAt0 m c (n + 1) hn).2.2 = _ from
      outs8_B m c ⟨n + 1, hn⟩ (show ¬(n + 1) % 36 = 0 by omega) (show ¬(n + 1) % 36 = 35 by omega)]
    exact upto_step m c ⟨n + 1, hn⟩ _ ((n + 1) * 512) _ rfl rfl (acc_upto c n (Nat.lt_of_succ_lt hn) (by omega))

/-- The lanes of a complete accumulator reduce to the row's largest magnitude. -/
theorem rowMax_eq (c : Dev nD) (p : FVec Ideal S768x128 .f32) (hp : Upto m c 18432 p) (r : Fin 768) (l : Fin 128) :
    rowMax p (ix2 r l) = amaxAt (A m c) r := by
  refine eq_of_forall_ge_iff fun b => ?_
  unfold rowMax k0_pay3
  refine (rowMax_le (M := 768) (N := 128) (L := 128) (shapeCast S768x128 p shapeCasts_S768x128_S768x128) reduces_S768x128_S768 shapeCasts_S768_S768x1 shapeCasts_S768x1_S768x1
    broadcasts_S768x1_S768x128 r l b).trans ?_
  rw [amaxAt_le, shapeCast_self]
  constructor
  · intro h j
    exact ((hp r ⟨j.val % 128, Nat.mod_lt _ (by omega)⟩ b).mp (h _)).2 j j.isLt rfl
  · intro h l
    exact (hp r l b).mpr ⟨le_trans (mag_nonneg _) (h 0), fun j _ _ => h j⟩

/-- After the last block every lane of a row is the row's largest magnitude. -/
theorem last_eq (c : Dev nD) (t : Fin cfg0.N) (h1 : t.val % 36 = 35) : (outsAt0 m c t.val t.isLt).2.2 = G8 m c := by
  have ht := lt36 t
  rw [outs8_C m c t (by omega) h1]
  funext y
  obtain ⟨r, l, rfl⟩ : ∃ (r : Fin 768) (l : Fin 128), y = ix2 r l := ⟨y 0, y 1, eq_ix2 y⟩
  exact rowMax_eq m c _ (upto_step m c t _ _ _ (by omega) (by omega) (acc_upto m c (t.val - 1) _ (by omega))) r l

/-- The last output's block is its whole array. -/
theorem whole8 (t : Fin cfg0.N) (v : Vec Ideal S768x128 .f32) :
    (cfg0.win 8).cut (grid0.coords t) v = (win0_8.blk t).view.read (Elt Ideal) v := by
  funext y
  obtain ⟨r, l, rfl⟩ : ∃ (r : Fin 768) (l : Fin 128), y = ix2 r l := ⟨y 0, y 1, eq_ix2 y⟩
  show v (ix2 r l) = v ((win0_8.rect t).emb (ix2 r l))
  exact (congrArg v (emb8 t r l)).symm

theorem flushed8_eq (c : Dev nD) (t : Fin cfg0.N) (h : (cfg0.win 8).flush t = true) :
    (dats m 0 c).flushed 8 t = (win0_8.blk t).view.read (Elt Ideal) (G8 m c) := by
  rw [Value.flushed8, last_eq m c t ((flush0_8 t).mp h)]
  exact whole8 t _

theorem cover8 (i : S768x128.Idx) : ∃ t : Fin cfg0.N, (cfg0.win 8).flush t = true ∧ i ∈ ((cfg0.win 8).blk t).view.set := by
  let t : Fin cfg0.N := ⟨35, by decide⟩
  refine ⟨t, (flush0_8 t).mpr rfl, ?_⟩
  show i ∈ ((View.whole main_v4_2).slice (win0_8.rect t)).set
  rw [View.set_slice_whole]
  obtain ⟨r, l, rfl⟩ : ∃ (r : Fin 768) (l : Fin 128), i = ix2 r l := ⟨i 0, i 1, eq_ix2 i⟩
  rw [← emb8 t r l]
  exact (win0_8.rect t).idx_mem _

theorem final8 (c : Dev nD) : (dats m 0 c).arrAt 8 cfg0.N = G8 m c :=
  (dats m 0 c).arrAt_eq_of_cover 8 (G8 m c) (flushed8_eq m c) cover8

end Cert.GateUpIdeal.RefValue

end
-- ==== Proof.MlpRun.lean ====
/-
  THE REFERENCE'S RUN. What the one point of the gate/up reference writes back to each of its three outputs, and the run
  with the three arrays named and the arguments unchanged.
-/
module

public import proofs.«01_k».proof.Proof.Gen.MlpActIdeal.Frame
public import Idealize.ShloMosaic.Lib.Pipeline.Value

@[expose] public section

noncomputable section

namespace Cert.MlpActIdeal.Run

open Cert.MlpActIdeal Cert.MlpActIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What point `t` writes back to output 6. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t) (iblk m c 5 t)) := by
  show (cfg0.win 6).cut (grid0.coords t) ((dats m 0 c).after 6 t) = _
  rw [after0_6]

/-- What point `t` writes back to output 7. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t)) := by
  show (cfg0.win 7).cut (grid0.coords t) ((dats m 0 c).after 7 t) = _
  rw [after0_7]

/-- What point `t` writes back to output 8. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t)) := by
  show (cfg0.win 8).cut (grid0.coords t) ((dats m 0 c).after 8 t) = _
  rw [after0_8]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v3_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v3_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v3_2) = (dats m 0 c).arrAt 8 cfg0.N :=
  (h c).1 8

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array after the run NAMED,
    the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 6 cfg0.N
      ∧ r.2.mem ((c : Thread nD τ).loc main_v3_1) = (dats m 0 c).arrAt 7 cfg0.N
      ∧ r.2.mem ((c : Thread nD τ).loc main_v3_2) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      post8 m r h c,
      kept_main_arg0 m r h c,
      kept_main_arg1 m r h c,
      kept_main_arg2 m r h c,
      kept_main_arg3 m r h c,
      kept_main_arg4 m r h c,
      kept_main_arg5 m r h c⟩)
    (run_main m ρ)

end Cert.MlpActIdeal.Run

end
-- ==== Proof.MlpAct.lean ====
/-
  THE REFERENCE OF THE GATE/UP CALL. One body over the whole arrays: both scaled products, silu(gate)·up in f32 and in
  bf16, and each row's largest magnitude on 128 lanes. `final6`, `final7` and `final8` say that the three arrays after
  the run are the same functions of the arguments as the kernel's.
-/
module

public import proofs.«01_k».proof.Proof.SiluMax
public import proofs.«01_k».proof.Proof.MlpRun
public import Idealize.ShloMosaic.Lib.StableHlo.Run

@[expose] public section

noncomputable section

open Idealize.ShloMosaic Idealize.ShloMosaic.TcCoe Idealize.SL.Sem Idealize.ShloMosaic.ValueIdx
open Idealize.ShloMosaic.Pipeline (Dat)

namespace Cert.MlpActIdeal.RefValue

open Cert.MlpActIdeal Cert.MlpActIdeal.Gen Cert.Layer

variable (m : (ℓ : Loc nD τ sig) → Buf (Elt Ideal) ℓ)

/-- The SiLU product of the arguments. -/
abbrev A (c : Dev nD) : S768x18432.Idx → EReal :=
  actAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The f32 output as the function of the arguments. -/
abbrev G6 (c : Dev nD) : Buf (Elt Ideal) ((c : Thread nD τ).loc main_v3_0) := A m c
/-- The bf16 output. -/
abbrev G7 (c : Dev nD) : Buf (Elt Ideal) ((c : Thread nD τ).loc main_v3_1) := A m c
/-- The row maximum, on every lane. -/
abbrev G8 (c : Dev nD) : Buf (Elt Ideal) ((c : Thread nD τ).loc main_v3_2) := fun i => amaxAt (A m c) (i 0)

/-! ## Blocks are whole arrays -/

theorem V_rows (c : Dev nD) (r : Fin 768) (l : Fin 1) :
    V m c main_v0 (ix2 r l) = m ((c : Thread nD τ).loc main_arg1) (ix1 r) := by
  have h : V m c main_v0 = broadcastInDim S768x1 ![0] bcast_S768_S768x1_0 (m ((c : Thread nD τ).loc main_arg1)) := by
    unfold V; after_results
  rw [h, colOf_apply]

theorem V_cols (c : Dev nD) (z : Fin 1) (q : Fin 18432) :
    V m c main_v1 (ix2 z q) = m ((c : Thread nD τ).loc main_arg3) (ix1 q) := by
  have h : V m c main_v1 = shapeCast S1x18432 (m ((c : Thread nD τ).loc main_arg3)) shapeCasts_S18432_S1x18432 := by
    unfold V; after_results; rfl
  rw [h, rowOf_apply]

theorem V_cols' (c : Dev nD) (z : Fin 1) (q : Fin 18432) :
    V m c main_v2 (ix2 z q) = m ((c : Thread nD τ).loc main_arg5) (ix1 q) := by
  have h : V m c main_v2 = shapeCast S1x18432 (m ((c : Thread nD τ).loc main_arg5)) shapeCasts_S18432_S1x18432 := by
    unfold V; after_results; rfl
  rw [h, rowOf_apply]

/-- An index of a block is the same index of the array: every block is its whole array. -/
theorem emb_whole (w : Pipeline.Window sig grid0) (t : Fin grid0.N) (h : ∀ a, w.index t a = 0)
    (y : (w.xblock (grid0.coords t)).Idx) (a : Fin w.shape.rank) : ((w.rect t).emb y a : Nat) = y a :=
  w.rect_emb_val_of_index_zero t a (h a) y

theorem blk0 (c : Dev nD) (t : Fin cfg0.N) (r : Fin 768) (k : Fin 7168) :
    iblk m c 0 t (ix2 r k) = m ((c : Thread nD τ).loc main_arg0) (ix2 r k) := by
  show V m c main_arg0 ((win0_0.rect t).emb (ix2 r k)) = _
  rw [V_main_arg0]
  exact congrArg _ (Shape.idx_ext₂ (emb_whole win0_0 t (fun _ => rfl) _ 0) (emb_whole win0_0 t (fun _ => rfl) _ 1))

theorem blk1 (c : Dev nD) (t : Fin cfg0.N) (r : Fin 768) (l : Fin 1) :
    iblk m c 1 t (ix2 r l) = m ((c : Thread nD τ).loc main_arg1) (ix1 r) := by
  show V m c main_v0 ((win0_1.rect t).emb (ix2 r l)) = _
  rw [← V_rows m c r l]
  exact congrArg _ (Shape.idx_ext₂ (emb_whole win0_1 t (fun _ => rfl) _ 0) (emb_whole win0_1 t (fun _ => rfl) _ 1))

theorem blk2 (c : Dev nD) (t : Fin cfg0.N) (k : Fin 7168) (q : Fin 18432) :
    iblk m c 2 t (ix2 k q) = m ((c : Thread nD τ).loc main_arg2) (ix2 k q) := by
  show V m c main_arg2 ((win0_2.rect t).emb (ix2 k q)) = _
  rw [V_main_arg2]
  exact congrArg _ (Shape.idx_ext₂ (emb_whole win0_2 t (fun _ => rfl) _ 0) (emb_whole win0_2 t (fun _ => rfl) _ 1))

theorem blk3 (c : Dev nD) (t : Fin cfg0.N) (z : Fin 1) (q : Fin 18432) :
    iblk m c 3 t (ix2 z q) = m ((c : Thread nD τ).loc main_arg3) (ix1 q) := by
  show V m c main_v1 ((win0_3.rect t).emb (ix2 z q)) = _
  rw [← V_cols m c z q]
  exact congrArg _ (Shape.idx_ext₂ (emb_whole win0_3 t (fun _ => rfl) _ 0) (emb_whole win0_3 t (fun _ => rfl) _ 1))

theorem blk4 (c : Dev nD) (t : Fin cfg0.N) (k : Fin 7168) (q : Fin 18432) :
    iblk m c 4 t (ix2 k q) = m ((c : Thread nD τ).loc main_arg4) (ix2 k q) := by
  show V m c main_arg4 ((win0_4.rect t).emb (ix2 k q)) = _
  rw [V_main_arg4]
  exact congrArg _ (Shape.idx_ext₂ (emb_whole win0_4 t (fun _ => rfl) _ 0) (emb_whole win0_4 t (fun _ => rfl) _ 1))

theorem blk5 (c : Dev nD) (t : Fin cfg0.N) (z : Fin 1) (q : Fin 18432) :
    iblk m c 5 t (ix2 z q) = m ((c : Thread nD τ).loc main_arg5) (ix1 q) := by
  show V m c main_v2 ((win0_5.rect t).emb (ix2 z q)) = _
  rw [← V_cols' m c z q]
  exact congrArg _ (Shape.idx_ext₂ (emb_whole win0_5 t (fun _ => rfl) _ 0) (emb_whole win0_5 t (fun _ => rfl) _ 1))

theorem emb6 (t : Fin cfg0.N) (r : Fin 768) (q : Fin 18432) : (win0_6.rect t).emb (ix2 r q) = (ix2 r q : S768x18432.Idx) :=
  Shape.idx_ext₂ (emb_whole win0_6 t (fun _ => rfl) _ 0) (emb_whole win0_6 t (fun _ => rfl) _ 1)

theorem emb7 (t : Fin cfg0.N) (r : Fin 768) (q : Fin 18432) : (win0_7.rect t).emb (ix2 r q) = (ix2 r q : S768x18432.Idx) :=
  Shape.idx_ext₂ (emb_whole win0_7 t (fun _ => rfl) _ 0) (emb_whole win0_7 t (fun _ => rfl) _ 1)

theorem emb8 (t : Fin cfg0.N) (r : Fin 768) (q : Fin 128) : (win0_8.rect t).emb (ix2 r q) = (ix2 r q : S768x128.Idx) :=
  Shape.idx_ext₂ (emb_whole win0_8 t (fun _ => rfl) _ 0) (emb_whole win0_8 t (fun _ => rfl) _ 1)

/-- Output 6's block is its whole array. -/
theorem whole6 (t : Fin cfg0.N) (v : Vec Ideal S768x18432 .f32) :
    (cfg0.win 6).cut (grid0.coords t) v = (win0_6.blk t).view.read (Elt Ideal) v := by
  funext y
  obtain ⟨r, q, rfl⟩ : ∃ (r : Fin 768) (q : Fin 18432), y = ix2 r q := ⟨y 0, y 1, eq_ix2 y⟩
  show v (ix2 r q) = v ((win0_6.rect t).emb (ix2 r q))
  exact (congrArg v (emb6 t r q)).symm

theorem cover6 (i : S768x18432.Idx) : ∃ t : Fin cfg0.N, (cfg0.win 6).flush t = true ∧ i ∈ ((cfg0.win 6).blk t).view.set := by
  let t : Fin cfg0.N := ⟨0, by decide⟩
  refine ⟨t, by decide, ?_⟩
  show i ∈ ((View.whole main_v3_0).slice (win0_6.rect t)).set
  rw [View.set_slice_whole]
  obtain ⟨r, q, rfl⟩ : ∃ (r : Fin 768) (q : Fin 18432), i = ix2 r q := ⟨i 0, i 1, eq_ix2 i⟩
  rw [← emb6 t r q]
  exact (win0_6.rect t).idx_mem _

/-- Output 7's block is its whole array. -/
theorem whole7 (t : Fin cfg0.N) (v : Vec Ideal S768x18432 .bf16) :
    (cfg0.win 7).cut (grid0.coords t) v = (win0_7.blk t).view.read (Elt Ideal) v := by
  funext y
  obtain ⟨r, q, rfl⟩ : ∃ (r : Fin 768) (q : Fin 18432), y = ix2 r q := ⟨y 0, y 1, eq_ix2 y⟩
  show v (ix2 r q) = v ((win0_7.rect t).emb (ix2 r q))
  exact (congrArg v (emb7 t r q)).symm

theorem cover7 (i : S768x18432.Idx) : ∃ t : Fin cfg0.N, (cfg0.win 7).flush t = true ∧ i ∈ ((cfg0.win 7).blk t).view.set := by
  let t : Fin cfg0.N := ⟨0, by decide⟩
  refine ⟨t, by decide, ?_⟩
  show i ∈ ((View.whole main_v3_1).slice (win0_7.rect t)).set
  rw [View.set_slice_whole]
  obtain ⟨r, q, rfl⟩ : ∃ (r : Fin 768) (q : Fin 18432), i = ix2 r q := ⟨i 0, i 1, eq_ix2 i⟩
  rw [← emb7 t r q]
  exact (win0_7.rect t).idx_mem _

/-- Output 8's block is its whole array. -/
theorem whole8 (t : Fin cfg0.N) (v : Vec Ideal S768x128 .f32) :
    (cfg0.win 8).cut (grid0.coords t) v = (win0_8.blk t).view.read (Elt Ideal) v := by
  funext y
  obtain ⟨r, q, rfl⟩ : ∃ (r : Fin 768) (q : Fin 128), y = ix2 r q := ⟨y 0, y 1, eq_ix2 y⟩
  show v (ix2 r q) = v ((win0_8.rect t).emb (ix2 r q))
  exact (congrArg v (emb8 t r q)).symm

theorem cover8 (i : S768x128.Idx) : ∃ t : Fin cfg0.N, (cfg0.win 8).flush t = true ∧ i ∈ ((cfg0.win 8).blk t).view.set := by
  let t : Fin cfg0.N := ⟨0, by decide⟩
  refine ⟨t, by decide, ?_⟩
  show i ∈ ((View.whole main_v3_2).slice (win0_8.rect t)).set
  rw [View.set_slice_whole]
  obtain ⟨r, q, rfl⟩ : ∃ (r : Fin 768) (q : Fin 128), i = ix2 r q := ⟨i 0, i 1, eq_ix2 i⟩
  rw [← emb8 t r q]
  exact (win0_8.rect t).idx_mem _

/-! ## The body's values -/

/-- The SiLU product the body makes. -/
abbrev bact (c : Dev nD) (t : Fin cfg0.N) : FVec Ideal S768x18432 .f32 :=
  k0_pay1 (iblk m c 0 t) (iblk m c 1 t) (iblk m c 2 t) (iblk m c 3 t) (iblk m c 0 t) (iblk m c 1 t) (iblk m c 4 t) (iblk m c 5 t)

theorem act_apply (h : Vec Ideal S768x7168 .fp8e4m3) (sh : Vec Ideal S768x1 .f32) (wg : Vec Ideal S7168x18432 .fp8e4m3)
    (sg : Vec Ideal S1x18432 .f32) (wu : Vec Ideal S7168x18432 .fp8e4m3) (su : Vec Ideal S1x18432 .f32) (r : Fin 768) (q : Fin 18432) :
    k0_pay1 h sh wg sg h sh wu su (ix2 r q)
      = siluMul (proj h wg (fun r => sh (ix2 r 0)) (fun c => sg (ix2 0 c)) r q)
          (proj h wu (fun r => sh (ix2 r 0)) (fun c => su (ix2 0 c)) r q) := by
  unfold k0_pay1
  simp only [shapeCast_self]
  have p := fun (w : Vec Ideal S7168x18432 .fp8e4m3) (s : Vec Ideal S1x18432 .f32) =>
    proj_apply (φ := .fp8e4m3) h w none sh s broadcasts_S768x1_S768x18432 broadcasts_S1x18432_S768x18432 r q
  exact silu_apply _ _ _ _ _ (p wg sg) (p wu su)

theorem bact_eq (c : Dev nD) (t : Fin cfg0.N) : bact m c t = A m c := by
  funext y
  obtain ⟨r, q, rfl⟩ : ∃ (r : Fin 768) (q : Fin 18432), y = ix2 r q := ⟨y 0, y 1, eq_ix2 y⟩
  exact (act_apply _ _ _ _ _ _ r q).trans (congrArg₂ siluMul
    (proj_congr (fun k => blk0 m c t r k) (fun k => blk2 m c t k q) (blk1 m c t r 0) (blk3 m c t 0 q))
    (proj_congr (fun k => blk0 m c t r k) (fun k => blk4 m c t k q) (blk1 m c t r 0) (blk5 m c t 0 q)))

/-- Each row's largest magnitude, broadcast over the lanes. -/
def rowMax (v : FVec Ideal S768x18432 .f32) : FVec Ideal S768x128 .f32 :=
  broadcastTo S768x128 (shapeCast S768x1 (shapeCast S768x1
    (multiReduction .maximumf [1] S768 (absf v) 0xFF800000#32 reduces_S768x18432_S768 (.inl rfl) rfl)
    shapeCasts_S768_S768x1) shapeCasts_S768x1_S768x1) broadcasts_S768x1_S768x128

theorem rowMax_eq (v : FVec Ideal S768x18432 .f32) (r : Fin 768) (l : Fin 128) : rowMax v (ix2 r l) = amaxAt v r := by
  refine eq_of_forall_ge_iff fun b => ?_
  unfold rowMax
  refine (rowMax_le (M := 768) (N := 18432) (L := 128) (absf v) reduces_S768x18432_S768 shapeCasts_S768_S768x1 shapeCasts_S768x1_S768x1
    broadcasts_S768x1_S768x128 r l b).trans ?_
  rw [amaxAt_le]
  exact Iff.rfl

theorem flushed6_eq (c : Dev nD) (t : Fin cfg0.N) :
    (dats m 0 c).flushed 6 t = (win0_6.blk t).view.read (Elt Ideal) (G6 m c) := by
  rw [Run.flushed6]
  unfold out0_6
  rw [View.canon_unit_zero offs_zero]
  simp only [View.ld_unit_zero (S := S768x7168) offs_zero, View.ld_unit_zero (S := S768x1) offs_zero,
    View.ld_unit_zero (S := S7168x18432) offs_zero, View.ld_unit_zero (S := S1x18432) offs_zero]
  rw [show k0_pay1 _ _ _ _ _ _ _ _ = G6 m c from bact_eq m c t]
  exact whole6 t _

theorem flushed7_eq (c : Dev nD) (t : Fin cfg0.N) :
    (dats m 0 c).flushed 7 t = (win0_7.blk t).view.read (Elt Ideal) (G7 m c) := by
  rw [Run.flushed7]
  unfold out0_7
  rw [View.canon_unit_zero offs_zero]
  simp only [View.ld_unit_zero (S := S768x7168) offs_zero, View.ld_unit_zero (S := S768x1) offs_zero,
    View.ld_unit_zero (S := S7168x18432) offs_zero, View.ld_unit_zero (S := S1x18432) offs_zero]
  have e : k0_pay2 (iblk m c 0 t) (iblk m c 1 t) (iblk m c 2 t) (iblk m c 3 t) (iblk m c 0 t) (iblk m c 1 t) (iblk m c 4 t) (iblk m c 5 t)
      = G7 m c := congrArg (fun v => truncf .bf16 v bitsLt_bf16_f32) (bact_eq m c t)
  exact (congrArg ((cfg0.win 7).cut (grid0.coords t)) e).trans (whole7 t _)

theorem flushed8_eq (c : Dev nD) (t : Fin cfg0.N) :
    (dats m 0 c).flushed 8 t = (win0_8.blk t).view.read (Elt Ideal) (G8 m c) := by
  rw [Run.flushed8]
  unfold out0_8
  rw [View.canon_unit_zero offs_zero]
  simp only [View.ld_unit_zero (S := S768x7168) offs_zero, View.ld_unit_zero (S := S768x1) offs_zero,
    View.ld_unit_zero (S := S7168x18432) offs_zero, View.ld_unit_zero (S := S1x18432) offs_zero]
  have e : rowMax (bact m c t) = G8 m c := by
    rw [bact_eq]
    funext y
    obtain ⟨r, l, rfl⟩ : ∃ (r : Fin 768) (l : Fin 128), y = ix2 r l := ⟨y 0, y 1, eq_ix2 y⟩
    exact rowMax_eq _ r l
  have e' : k0_pay3 (iblk m c 0 t) (iblk m c 1 t) (iblk m c 2 t) (iblk m c 3 t) (iblk m c 0 t) (iblk m c 1 t) (iblk m c 4 t) (iblk m c 5 t)
      = rowMax (bact m c t) := rfl
  exact (congrArg ((cfg0.win 8).cut (grid0.coords t)) (e'.trans e)).trans (whole8 t _)

theorem final6 (c : Dev nD) : (dats m 0 c).arrAt 6 cfg0.N = G6 m c :=
  (dats m 0 c).arrAt_eq_of_cover 6 (G6 m c) (fun t _ => flushed6_eq m c t) cover6

theorem final7 (c : Dev nD) : (dats m 0 c).arrAt 7 cfg0.N = G7 m c :=
  (dats m 0 c).arrAt_eq_of_cover 7 (G7 m c) (fun t _ => flushed7_eq m c t) cover7

theorem final8 (c : Dev nD) : (dats m 0 c).arrAt 8 cfg0.N = G8 m c :=
  (dats m 0 c).arrAt_eq_of_cover 8 (G8 m c) (fun t _ => flushed8_eq m c t) cover8

end Cert.MlpActIdeal.RefValue

end
-- ==== Proof.ActQ.lean ====
/-
  THE ACTIVATION CODES AND THEIR REFERENCE. The kernel walks the 18432 columns in eighteen blocks of 1024. At each block it
  works out every row's power-of-two scale anew from the row's largest magnitude, divides the block by it and brings the
  quotient onto the codes' range. The scales it writes are the same at every block. `final2` and `final3` give the codes
  and the scales as whole-array functions of the arguments, of the kernel and of the reference.
-/
module

public import proofs.«01_k».proof.Proof.Common
public import proofs.«01_k».proof.Proof.Quant
public import proofs.«01_k».proof.Proof.QuantIdx
public import proofs.«01_k».proof.Proof.Gen.ActQIdeal.Frame
public import proofs.«01_k».proof.Proof.Gen.ActCodesIdeal.Frame
public import Idealize.ShloMosaic.Lib.Pipeline.Value
public import Idealize.ShloMosaic.Lib.StableHlo.Run

@[expose] public section

noncomputable section

open Idealize.ShloMosaic Idealize.ShloMosaic.TcCoe Idealize.SL.Sem Idealize.ShloMosaic.ValueIdx
open Idealize.ShloMosaic.Pipeline (Dat)

/-! ## The kernel -/

namespace Cert.ActQIdeal.RefValue

open Cert.ActQIdeal Cert.ActQIdeal.Gen Cert.Layer

variable (m : (ℓ : Loc nD τ sig) → Buf (Elt Ideal) ℓ)

/-- The activations. -/
abbrev act (c : Dev nD) : S768x18432.Idx → EReal := m ((c : Thread nD τ).loc main_arg0)

/-- The codes: each element by its row's inverse scale. -/
abbrev G2 (c : Dev nD) : Buf (Elt Ideal) ((c : Thread nD τ).loc main_v2_0) :=
  fun i : S768x18432.Idx => clip (act m c i * kinv (quot (m ((c : Thread nD τ).loc main_arg1) (ix1 (i 0)))))

/-- The scales, on every lane. -/
abbrev G3 (c : Dev nD) : Buf (Elt Ideal) ((c : Thread nD τ).loc main_v2_1) :=
  fun i : S768x128.Idx => kscale (quot (m ((c : Thread nD τ).loc main_arg1) (ix1 (i 0))))

theorem quot_apply (v : Vec Ideal S768x128 .f32) (i : S768x128.Idx) : k0_pay3 v i = quot (v i) := by
  unfold k0_pay3; rw [shapeCast_self]; rfl

/-- The first four comparisons. -/
theorem search_hi (v : Vec Ideal S768x128 .f32) (i : S768x128.Idx) :
    k0_pay4 v i = step (k0_pay3 v i) (step (k0_pay3 v i) (step (k0_pay3 v i) (step (k0_pay3 v i) 0#32 128#32) 64#32) 32#32) 16#32 := rfl

/-- The last four, and the exponent. -/
theorem search_lo (q : FVec Ideal S768x128 .f32) (k : IVec S768x128 32) (i : S768x128.Idx) :
    k0_pay6 q k k0_pay5 i = Scalar.select (FloatOps.cmpf (F := Ideal) (φ := .f32) .oeq (q i) (FloatOps.ofBits (F := Ideal) .f32 0x00000000#32)) 0#32
      (IntOp.subi (step (q i) (step (q i) (step (q i) (step (q i) (k i) 8#32) 4#32) 2#32) 1#32) 126#32) := rfl

/-- A row's exponent, as the kernel finds it. -/
theorem exp_apply (v : Vec Ideal S768x128 .f32) (i : S768x128.Idx) :
    k0_pay6 (k0_pay3 v) (k0_pay4 v) k0_pay5 i = kexp (quot (v i)) := by
  rw [search_lo, search_hi, quot_apply]; rfl

/-- The stored scales, read at an index. -/
theorem scale_apply (v : Vec Ideal S768x128 .f32) (i : S768x128.Idx) :
    k0_pay1 (F := Ideal) (k0_pay7 (k0_pay3 v) (k0_pay4 v) k0_pay5) k0_pay8 i = kscale (quot (v i)) := by
  show pow (IntOp.addi (k0_pay6 (k0_pay3 v) (k0_pay4 v) k0_pay5 i) 127#32) = _
  rw [exp_apply]; rfl

/-- The stored codes, read at an index. -/
theorem code_apply (e : IVec S768x128 32) (x : Vec Ideal S768x1024 .f32) (r : Fin 768) (q : Fin 1024) :
    k0_pay2 e x (ix2 r q) = clip (x (ix2 r q) * pow (IntOp.subi 127#32 (e (ix2 r 0)))) := by
  unfold k0_pay2
  refine congrArg clip (congrArg (x (ix2 r q) * ·) ?_)
  rw [bcast_row]
  exact lane0_apply (M := 768) (N := 127) _ _ r 0

/-- Where each window's block sits at a point. -/
theorem idx_facts : ∀ t : Fin cfg0.N, win0_0.index t 0 = 0 ∧ win0_0.index t 1 = t.val ∧ win0_1.index t 0 = 0 ∧ win0_1.index t 1 = 0
    ∧ win0_2.index t 0 = 0 ∧ win0_2.index t 1 = t.val ∧ win0_3.index t 0 = 0 ∧ win0_3.index t 1 = 0 :=
  (by decide +kernel : ∀ t : Fin grid0.N, win0_0.index t 0 = 0 ∧ win0_0.index t 1 = t.val ∧ win0_1.index t 0 = 0 ∧ win0_1.index t 1 = 0
    ∧ win0_2.index t 0 = 0 ∧ win0_2.index t 1 = t.val ∧ win0_3.index t 0 = 0 ∧ win0_3.index t 1 = 0)

theorem lt18 (t : Fin cfg0.N) : t.val < 18 := t.isLt

/-- Column `q` of block `t` as a column of the whole array. -/
abbrev col (t : Fin cfg0.N) (q : Fin 1024) : Fin 18432 := ⟨t.val * 1024 + q.val, by have := lt18 t; have := q.isLt; omega⟩

/-- The rows' largest magnitudes as the region finds them: each on every lane. -/
theorem V_rows (c : Dev nD) (r : Fin 768) (l : Fin 128) :
    V m c main_v1 (ix2 r l) = m ((c : Thread nD τ).loc main_arg1) (ix1 r) := by
  have h : V m c main_v1 = broadcastInDim S768x128 ![0, 1] bcast_S768x1_S768x128_0_1
      (broadcastInDim S768x1 ![0] bcast_S768_S768x1_0 (m ((c : Thread nD τ).loc main_arg1))) := by
    unfold V; after_results
  rw [h, lanesOf_apply, colOf_apply]

theorem blk0 (c : Dev nD) (t : Fin cfg0.N) (r : Fin 768) (q : Fin 1024) :
    iblk m c 0 t (ix2 r q) = m ((c : Thread nD τ).loc main_arg0) (ix2 r (col t q)) := by
  show V m c main_arg0 ((win0_0.rect t).emb (ix2 r q)) = _
  rw [V_main_arg0]
  refine congrArg _ (Shape.idx_ext₂ ?_ ?_)
  · exact win0_0.rect_emb_val_of_index_zero t 0 (idx_facts t).1 _
  · refine (win0_0.rect_emb_val t _ 1).trans ?_
    rw [(idx_facts t).2.1]; rfl

theorem blk1 (c : Dev nD) (t : Fin cfg0.N) (r : Fin 768) (l : Fin 128) :
    iblk m c 1 t (ix2 r l) = m ((c : Thread nD τ).loc main_arg1) (ix1 r) := by
  show V m c main_v1 ((win0_1.rect t).emb (ix2 r l)) = _
  rw [← V_rows m c r l]
  refine congrArg _ (Shape.idx_ext₂ ?_ ?_)
  · exact win0_1.rect_emb_val_of_index_zero t 0 (idx_facts t).2.2.1 _
  · exact win0_1.rect_emb_val_of_index_zero t 1 (idx_facts t).2.2.2.1 _

theorem emb2 (t : Fin cfg0.N) (r : Fin 768) (q : Fin 1024) :
    (win0_2.rect t).emb (ix2 r q) = (ix2 r (col t q) : S768x18432.Idx) := by
  refine Shape.idx_ext₂ ?_ ?_
  · exact win0_2.rect_emb_val_of_index_zero t 0 (idx_facts t).2.2.2.2.1 _
  · refine (win0_2.rect_emb_val t _ 1).trans ?_
    rw [(idx_facts t).2.2.2.2.2.1]; rfl

theorem emb3 (t : Fin cfg0.N) (r : Fin 768) (l : Fin 128) :
    (win0_3.rect t).emb (ix2 r l) = (ix2 r l : S768x128.Idx) :=
  Shape.idx_ext₂ (win0_3.rect_emb_val_of_index_zero t 0 (idx_facts t).2.2.2.2.2.2.1 _)
    (win0_3.rect_emb_val_of_index_zero t 1 (idx_facts t).2.2.2.2.2.2.2 _)

/-- What point `t` writes back to output 2. -/
theorem flushed2 (c : Dev nD) (t : Fin cfg0.N) :
    (dats m 0 c).flushed 2 t = (cfg0.win 2).cut (grid0.coords t) (out0_2 (iblk m c 0 t) (iblk m c 1 t)) := by
  show (cfg0.win 2).cut (grid0.coords t) ((dats m 0 c).after 2 t) = _
  rw [after0_2]

/-- What point `t` writes back to output 3. -/
theorem flushed3 (c : Dev nD) (t : Fin cfg0.N) :
    (dats m 0 c).flushed 3 t = (cfg0.win 3).cut (grid0.coords t) (out0_3 (iblk m c 0 t) (iblk m c 1 t)) := by
  show (cfg0.win 3).cut (grid0.coords t) ((dats m 0 c).after 3 t) = _
  rw [after0_3]

/-- The frame run with the two results' arrays named, the arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v2_0) = (dats m 0 c).arrAt 2 cfg0.N
      ∧ r.2.mem ((c : Thread nD τ).loc main_v2_1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 2, (h c).1 3,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

/-- What point `t` writes back to the codes is block `t` of the whole-array function. -/
theorem flushed2_eq (c : Dev nD) (t : Fin cfg0.N) :
    (dats m 0 c).flushed 2 t = (win0_2.blk t).view.read (Elt Ideal) (G2 m c) := by
  rw [flushed2]
  unfold out0_2 k0_pay9 k0_pay10 k0_pay11
  rw [View.canon_unit_zero offs_zero, View.ld_unit_zero offs_zero, View.ld_unit_zero offs_zero]
  funext y
  obtain ⟨r, q, rfl⟩ : ∃ (r : Fin 768) (q : Fin 1024), y = ix2 r q := ⟨y 0, y 1, eq_ix2 y⟩
  show k0_pay2 (k0_pay6 (k0_pay3 (iblk m c 1 t)) (k0_pay4 (iblk m c 1 t)) k0_pay5) (iblk m c 0 t) (ix2 r q)
    = G2 m c ((win0_2.rect t).emb (ix2 r q))
  refine (code_apply _ _ r q).trans (Eq.trans ?_ (congrArg (G2 m c) (emb2 t r q)).symm)
  refine congrArg clip (congrArg₂ (· * ·) (blk0 m c t r q) ?_)
  refine congrArg (fun e => pow (IntOp.subi 127#32 e)) ((exp_apply _ _).trans ?_)
  exact congrArg (fun a => kexp (quot a)) (blk1 m c t r 0)

/-- What point `t` writes back to the scales is the whole-array function. -/
theorem flushed3_eq (c : Dev nD) (t : Fin cfg0.N) :
    (dats m 0 c).flushed 3 t = (win0_3.blk t).view.read (Elt Ideal) (G3 m c) := by
  rw [flushed3]
  unfold out0_3 k0_pay9 k0_pay10 k0_pay11
  rw [View.canon_unit_zero offs_zero, View.ld_unit_zero offs_zero]
  funext y
  obtain ⟨r, l, rfl⟩ : ∃ (r : Fin 768) (l : Fin 128), y = ix2 r l := ⟨y 0, y 1, eq_ix2 y⟩
  show k0_pay1 (F := Ideal) (k0_pay7 (k0_pay3 (iblk m c 1 t)) (k0_pay4 (iblk m c 1 t)) k0_pay5) k0_pay8 (ix2 r l)
    = G3 m c ((win0_3.rect t).emb (ix2 r l))
  refine (scale_apply _ _).trans (Eq.trans ?_ (congrArg (G3 m c) (emb3 t r l)).symm)
  exact congrArg (fun a => kscale (quot a)) (blk1 m c t r l)

theorem cover2 (i : S768x18432.Idx) : ∃ t : Fin cfg0.N, (cfg0.win 2).flush t = true ∧ i ∈ ((cfg0.win 2).blk t).view.set := by
  obtain ⟨r, p, rfl⟩ : ∃ (r : Fin 768) (p : Fin 18432), i = ix2 r p := ⟨i 0, i 1, eq_ix2 i⟩
  have h1 : p.val < 18432 := p.isLt
  let t : Fin cfg0.N := ⟨p.val / 1024, by show _ < 18; omega⟩
  refine ⟨t, flush0_2 t, ?_⟩
  show (ix2 r p : S768x18432.Idx) ∈ ((View.whole main_v2_0).slice (win0_2.rect t)).set
  rw [View.set_slice_whole]
  have e : (win0_2.rect t).emb (ix2 r (⟨p.val % 1024, by omega⟩ : Fin 1024)) = (ix2 r p : S768x18432.Idx) :=
    (emb2 t r _).trans (Shape.idx_ext₂ rfl (by show p.val / 1024 * 1024 + p.val % 1024 = p.val; omega))
  rw [← e]
  exact (win0_2.rect t).idx_mem _

/-- The last point writes every scale back. -/
theorem cover3 (i : S768x128.Idx) : ∃ t : Fin cfg0.N, (cfg0.win 3).flush t = true ∧ i ∈ ((cfg0.win 3).blk t).view.set := by
  let t : Fin cfg0.N := ⟨17, by show 17 < 18; omega⟩
  refine ⟨t, (flush0_3 t).2 rfl, ?_⟩
  show i ∈ ((View.whole main_v2_1).slice (win0_3.rect t)).set
  rw [View.set_slice_whole]
  obtain ⟨r, q, rfl⟩ : ∃ (r : Fin 768) (q : Fin 128), i = ix2 r q := ⟨i 0, i 1, eq_ix2 i⟩
  rw [← emb3 t r q]
  exact (win0_3.rect t).idx_mem _

theorem final2 (c : Dev nD) : (dats m 0 c).arrAt 2 cfg0.N = G2 m c :=
  (dats m 0 c).arrAt_eq_of_cover 2 (G2 m c) (fun t _ => flushed2_eq m c t) cover2

theorem final3 (c : Dev nD) : (dats m 0 c).arrAt 3 cfg0.N = G3 m c :=
  (dats m 0 c).arrAt_eq_of_cover 3 (G3 m c) (fun t _ => flushed3_eq m c t) cover3

end Cert.ActQIdeal.RefValue

/-! ## The reference -/

namespace Cert.ActCodesIdeal.RefValue

open Cert.ActCodesIdeal Cert.ActCodesIdeal.Gen Cert.Layer

variable (m : (ℓ : Loc nD τ sig) → Buf (Elt Ideal) ℓ)

/-- A row's exponent. -/
abbrev E (c : Dev nD) (r : Fin 768) : EReal :=
  rexp (m ((c : Thread nD τ).loc main_arg1) (ix1 r)) (quot (m ((c : Thread nD τ).loc main_arg1) (ix1 r)))

/-- The activations. -/
abbrev act (c : Dev nD) : S768x18432.Idx → EReal := m ((c : Thread nD τ).loc main_arg0)

/-- The codes. -/
abbrev G2 (c : Dev nD) : Buf (Elt Ideal) ((c : Thread nD τ).loc main_v1_0) :=
  fun i : S768x18432.Idx => clip (act m c i * Ideal.exp2 (0 - E m c (i 0)))

/-- The scales, on every lane. -/
abbrev G3 (c : Dev nD) : Buf (Elt Ideal) ((c : Thread nD τ).loc main_v1_1) :=
  fun i : S768x128.Idx => Ideal.exp2 (E m c (i 0))

theorem exp_apply (v : Vec Ideal S768x1 .f32) (r : Fin 768) :
    k0_pay1 v (ix2 r 0) = rexp (v (ix2 r 0)) (quot (v (ix2 r 0))) := by
  unfold k0_pay1
  rw [shapeCast_self v]
  exact rowExp_apply (M := 768) v _ _ _ _ _ r

theorem code_apply (v : Vec Ideal S768x1 .f32) (x : Vec Ideal S768x18432 .f32) (r : Fin 768) (q : Fin 18432) :
    k0_pay2 v x (ix2 r q) = clip (x (ix2 r q) * Ideal.exp2 (0 - k0_pay1 v (ix2 r 0))) := by
  unfold k0_pay2
  refine congrArg clip (congrArg (x (ix2 r q) * ·) ?_)
  rw [bcast_row]
  refine congrArg Ideal.exp2 (congrArg (· - k0_pay1 v (ix2 r 0)) ofBits_zero)

theorem scale_apply (v : Vec Ideal S768x1 .f32) (r : Fin 768) (l : Fin 128) :
    k0_pay3 v (ix2 r l) = Ideal.exp2 (k0_pay1 v (ix2 r 0)) := by
  unfold k0_pay3
  rw [bcast_row, shapeCast_self]; rfl

theorem V_rows (c : Dev nD) (r : Fin 768) (l : Fin 1) :
    V m c main_v0 (ix2 r l) = m ((c : Thread nD τ).loc main_arg1) (ix1 r) := by
  have h : V m c main_v0 = broadcastInDim S768x1 ![0] bcast_S768_S768x1_0 (m ((c : Thread nD τ).loc main_arg1)) := by
    unfold V; after_results
  rw [h, colOf_apply]

/-- An index of a block is the same index of the array: every block is its whole array. -/
theorem emb_whole (w : Pipeline.Window sig grid0) (t : Fin grid0.N) (h : ∀ a, w.index t a = 0)
    (y : (w.xblock (grid0.coords t)).Idx) (a : Fin w.shape.rank) : ((w.rect t).emb y a : Nat) = y a :=
  w.rect_emb_val_of_index_zero t a (h a) y

theorem blk0 (c : Dev nD) (t : Fin cfg0.N) (r : Fin 768) (k : Fin 18432) :
    iblk m c 0 t (ix2 r k) = m ((c : Thread nD τ).loc main_arg0) (ix2 r k) := by
  show V m c main_arg0 ((win0_0.rect t).emb (ix2 r k)) = _
  rw [V_main_arg0]
  exact congrArg _ (Shape.idx_ext₂ (emb_whole win0_0 t (fun _ => rfl) _ 0) (emb_whole win0_0 t (fun _ => rfl) _ 1))

theorem blk1 (c : Dev nD) (t : Fin cfg0.N) (r : Fin 768) (l : Fin 1) :
    iblk m c 1 t (ix2 r l) = m ((c : Thread nD τ).loc main_arg1) (ix1 r) := by
  show V m c main_v0 ((win0_1.rect t).emb (ix2 r l)) = _
  rw [← V_rows m c r l]
  exact congrArg _ (Shape.idx_ext₂ (emb_whole win0_1 t (fun _ => rfl) _ 0) (emb_whole win0_1 t (fun _ => rfl) _ 1))

theorem emb2 (t : Fin cfg0.N) (r : Fin 768) (q : Fin 18432) : (win0_2.rect t).emb (ix2 r q) = (ix2 r q : S768x18432.Idx) :=
  Shape.idx_ext₂ (emb_whole win0_2 t (fun _ => rfl) _ 0) (emb_whole win0_2 t (fun _ => rfl) _ 1)

theorem emb3 (t : Fin cfg0.N) (r : Fin 768) (q : Fin 128) : (win0_3.rect t).emb (ix2 r q) = (ix2 r q : S768x128.Idx) :=
  Shape.idx_ext₂ (emb_whole win0_3 t (fun _ => rfl) _ 0) (emb_whole win0_3 t (fun _ => rfl) _ 1)

/-- What point `t` writes back to output 2. -/
theorem flushed2 (c : Dev nD) (t : Fin cfg0.N) :
    (dats m 0 c).flushed 2 t = (cfg0.win 2).cut (grid0.coords t) (out0_2 (iblk m c 0 t) (iblk m c 1 t)) := by
  show (cfg0.win 2).cut (grid0.coords t) ((dats m 0 c).after 2 t) = _
  rw [after0_2]

/-- What point `t` writes back to output 3. -/
theorem flushed3 (c : Dev nD) (t : Fin cfg0.N) :
    (dats m 0 c).flushed 3 t = (cfg0.win 3).cut (grid0.coords t) (out0_3 (iblk m c 0 t) (iblk m c 1 t)) := by
  show (cfg0.win 3).cut (grid0.coords t) ((dats m 0 c).after 3 t) = _
  rw [after0_3]

/-- The frame run with the two results' arrays named, the arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v1_0) = (dats m 0 c).arrAt 2 cfg0.N
      ∧ r.2.mem ((c : Thread nD τ).loc main_v1_1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 2, (h c).1 3,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

theorem exp_blk (c : Dev nD) (t : Fin cfg0.N) (r : Fin 768) : k0_pay1 (iblk m c 1 t) (ix2 r 0) = E m c r := by
  refine (exp_apply _ r).trans ?_
  exact congrArg (fun a => rexp a (quot a)) (blk1 m c t r 0)

theorem flushed2_eq (c : Dev nD) (t : Fin cfg0.N) :
    (dats m 0 c).flushed 2 t = (win0_2.blk t).view.read (Elt Ideal) (G2 m c) := by
  rw [flushed2]
  unfold out0_2
  rw [View.canon_unit_zero offs_zero, View.ld_unit_zero offs_zero, View.ld_unit_zero offs_zero]
  funext y
  obtain ⟨r, q, rfl⟩ : ∃ (r : Fin 768) (q : Fin 18432), y = ix2 r q := ⟨y 0, y 1, eq_ix2 y⟩
  show k0_pay2 (iblk m c 1 t) (iblk m c 0 t) (ix2 r q) = G2 m c ((win0_2.rect t).emb (ix2 r q))
  refine (code_apply _ _ r q).trans (Eq.trans ?_ (congrArg (G2 m c) (emb2 t r q)).symm)
  exact congrArg clip (congrArg₂ (· * ·) (blk0 m c t r q) (congrArg (fun e => Ideal.exp2 (0 - e)) (exp_blk m c t r)))

theorem flushed3_eq (c : Dev nD) (t : Fin cfg0.N) :
    (dats m 0 c).flushed 3 t = (win0_3.blk t).view.read (Elt Ideal) (G3 m c) := by
  rw [flushed3]
  unfold out0_3
  rw [View.canon_unit_zero offs_zero, View.ld_unit_zero offs_zero]
  funext y
  obtain ⟨r, l, rfl⟩ : ∃ (r : Fin 768) (l : Fin 128), y = ix2 r l := ⟨y 0, y 1, eq_ix2 y⟩
  show k0_pay3 (iblk m c 1 t) (ix2 r l) = G3 m c ((win0_3.rect t).emb (ix2 r l))
  refine (scale_apply _ r l).trans (Eq.trans ?_ (congrArg (G3 m c) (emb3 t r l)).symm)
  exact congrArg Ideal.exp2 (exp_blk m c t r)

theorem cover2 (i : S768x18432.Idx) : ∃ t : Fin cfg0.N, (cfg0.win 2).flush t = true ∧ i ∈ ((cfg0.win 2).blk t).view.set := by
  let t : Fin cfg0.N := ⟨0, by decide⟩
  refine ⟨t, by decide, ?_⟩
  show i ∈ ((View.whole main_v1_0).slice (win0_2.rect t)).set
  rw [View.set_slice_whole]
  obtain ⟨r, q, rfl⟩ : ∃ (r : Fin 768) (q : Fin 18432), i = ix2 r q := ⟨i 0, i 1, eq_ix2 i⟩
  rw [← emb2 t r q]
  exact (win0_2.rect t).idx_mem _

theorem cover3 (i : S768x128.Idx) : ∃ t : Fin cfg0.N, (cfg0.win 3).flush t = true ∧ i ∈ ((cfg0.win 3).blk t).view.set := by
  let t : Fin cfg0.N := ⟨0, by decide⟩
  refine ⟨t, by decide, ?_⟩
  show i ∈ ((View.whole main_v1_1).slice (win0_3.rect t)).set
  rw [View.set_slice_whole]
  obtain ⟨r, q, rfl⟩ : ∃ (r : Fin 768) (q : Fin 128), i = ix2 r q := ⟨i 0, i 1, eq_ix2 i⟩
  rw [← emb3 t r q]
  exact (win0_3.rect t).idx_mem _

theorem final2 (c : Dev nD) : (dats m 0 c).arrAt 2 cfg0.N = G2 m c :=
  (dats m 0 c).arrAt_eq_of_cover 2 (G2 m c) (fun t _ => flushed2_eq m c t) cover2

theorem final3 (c : Dev nD) : (dats m 0 c).arrAt 3 cfg0.N = G3 m c :=
  (dats m 0 c).arrAt_eq_of_cover 3 (G3 m c) (fun t _ => flushed3_eq m c t) cover3

end Cert.ActCodesIdeal.RefValue

end
-- ==== Proof.Down.lean ====
/-
  THE DOWN PRODUCT AND ITS REFERENCE. The kernel walks the 7168 columns in fourteen blocks of 512. At each block it
  multiplies the whole matrix of activation codes by the block's columns of the weight, scales the product by row and by
  column and adds the residual. `Cert.Layer.outAt` is the same thing as one function of the whole arrays.
  `Cert.DownIdeal.RefValue.final` says the kernel's result array is that function, `Cert.OutIdeal.RefValue.final` says
  so of the reference.
-/
module

public import proofs.«01_k».proof.Proof.Common
public import proofs.«01_k».proof.Proof.Gen.DownIdeal.Value
public import proofs.«01_k».proof.Proof.Gen.OutIdeal.Value
public import Idealize.ShloMosaic.Lib.StableHlo.Run

@[expose] public section

noncomputable section

open Idealize.ShloMosaic Idealize.ShloMosaic.TcCoe Idealize.SL.Sem Idealize.ShloMosaic.ValueIdx
open Idealize.ShloMosaic.Pipeline (Dat)

namespace Cert.Layer

/-- The layer's output: the residual plus the scaled product of the activation and the down weight. -/
def outAt (a : (⟨2, ![768, 18432]⟩ : Shape).Idx → EReal) (sa : (⟨1, ![768]⟩ : Shape).Idx → EReal)
    (w : (⟨2, ![18432, 7168]⟩ : Shape).Idx → EReal) (s : (⟨1, ![7168]⟩ : Shape).Idx → EReal)
    (h : (⟨2, ![768, 7168]⟩ : Shape).Idx → EReal) : (⟨2, ![768, 7168]⟩ : Shape).Idx → EReal :=
  fun i => h i + proj a w (fun r => sa (ix1 r)) (fun c => s (ix1 c)) (i 0) (i 1)

end Cert.Layer

/-! ## The kernel -/

namespace Cert.DownIdeal.RefValue

open Cert.DownIdeal Cert.DownIdeal.Gen Cert.Layer

variable (m : (ℓ : Loc nD τ sig) → Buf (Elt Ideal) ℓ)

/-- The whole-array function of the arguments. -/
abbrev G (c : Dev nD) : Buf (Elt Ideal) ((c : Thread nD τ).loc main_v3) :=
  outAt (m ((c : Thread nD τ).loc main_arg0)) (m ((c : Thread nD τ).loc main_arg1)) (m ((c : Thread nD τ).loc main_arg2))
    (m ((c : Thread nD τ).loc main_arg3)) (m ((c : Thread nD τ).loc main_arg4))

/-- One block's stored value, read at an index. -/
theorem pay_apply (a : Vec Ideal S768x18432 .fp8e4m3) (w : Vec Ideal S18432x512 .fp8e4m3) (h : Vec Ideal S768x512 .f32)
    (sa : Vec Ideal S768x1 .f32) (s : Vec Ideal S1x512 .f32) (r : Fin 768) (q : Fin 512) :
    k0_pay1 a w h sa s (ix2 r q) = h (ix2 r q) + proj a w (fun r => sa (ix2 r 0)) (fun c => s (ix2 0 c)) r q := by
  unfold k0_pay1
  rw [truncf_apply, addf_apply, shapeCast_self, shapeCast_self]
  exact congrArg (h (ix2 r q) + ·) (proj_apply a w none sa s _ _ r q)

/-- Where each window's block sits at a point: the codes, the row scales and everything's rows at the start, the columns
    at the point's number. -/
theorem idx_facts : ∀ t : Fin cfg0.N, win0_0.index t 0 = 0 ∧ win0_0.index t 1 = 0 ∧ win0_1.index t 0 = 0 ∧ win0_1.index t 1 = 0
    ∧ win0_2.index t 0 = 0 ∧ win0_2.index t 1 = t.val ∧ win0_3.index t 0 = 0 ∧ win0_3.index t 1 = t.val
    ∧ win0_4.index t 0 = 0 ∧ win0_4.index t 1 = t.val ∧ win0_5.index t 0 = 0 ∧ win0_5.index t 1 = t.val :=
  (by decide +kernel : ∀ t : Fin grid0.N, win0_0.index t 0 = 0 ∧ win0_0.index t 1 = 0 ∧ win0_1.index t 0 = 0 ∧ win0_1.index t 1 = 0
    ∧ win0_2.index t 0 = 0 ∧ win0_2.index t 1 = t.val ∧ win0_3.index t 0 = 0 ∧ win0_3.index t 1 = t.val
    ∧ win0_4.index t 0 = 0 ∧ win0_4.index t 1 = t.val ∧ win0_5.index t 0 = 0 ∧ win0_5.index t 1 = t.val)

theorem lt14 (t : Fin cfg0.N) : t.val < 14 := t.isLt

/-- Column `q` of block `t` as a column of the whole array. -/
abbrev col (t : Fin cfg0.N) (q : Fin 512) : Fin 7168 := ⟨t.val * 512 + q.val, by have := lt14 t; have := q.isLt; omega⟩

/-- The row scales as the region finds them: each row's scale on every lane. -/
theorem V_rows (c : Dev nD) (r : Fin 768) (l : Fin 128) :
    V m c main_v1 (ix2 r l) = m ((c : Thread nD τ).loc main_arg1) (ix1 r) := by
  have h : V m c main_v1 = broadcastInDim S768x128 ![0, 1] bcast_S768x1_S768x128_0_1
      (broadcastInDim S768x1 ![0] bcast_S768_S768x1_0 (m ((c : Thread nD τ).loc main_arg1))) := by
    unfold V; after_results
  rw [h, lanesOf_apply, colOf_apply]

/-- The column scales as the region finds them: one row. -/
theorem V_cols (c : Dev nD) (z : Fin 1) (q : Fin 7168) :
    V m c main_v2 (ix2 z q) = m ((c : Thread nD τ).loc main_arg3) (ix1 q) := by
  have h : V m c main_v2 = shapeCast S1x7168 (m ((c : Thread nD τ).loc main_arg3)) shapeCasts_S7168_S1x7168 := by
    unfold V; after_results; rfl
  rw [h, rowOf_apply]

theorem blk0 (c : Dev nD) (t : Fin cfg0.N) (r : Fin 768) (k : Fin 18432) :
    iblk m c 0 t (ix2 r k) = m ((c : Thread nD τ).loc main_arg0) (ix2 r k) := by
  show V m c main_arg0 ((win0_0.rect t).emb (ix2 r k)) = _
  rw [V_main_arg0]
  refine congrArg _ (Shape.idx_ext₂ ?_ ?_)
  · exact win0_0.rect_emb_val_of_index_zero t 0 (idx_facts t).1 _
  · exact win0_0.rect_emb_val_of_index_zero t 1 (idx_facts t).2.1 _

theorem blk1 (c : Dev nD) (t : Fin cfg0.N) (r : Fin 768) (l : Fin 128) :
    iblk m c 1 t (ix2 r l) = m ((c : Thread nD τ).loc main_arg1) (ix1 r) := by
  show V m c main_v1 ((win0_1.rect t).emb (ix2 r l)) = _
  rw [← V_rows m c r l]
  refine congrArg _ (Shape.idx_ext₂ ?_ ?_)
  · exact win0_1.rect_emb_val_of_index_zero t 0 (idx_facts t).2.2.1 _
  · exact win0_1.rect_emb_val_of_index_zero t 1 (idx_facts t).2.2.2.1 _

theorem blk2 (c : Dev nD) (t : Fin cfg0.N) (k : Fin 18432) (q : Fin 512) :
    iblk m c 2 t (ix2 k q) = m ((c : Thread nD τ).loc main_arg2) (ix2 k (col t q)) := by
  show V m c main_arg2 ((win0_2.rect t).emb (ix2 k q)) = _
  rw [V_main_arg2]
  refine congrArg _ (Shape.idx_ext₂ ?_ ?_)
  · exact win0_2.rect_emb_val_of_index_zero t 0 (idx_facts t).2.2.2.2.1 _
  · refine (win0_2.rect_emb_val t _ 1).trans ?_
    rw [(idx_facts t).2.2.2.2.2.1]; rfl

theorem blk3 (c : Dev nD) (t : Fin cfg0.N) (z : Fin 1) (q : Fin 512) :
    iblk m c 3 t (ix2 z q) = m ((c : Thread nD τ).loc main_arg3) (ix1 (col t q)) := by
  show V m c main_v2 ((win0_3.rect t).emb (ix2 z q)) = _
  rw [← V_cols m c z (col t q)]
  refine congrArg _ (Shape.idx_ext₂ ?_ ?_)
  · exact win0_3.rect_emb_val_of_index_zero t 0 (idx_facts t).2.2.2.2.2.2.1 _
  · refine (win0_3.rect_emb_val t _ 1).trans ?_
    rw [(idx_facts t).2.2.2.2.2.2.2.1]; rfl

theorem blk4 (c : Dev nD) (t : Fin cfg0.N) (r : Fin 768) (q : Fin 512) :
    iblk m c 4 t (ix2 r q) = m ((c : Thread nD τ).loc main_arg4) (ix2 r (col t q)) := by
  show V m c main_arg4 ((win0_4.rect t).emb (ix2 r q)) = _
  rw [V_main_arg4]
  refine congrArg _ (Shape.idx_ext₂ ?_ ?_)
  · exact win0_4.rect_emb_val_of_index_zero t 0 (idx_facts t).2.2.2.2.2.2.2.2.1 _
  · refine (win0_4.rect_emb_val t _ 1).trans ?_
    rw [(idx_facts t).2.2.2.2.2.2.2.2.2.1]; rfl

/-- An index of the result window's block as an index of the array. -/
theorem emb5 (t : Fin cfg0.N) (r : Fin 768) (q : Fin 512) :
    (win0_5.rect t).emb (ix2 r q) = (ix2 r (col t q) : S768x7168.Idx) := by
  refine Shape.idx_ext₂ ?_ ?_
  · exact win0_5.rect_emb_val_of_index_zero t 0 (idx_facts t).2.2.2.2.2.2.2.2.2.2.1 _
  · refine (win0_5.rect_emb_val t _ 1).trans ?_
    rw [(idx_facts t).2.2.2.2.2.2.2.2.2.2.2]; rfl

/-- What point `t` writes back is block `t` of the whole-array function. -/
theorem flushed_eq (c : Dev nD) (t : Fin cfg0.N) :
    (dats m 0 c).flushed 5 t = (win0_5.blk t).view.read (Elt Ideal) (G m c) := by
  rw [Value.flushed5]
  unfold out0_5
  rw [View.canon_unit_zero offs_zero, View.ld_unit_zero offs_zero, View.ld_unit_zero offs_zero, View.ld_unit_zero offs_zero,
    View.ld_unit_zero offs_zero]
  funext y
  obtain ⟨r, q, rfl⟩ : ∃ (r : Fin 768) (q : Fin 512), y = ix2 r q := ⟨y 0, y 1, eq_ix2 y⟩
  show k0_pay1 (iblk m c 0 t) (iblk m c 2 t) (iblk m c 4 t) (View.ld (iblk m c 1 t) r0_3) (iblk m c 3 t) (ix2 r q)
    = G m c ((win0_5.rect t).emb (ix2 r q))
  refine (pay_apply _ _ _ _ _ r q).trans (Eq.trans ?_ (congrArg (G m c) (emb5 t r q)).symm)
  refine congrArg₂ (· + ·) (blk4 m c t r q)
    (proj_congr (fun k => blk0 m c t r k) (fun k => blk2 m c t k q) ?_ ?_)
  · have e : View.ld (iblk m c 1 t) r0_3 (ix2 r 0) = iblk m c 1 t (ix2 r 0) := by
      refine congrArg (iblk m c 1 t) (Shape.idx_ext₂ ?_ ?_)
      · show 0 + 1 * r.val = r.val; omega
      · rfl
    exact e.trans (blk1 m c t r 0)
  · exact blk3 m c t 0 q

/-- The blocks cover the result. -/
theorem cover (i : S768x7168.Idx) : ∃ t : Fin cfg0.N, (cfg0.win 5).flush t = true ∧ i ∈ ((cfg0.win 5).blk t).view.set := by
  obtain ⟨r, p, rfl⟩ : ∃ (r : Fin 768) (p : Fin 7168), i = ix2 r p := ⟨i 0, i 1, eq_ix2 i⟩
  have h1 : p.val < 7168 := p.isLt
  let t : Fin cfg0.N := ⟨p.val / 512, by show _ < 14; omega⟩
  refine ⟨t, flush0_5 t, ?_⟩
  show (ix2 r p : S768x7168.Idx) ∈ ((View.whole main_v3).slice (win0_5.rect t)).set
  rw [View.set_slice_whole]
  have e : (win0_5.rect t).emb (ix2 r (⟨p.val % 512, by omega⟩ : Fin 512)) = (ix2 r p : S768x7168.Idx) :=
    (emb5 t r _).trans (Shape.idx_ext₂ rfl (by show p.val / 512 * 512 + p.val % 512 = p.val; omega))
  rw [← e]
  exact (win0_5.rect t).idx_mem _

/-- The result array after the run is the whole-array function of the arguments. -/
theorem final (c : Dev nD) : (dats m 0 c).arrAt 5 cfg0.N = G m c :=
  (dats m 0 c).arrAt_eq_of_cover 5 (G m c) (fun t _ => flushed_eq m c t) cover

end Cert.DownIdeal.RefValue

/-! ## The reference -/

namespace Cert.OutIdeal.RefValue

open Cert.OutIdeal Cert.OutIdeal.Gen Cert.Layer

variable (m : (ℓ : Loc nD τ sig) → Buf (Elt Ideal) ℓ)

/-- The whole-array function of the arguments. -/
abbrev G (c : Dev nD) : Buf (Elt Ideal) ((c : Thread nD τ).loc main_v2) :=
  outAt (m ((c : Thread nD τ).loc main_arg0)) (m ((c : Thread nD τ).loc main_arg1)) (m ((c : Thread nD τ).loc main_arg2))
    (m ((c : Thread nD τ).loc main_arg3)) (m ((c : Thread nD τ).loc main_arg4))

/-- The stored value, read at an index. -/
theorem pay_apply (h : Vec Ideal S768x7168 .f32) (a : Vec Ideal S768x18432 .fp8e4m3) (sa : Vec Ideal S768x1 .f32)
    (w : Vec Ideal S18432x7168 .fp8e4m3) (s : Vec Ideal S1x7168 .f32) (r : Fin 768) (q : Fin 7168) :
    k0_pay1 h a sa w s (ix2 r q) = h (ix2 r q) + proj a w (fun r => sa (ix2 r 0)) (fun c => s (ix2 0 c)) r q := by
  unfold k0_pay1
  rw [truncf_apply, addf_apply, shapeCast_self, shapeCast_self]
  exact congrArg (h (ix2 r q) + ·) (proj_apply a w none sa s _ _ r q)

theorem V_rows (c : Dev nD) (r : Fin 768) (l : Fin 1) :
    V m c main_v0 (ix2 r l) = m ((c : Thread nD τ).loc main_arg1) (ix1 r) := by
  have h : V m c main_v0 = broadcastInDim S768x1 ![0] bcast_S768_S768x1_0 (m ((c : Thread nD τ).loc main_arg1)) := by
    unfold V; after_results
  rw [h, colOf_apply]

theorem V_cols (c : Dev nD) (z : Fin 1) (q : Fin 7168) :
    V m c main_v1 (ix2 z q) = m ((c : Thread nD τ).loc main_arg3) (ix1 q) := by
  have h : V m c main_v1 = shapeCast S1x7168 (m ((c : Thread nD τ).loc main_arg3)) shapeCasts_S7168_S1x7168 := by
    unfold V; after_results; rfl
  rw [h, rowOf_apply]

/-- An index of a block is the same index of the array: every block is its whole array. -/
theorem emb_whole (w : Pipeline.Window sig grid0) (t : Fin grid0.N) (h : ∀ a, w.index t a = 0)
    (y : (w.xblock (grid0.coords t)).Idx) (a : Fin w.shape.rank) : ((w.rect t).emb y a : Nat) = y a :=
  w.rect_emb_val_of_index_zero t a (h a) y

theorem blk0 (c : Dev nD) (t : Fin cfg0.N) (r : Fin 768) (k : Fin 18432) :
    iblk m c 0 t (ix2 r k) = m ((c : Thread nD τ).loc main_arg0) (ix2 r k) := by
  show V m c main_arg0 ((win0_0.rect t).emb (ix2 r k)) = _
  rw [V_main_arg0]
  exact congrArg _ (Shape.idx_ext₂ (emb_whole win0_0 t (fun _ => rfl) _ 0) (emb_whole win0_0 t (fun _ => rfl) _ 1))

theorem blk1 (c : Dev nD) (t : Fin cfg0.N) (r : Fin 768) (l : Fin 1) :
    iblk m c 1 t (ix2 r l) = m ((c : Thread nD τ).loc main_arg1) (ix1 r) := by
  show V m c main_v0 ((win0_1.rect t).emb (ix2 r l)) = _
  rw [← V_rows m c r l]
  exact congrArg _ (Shape.idx_ext₂ (emb_whole win0_1 t (fun _ => rfl) _ 0) (emb_whole win0_1 t (fun _ => rfl) _ 1))

theorem blk2 (c : Dev nD) (t : Fin cfg0.N) (k : Fin 18432) (q : Fin 7168) :
    iblk m c 2 t (ix2 k q) = m ((c : Thread nD τ).loc main_arg2) (ix2 k q) := by
  show V m c main_arg2 ((win0_2.rect t).emb (ix2 k q)) = _
  rw [V_main_arg2]
  exact congrArg _ (Shape.idx_ext₂ (emb_whole win0_2 t (fun _ => rfl) _ 0) (emb_whole win0_2 t (fun _ => rfl) _ 1))

theorem blk3 (c : Dev nD) (t : Fin cfg0.N) (z : Fin 1) (q : Fin 7168) :
    iblk m c 3 t (ix2 z q) = m ((c : Thread nD τ).loc main_arg3) (ix1 q) := by
  show V m c main_v1 ((win0_3.rect t).emb (ix2 z q)) = _
  rw [← V_cols m c z q]
  exact congrArg _ (Shape.idx_ext₂ (emb_whole win0_3 t (fun _ => rfl) _ 0) (emb_whole win0_3 t (fun _ => rfl) _ 1))

theorem blk4 (c : Dev nD) (t : Fin cfg0.N) (r : Fin 768) (q : Fin 7168) :
    iblk m c 4 t (ix2 r q) = m ((c : Thread nD τ).loc main_arg4) (ix2 r q) := by
  show V m c main_arg4 ((win0_4.rect t).emb (ix2 r q)) = _
  rw [V_main_arg4]
  exact congrArg _ (Shape.idx_ext₂ (emb_whole win0_4 t (fun _ => rfl) _ 0) (emb_whole win0_4 t (fun _ => rfl) _ 1))

theorem emb5 (t : Fin cfg0.N) (r : Fin 768) (q : Fin 7168) :
    (win0_5.rect t).emb (ix2 r q) = (ix2 r q : S768x7168.Idx) :=
  Shape.idx_ext₂ (emb_whole win0_5 t (fun _ => rfl) _ 0) (emb_whole win0_5 t (fun _ => rfl) _ 1)

/-- What the one point writes back is the whole-array function. -/
theorem flushed_eq (c : Dev nD) (t : Fin cfg0.N) :
    (dats m 0 c).flushed 5 t = (win0_5.blk t).view.read (Elt Ideal) (G m c) := by
  rw [Value.flushed5]
  unfold out0_5
  rw [View.canon_unit_zero offs_zero, View.ld_unit_zero offs_zero, View.ld_unit_zero offs_zero, View.ld_unit_zero offs_zero,
    View.ld_unit_zero offs_zero, View.ld_unit_zero offs_zero]
  funext y
  obtain ⟨r, q, rfl⟩ : ∃ (r : Fin 768) (q : Fin 7168), y = ix2 r q := ⟨y 0, y 1, eq_ix2 y⟩
  show k0_pay1 (iblk m c 4 t) (iblk m c 0 t) (iblk m c 1 t) (iblk m c 2 t) (iblk m c 3 t) (ix2 r q)
    = G m c ((win0_5.rect t).emb (ix2 r q))
  refine (pay_apply _ _ _ _ _ r q).trans (Eq.trans ?_ (congrArg (G m c) (emb5 t r q)).symm)
  refine congrArg₂ (· + ·) (blk4 m c t r q)
    (proj_congr (fun k => blk0 m c t r k) (fun k => blk2 m c t k q) ?_ ?_)
  · exact blk1 m c t r 0
  · exact blk3 m c t 0 q

/-- The one block covers the result. -/
theorem cover (i : S768x7168.Idx) : ∃ t : Fin cfg0.N, (cfg0.win 5).flush t = true ∧ i ∈ ((cfg0.win 5).blk t).view.set := by
  let t : Fin cfg0.N := ⟨0, by decide⟩
  refine ⟨t, by decide, ?_⟩
  show i ∈ ((View.whole main_v2).slice (win0_5.rect t)).set
  rw [View.set_slice_whole]
  obtain ⟨r, q, rfl⟩ : ∃ (r : Fin 768) (q : Fin 7168), i = ix2 r q := ⟨i 0, i 1, eq_ix2 i⟩
  rw [← emb5 t r q]
  exact (win0_5.rect t).idx_mem _

/-- The result array after the run is the whole-array function of the arguments. -/
theorem final (c : Dev nD) : (dats m 0 c).arrAt 5 cfg0.N = G m c :=
  (dats m 0 c).arrAt_eq_of_cover 5 (G m c) (fun t _ => flushed_eq m c t) cover

end Cert.OutIdeal.RefValue

end
-- ==== Proof.lean ====
/-
  THE CLAIMS about the second half of the layer, proved: every run of the four kernels, of their idealizations and of the
  references is safe and ends with its counters at zero; the idealizations run as the kernels do; and over the extended
  reals each kernel's results are its reference's: of the gate/up and down products whatever the arguments hold, of the
  activation codes when no row's largest magnitude exceeds the largest finite number of its format, of the output
  projection and its normalised codes when no norm weight's magnitude does.
-/
module

public import proofs.«01_k».proof.Proof.OprojFrame
public import proofs.«01_k».proof.Proof.OprojSum
public import proofs.«01_k».proof.Proof.HMid
public import proofs.«01_k».proof.Proof.GateUp
public import proofs.«01_k».proof.Proof.MlpAct
public import proofs.«01_k».proof.Proof.ActQ
public import proofs.«01_k».proof.Proof.Down
public import proofs.«01_k».proof.Defs
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.MlpActIdeal
public import proofs.«01_k».proof.Proof.Gen.MlpActIdeal.Skeleton
public import proofs.«01_k».proof.Proof.Gen.MlpActIdeal.Launch
public import proofs.«01_k».proof.Proof.Gen.MlpActIdeal.Points
public import proofs.«01_k».proof.Proof.Gen.MlpActIdeal.Frame
public import proofs.«01_k».proof.Proof.Gen.ActQ
public import proofs.«01_k».proof.Proof.Gen.ActQ.Skeleton
public import proofs.«01_k».proof.Proof.Gen.ActQ.Launch
public import proofs.«01_k».proof.Proof.Gen.ActQ.Points
public import proofs.«01_k».proof.Proof.Gen.ActQ.Frame
public import proofs.«01_k».proof.Proof.Gen.ActQIdeal
public import proofs.«01_k».proof.Proof.Gen.ActQIdeal.Skeleton
public import proofs.«01_k».proof.Proof.Gen.ActQIdeal.Launch
public import proofs.«01_k».proof.Proof.Gen.ActQIdeal.Points
public import proofs.«01_k».proof.Proof.Gen.ActQIdeal.Frame
public import proofs.«01_k».proof.Proof.Gen.ActCodesIdeal
public import proofs.«01_k».proof.Proof.Gen.ActCodesIdeal.Skeleton
public import proofs.«01_k».proof.Proof.Gen.ActCodesIdeal.Launch
public import proofs.«01_k».proof.Proof.Gen.ActCodesIdeal.Points
public import proofs.«01_k».proof.Proof.Gen.ActCodesIdeal.Frame
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.Oproj
public import proofs.«01_k».proof.Proof.Gen.Oproj.Skeleton
public import proofs.«01_k».proof.Proof.Gen.Oproj.Launch
public import proofs.«01_k».proof.Proof.Gen.Oproj.Points
public import proofs.«01_k».proof.Proof.Gen.Oproj.Loops
public import proofs.«01_k».proof.Proof.Gen.Oproj.Frame
public import proofs.«01_k».proof.Proof.Gen.OprojIdeal
public import proofs.«01_k».proof.Proof.Gen.OprojIdeal.Skeleton
public import proofs.«01_k».proof.Proof.Gen.OprojIdeal.Launch
public import proofs.«01_k».proof.Proof.Gen.OprojIdeal.Points
public import proofs.«01_k».proof.Proof.Gen.OprojIdeal.Loops
public import proofs.«01_k».proof.Proof.Gen.OprojIdeal.Frame
public import proofs.«01_k».proof.Proof.Gen.HMidIdeal
public import proofs.«01_k».proof.Proof.Gen.HMidIdeal.Skeleton
public import proofs.«01_k».proof.Proof.Gen.HMidIdeal.Launch
public import proofs.«01_k».proof.Proof.Gen.HMidIdeal.Points
public import proofs.«01_k».proof.Proof.Gen.HMidIdeal.Frame
public import proofs.«01_k».proof.Proof.Gen.Pre_norm_weights_finite
public import proofs.«01_k».proof.Proof.Gen.Pre_maxima_finite
public import Idealize.ShloMosaic.Lib.ReduceAll
public import Idealize.ShloMosaic.Adequacy
public import Idealize.ShloMosaic.Init

@[expose] public section

noncomputable section

namespace Cert.Proof

open Idealize.ShloMosaic Idealize.ShloMosaic.TcCoe Idealize.SL.Sem

/-- The gate/up kernel and its reference leave the same three arrays. -/
theorem algebraic_gateup : Cert.algebraic_GateUpIdeal_MlpActIdeal (hGateUpIdeal := Cert.GateUpIdeal.Gen.facts)
    (hMlpActIdeal := Cert.MlpActIdeal.Gen.facts) := by
  intro m g m' g' _ hargs
  refine ⟨fun c => GateUpIdeal.RefValue.G6 m c, fun c => GateUpIdeal.RefValue.G7 m c, fun c => GateUpIdeal.RefValue.G8 m c, ?_, ?_⟩
  · refine (θ_run (Cert.GateUpIdeal.defs (F := Ideal)) _ _).mono (fun r h c => ?_) (GateUpIdeal.Value.run_blocks (F := Ideal) m g)
    obtain ⟨h6, h7, h8, ha⟩ := h c
    exact ⟨h6.trans (GateUpIdeal.RefValue.final6 m c), h7.trans (GateUpIdeal.RefValue.final7 m c),
      h8.trans (GateUpIdeal.RefValue.final8 m c), ha⟩
  · refine (θ_run (Cert.MlpActIdeal.defs (F := Ideal)) _ _).mono (fun r h c => ?_) (MlpActIdeal.Run.run_blocks (F := Ideal) m' g')
    obtain ⟨h6, h7, h8, ha⟩ := h c
    have e : MlpActIdeal.RefValue.A m' c = GateUpIdeal.RefValue.A m c := by
      obtain ⟨e0, e1, e2, e3, e4, e5⟩ := hargs c
      unfold MlpActIdeal.RefValue.A GateUpIdeal.RefValue.A
      rw [e0, e1, e2, e3, e4, e5]
    refine ⟨(h6.trans (MlpActIdeal.RefValue.final6 m' c)).trans e, (h7.trans (MlpActIdeal.RefValue.final7 m' c)).trans e,
      (h8.trans (MlpActIdeal.RefValue.final8 m' c)).trans ?_, ha⟩
    exact congrArg (fun (a : MlpActIdeal.S768x18432.Idx → EReal) (i : MlpActIdeal.S768x128.Idx) => Cert.Layer.amaxAt a (i 0)) e

/-- The precondition, of one row. -/
theorem finite_row (x : FVec Ideal Cert.Pre_maxima_finite.S768x18432 .f32) (a : FVec Ideal Cert.Pre_maxima_finite.S768 .f32)
    (h : Cert.Pre_maxima_finite.fn (F := Ideal) x a = fun _ => 1#1) (r : Fin 768) :
    a (ValueIdx.ix1 r) ≤ FloatOps.ofBits (F := Ideal) .f32 0x7F7FFFFF#32 := by
  have : Subsingleton Cert.Pre_maxima_finite.S_.Idx := ⟨fun i j => funext fun k => k.elim0⟩
  have e := Host.reduce_andi_all _ _ _ _ (fun k => k.elim0) (congrFun h fun k => k.elim0) (ValueIdx.ix1 r)
  by_contra c
  have z : BitVec.ofBool (decide (a (ValueIdx.ix1 r) ≤ FloatOps.ofBits (F := Ideal) .f32 0x7F7FFFFF#32)) = 1#1 := e
  rw [decide_eq_false c] at z
  exact absurd z (by decide)

/-- The activation-code kernel and its reference leave the same codes and scales. -/
theorem algebraic_actq : Cert.algebraic_ActQIdeal_ActCodesIdeal_pre_maxima_finite (hActQIdeal := Cert.ActQIdeal.Gen.facts)
    (hActCodesIdeal := Cert.ActCodesIdeal.Gen.facts) (hPre_maxima_finite := Cert.Pre_maxima_finite.Gen.facts) := by
  intro m g m' g' hpre hargs
  refine ⟨fun c => ActQIdeal.RefValue.G2 m c, fun c => ActQIdeal.RefValue.G3 m c, ?_, ?_⟩
  · refine (θ_run (Cert.ActQIdeal.defs (F := Ideal)) _ _).mono (fun r h c => ?_) (ActQIdeal.RefValue.run_blocks m g)
    obtain ⟨h2, h3, ha⟩ := h c
    exact ⟨h2.trans (ActQIdeal.RefValue.final2 m c), h3.trans (ActQIdeal.RefValue.final3 m c), ha⟩
  · refine (θ_run (Cert.ActCodesIdeal.defs (F := Ideal)) _ _).mono (fun r h c => ?_) (ActCodesIdeal.RefValue.run_blocks m' g')
    obtain ⟨h2, h3, ha⟩ := h c
    obtain ⟨e0, e1⟩ := hargs c
    have s := fun q : Fin 768 => Cert.Layer.scales_of_bound (finite_row _ _ (hpre c) q)
    refine ⟨(h2.trans (ActCodesIdeal.RefValue.final2 m' c)).trans ?_, (h3.trans (ActCodesIdeal.RefValue.final3 m' c)).trans ?_, ha⟩
    · funext i
      unfold ActCodesIdeal.RefValue.G2 ActCodesIdeal.RefValue.E ActCodesIdeal.RefValue.act
      rw [e0, e1]
      exact congrArg (fun z => Cert.Layer.clip (ActQIdeal.RefValue.act m c i * z)) (s (i 0)).2.symm
    · funext i
      unfold ActCodesIdeal.RefValue.G3 ActCodesIdeal.RefValue.E
      rw [e1]
      exact (s (i 0)).1.symm

/-- The down kernel and its reference leave the same array. -/
theorem algebraic_down : Cert.algebraic_DownIdeal_OutIdeal (hDownIdeal := Cert.DownIdeal.Gen.facts)
    (hOutIdeal := Cert.OutIdeal.Gen.facts) := by
  intro m g m' g' _ hargs
  refine ⟨fun c => DownIdeal.RefValue.G m c, ?_, ?_⟩
  · refine (θ_run (Cert.DownIdeal.defs (F := Ideal)) _ _).mono (fun r h c => ?_) (DownIdeal.Value.run_blocks (F := Ideal) m g)
    obtain ⟨hv, ha⟩ := h c
    exact ⟨hv.trans (DownIdeal.RefValue.final m c), ha⟩
  · refine (θ_run (Cert.OutIdeal.defs (F := Ideal)) _ _).mono (fun r h c => ?_) (OutIdeal.Value.run_blocks (F := Ideal) m' g')
    obtain ⟨hv, ha⟩ := h c
    refine ⟨(hv.trans (OutIdeal.RefValue.final m' c)).trans ?_, ha⟩
    obtain ⟨e0, e1, e2, e3, e4⟩ := hargs c
    unfold OutIdeal.RefValue.G DownIdeal.RefValue.G
    rw [e0, e1, e2, e3, e4]

/-- The precondition on the norm weights, of one of them. -/
theorem finite_gain (x0 : FVec Ideal Cert.Pre_norm_weights_finite.S768x5376 .fp8e4m3) (x1 : FVec Ideal Cert.Pre_norm_weights_finite.S768 .f32)
    (x2 : FVec Ideal Cert.Pre_norm_weights_finite.S5376x7168 .fp8e4m3) (x3 : FVec Ideal Cert.Pre_norm_weights_finite.S7168 .f32)
    (x4 : FVec Ideal Cert.Pre_norm_weights_finite.S768x7168 .bf16) (x5 : FVec Ideal Cert.Pre_norm_weights_finite.S7168 .f32)
    (h : Cert.Pre_norm_weights_finite.fn (F := Ideal) x0 x1 x2 x3 x4 x5 = fun _ => 1#1) (p : Fin 7168) :
    Cert.Layer.mag (x5 (ValueIdx.ix1 p)) ≤ FloatOps.ofBits (F := Ideal) .f32 0x7F7FFFFF#32 := by
  have : Subsingleton Cert.Pre_norm_weights_finite.S_.Idx := ⟨fun i j => funext fun k => k.elim0⟩
  have e := Host.reduce_andi_all _ _ _ _ (fun k => k.elim0) (congrFun h fun k => k.elim0) (ValueIdx.ix1 p)
  by_contra c
  have z : BitVec.ofBool (decide (Cert.Layer.mag (x5 (ValueIdx.ix1 p)) ≤ FloatOps.ofBits (F := Ideal) .f32 0x7F7FFFFF#32)) = 1#1 := e
  rw [decide_eq_false c] at z
  exact absurd z (by decide)

/-- The output projection kernel and its reference leave the same four arrays. -/
theorem algebraic_oproj : Cert.algebraic_OprojIdeal_HMidIdeal_pre_norm_weights_finite (hOprojIdeal := Cert.OprojIdeal.Gen.facts)
    (hHMidIdeal := Cert.HMidIdeal.Gen.facts) (hPre_norm_weights_finite := Cert.Pre_norm_weights_finite.Gen.facts) := by
  intro m g m' g' hpre hargs
  refine ⟨fun c => OprojIdeal.RefValue.G6 m c, fun c => OprojIdeal.RefValue.G7 m c, fun c => OprojIdeal.RefValue.G8 m c,
    fun c => OprojIdeal.RefValue.G9 m c, ?_, ?_⟩
  · refine (θ_run (Cert.OprojIdeal.defs (F := Ideal)) _ _).mono (fun r h c => ?_) (OprojIdeal.RefValue.run_blocks m g)
    obtain ⟨h6, h7, h8, h9, ha⟩ := h c
    exact ⟨h6.trans (OprojIdeal.RefValue.final6 m c), h7.trans (OprojIdeal.RefValue.final7 m c),
      h8.trans (OprojIdeal.RefValue.final8 m c), h9.trans (OprojIdeal.RefValue.final9 m c), ha⟩
  · refine (θ_run (Cert.HMidIdeal.defs (F := Ideal)) _ _).mono (fun r h c => ?_) (HMidIdeal.RefValue.run_blocks m' g')
    obtain ⟨h6, h7, h8, h9, ha⟩ := h c
    obtain ⟨e0, e1, e2, e3, e4, e5⟩ := hargs c
    have e : HMidIdeal.RefValue.S m' c = OprojIdeal.RefValue.S m c := by
      unfold HMidIdeal.RefValue.S OprojIdeal.RefValue.S
      rw [e0, e1, e2, e3, e4]
    have en : HMidIdeal.RefValue.Nm m' c = OprojIdeal.RefValue.Nm m c := by
      unfold HMidIdeal.RefValue.Nm OprojIdeal.RefValue.Nm
      rw [e, e5]
    have s := fun r : Fin 768 => Cert.Layer.scales_norm (OprojIdeal.RefValue.S m c) _ (finite_gain _ _ _ _ _ _ (hpre c)) r
    refine ⟨(h6.trans (HMidIdeal.RefValue.final6 m' c)).trans e, (h7.trans (HMidIdeal.RefValue.final7 m' c)).trans e,
      (h8.trans (HMidIdeal.RefValue.final8 m' c)).trans ?_, (h9.trans (HMidIdeal.RefValue.final9 m' c)).trans ?_, ha⟩
    · funext i
      unfold HMidIdeal.RefValue.G8 HMidIdeal.RefValue.E
      rw [en]
      exact congrArg (fun z => Cert.Layer.clip (OprojIdeal.RefValue.Nm m c i * z)) (s (i 0)).2.symm
    · funext i
      unfold HMidIdeal.RefValue.G9 HMidIdeal.RefValue.E
      rw [en]
      exact (s (i 0)).1.symm

theorem claim : Cert.Claim :=
  ⟨Cert.Oproj.Gen.facts, Cert.OprojIdeal.Gen.facts, Cert.HMidIdeal.Gen.facts,
    Cert.GateUp.Gen.facts, Cert.GateUpIdeal.Gen.facts, Cert.MlpActIdeal.Gen.facts, Cert.ActQ.Gen.facts, Cert.ActQIdeal.Gen.facts,
    Cert.ActCodesIdeal.Gen.facts, Cert.Down.Gen.facts, Cert.DownIdeal.Gen.facts, Cert.OutIdeal.Gen.facts,
    Cert.Pre_norm_weights_finite.Gen.facts, Cert.Pre_maxima_finite.Gen.facts,
    fun m ρ _ => Cert.Oproj.Gen.frame m ρ, fun m ρ _ => Cert.OprojIdeal.Gen.frame m ρ, fun m ρ _ => Cert.OprojIdeal.Gen.frame m ρ,
    fun m ρ _ => Cert.HMidIdeal.Gen.frame m ρ, fun m ρ _ => Cert.HMidIdeal.Gen.frame m ρ,
    fun m ρ _ => Cert.GateUp.Gen.frame m ρ, fun m ρ _ => Cert.GateUpIdeal.Gen.frame m ρ, fun m ρ _ => Cert.MlpActIdeal.Gen.frame m ρ,
    fun m ρ _ => Cert.ActQ.Gen.frame m ρ, fun m ρ _ => Cert.ActQIdeal.Gen.frame m ρ, fun m ρ _ => Cert.ActQIdeal.Gen.frame m ρ,
    fun m ρ _ => Cert.ActCodesIdeal.Gen.frame m ρ, fun m ρ _ => Cert.ActCodesIdeal.Gen.frame m ρ,
    fun m ρ _ => Cert.Down.Gen.frame m ρ, fun m ρ _ => Cert.DownIdeal.Gen.frame m ρ, fun m ρ _ => Cert.OutIdeal.Gen.frame m ρ,
    trivial, algebraic_oproj, trivial, algebraic_gateup, trivial, algebraic_actq, trivial, algebraic_down⟩

end Cert.Proof

end
